-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v92_0)) (v1 : (c : Dev Cert.KernelIdeal.nD) → Buf (Elt Ideal) ((c.tc : Thread Cert.KernelIdeal.nD Cert.KernelIdeal.τ).loc Cert.KernelIdeal.main_v92_1)) (v2 : (c : Dev Cert.KernelIdeal.nD) → Buf (Elt Ideal) ((c.tc : Thread Cert.KernelIdeal.nD Cert.KernelIdeal.τ).loc Cert.KernelIdeal.main_v92_2)) (v3 : (c : Dev Cert.KernelIdeal.nD) → Buf (Elt Ideal) ((c.tc : Thread Cert.KernelIdeal.nD Cert.KernelIdeal.τ).loc Cert.KernelIdeal.main_v92_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92_0) = v0 c
          ∧ r.2.mem ((c.tc : Thread Cert.KernelIdeal.nD Cert.KernelIdeal.τ).loc Cert.KernelIdeal.main_v92_1) = v1 c
          ∧ r.2.mem ((c.tc : Thread Cert.KernelIdeal.nD Cert.KernelIdeal.τ).loc Cert.KernelIdeal.main_v92_2) = v2 c
          ∧ r.2.mem ((c.tc : Thread Cert.KernelIdeal.nD Cert.KernelIdeal.τ).loc Cert.KernelIdeal.main_v92_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_v106) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_v6) = v1 c
          ∧ r.2.mem ((c.tc : Thread Cert.Reference5Ideal.nD Cert.Reference5Ideal.τ).loc Cert.Reference5Ideal.main_v9) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S2x2048x1024 : Shape := ⟨3, ![2, 2048, 1024]⟩
abbrev S2x2048x16 : Shape := ⟨3, ![2, 2048, 16]⟩
abbrev S_ : Shape := ⟨0, ![]⟩

class Facts : Prop where
  bcast_S_S2x2048x1024 : S_.BroadcastsInDim S2x2048x1024 (![] : Fin 0 → Fin S2x2048x1024.rank)
  bcast_S_S2x2048x16 : S_.BroadcastsInDim S2x2048x16 (![] : Fin 0 → Fin S2x2048x16.rank)

variable [Facts]

def fn {F : FTy → Type} [FloatOps F] (main_arg0 : FVec F S2x2048x1024 .bf16) (main_arg1 : FVec F S2x2048x1024 .bf16) (main_arg2 : FVec F S2x2048x1024 .bf16) (main_arg3 : FVec F S2x2048x16 .f32) (main_arg4 : FVec F S2x2048x1024 .bf16) : IVec S2x2048x1024 1 × IVec S2x2048x1024 1 × IVec S2x2048x1024 1 × IVec S2x2048x16 1 × IVec S2x2048x1024 1 :=
  let main_v0 : FVec F S2x2048x1024 .bf16 := Host.absf main_arg0
  let main_cst : FVec F S_ .bf16 := constant S_ .bf16 0x7F80#16
  let main_v1 : FVec F S2x2048x1024 .bf16 := broadcastInDim S2x2048x1024 ![] bcast_S_S2x2048x1024 main_cst
  let main_v2 : IVec S2x2048x1024 1 := cmpf .olt main_v0 main_v1
  let main_v3 : FVec F S2x2048x1024 .bf16 := Host.absf main_arg1
  let main_cst_0 : FVec F S_ .bf16 := constant S_ .bf16 0x7F80#16
  let main_v4 : FVec F S2x2048x1024 .bf16 := broadcastInDim S2x2048x1024 ![] bcast_S_S2x2048x1024 main_cst_0
  let main_v5 : IVec S2x2048x1024 1 := cmpf .olt main_v3 main_v4
  let main_v6 : FVec F S2x2048x1024 .bf16 := Host.absf main_arg2
  let main_cst_1 : FVec F S_ .bf16 := constant S_ .bf16 0x7F80#16
  let main_v7 : FVec F S2x2048x1024 .bf16 := broadcastInDim S2x2048x1024 ![] bcast_S_S2x2048x1024 main_cst_1
  let main_v8 : IVec S2x2048x1024 1 := cmpf .olt main_v6 main_v7
  let main_v9 : FVec F S2x2048x16 .f32 := Host.absf main_arg3
  let main_cst_2 : FVec F S_ .f32 := constant S_ .f32 0x7F800000#32
  let main_v10 : FVec F S2x2048x16 .f32 := broadcastInDim S2x2048x16 ![] bcast_S_S2x2048x16 main_cst_2
  let main_v11 : IVec S2x2048x16 1 := cmpf .olt main_v9 main_v10
  let main_v12 : FVec F S2x2048x1024 .bf16 := Host.absf main_arg4
  let main_cst_3 : FVec F S_ .bf16 := constant S_ .bf16 0x7F80#16
  let main_v13 : FVec F S2x2048x1024 .bf16 := broadcastInDim S2x2048x1024 ![] bcast_S_S2x2048x1024 main_cst_3
  let main_v14 : IVec S2x2048x1024 1 := cmpf .olt main_v12 main_v13
  (main_v2, main_v5, main_v8, main_v11, main_v14)
-- ==== Pre_finite4.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .bf16) (main_arg1 : FVec F S4096x1024 .bf16) (main_arg2 : FVec F S1024x2816 .bf16) (main_arg3 : FVec F S1024x2816 .bf16) (main_arg4 : FVec F S2816x1024 .bf16) : IVec S4096x1024 1 × IVec S4096x1024 1 × IVec S1024x2816 1 × IVec S1024x2816 1 × IVec S2816x1024 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S4096x1024 .bf16 := Host.absf main_arg1
  let main_cst_0 : FVec F S_ .bf16 := constant S_ .bf16 0x7F80#16
  let main_v4 : FVec F S4096x1024 .bf16 := broadcastInDim S4096x1024 ![] bcast_S_S4096x1024 main_cst_0
  let main_v5 : IVec S4096x1024 1 := cmpf .olt main_v3 main_v4
  let main_v6 : FVec F S1024x2816 .bf16 := Host.absf main_arg2
  let main_cst_1 : FVec F S_ .bf16 := constant S_ .bf16 0x7F80#16
  let main_v7 : FVec F S1024x2816 .bf16 := broadcastInDim S1024x2816 ![] bcast_S_S1024x2816 main_cst_1
  let main_v8 : IVec S1024x2816 1 := cmpf .olt main_v6 main_v7
  let main_v9 : FVec F S1024x2816 .bf16 := Host.absf main_arg3
  let main_cst_2 : FVec F S_ .bf16 := constant S_ .bf16 0x7F80#16
  let main_v10 : FVec F S1024x2816 .bf16 := broadcastInDim S1024x2816 ![] bcast_S_S1024x2816 main_cst_2
  let main_v11 : IVec S1024x2816 1 := cmpf .olt main_v9 main_v10
  let main_v12 : FVec F S2816x1024 .bf16 := Host.absf main_arg4
  let main_cst_3 : FVec F S_ .bf16 := constant S_ .bf16 0x7F80#16
  let main_v13 : FVec F S2816x1024 .bf16 := broadcastInDim S2816x1024 ![] bcast_S_S2816x1024 main_cst_3
  let main_v14 : IVec S2816x1024 1 := cmpf .olt main_v12 main_v13
  (main_v2, main_v5, main_v8, main_v11, main_v14)
-- ==== Kernel.lean ====
abbrev S2x2048x1024 : Shape := ⟨3, ![2, 2048, 1024]⟩
abbrev S2x2048x16 : Shape := ⟨3, ![2, 2048, 16]⟩
abbrev S2x2048x16x64 : Shape := ⟨4, ![2, 2048, 16, 64]⟩
abbrev S2x16x2048x64 : Shape := ⟨4, ![2, 16, 2048, 64]⟩
abbrev S2x16x2048 : Shape := ⟨3, ![2, 16, 2048]⟩
abbrev S2x16x2048x2048 : Shape := ⟨4, ![2, 16, 2048, 2048]⟩
abbrev S_ : Shape := ⟨0, ![]⟩
abbrev S2x16x2048x1 : Shape := ⟨4, ![2, 16, 2048, 1]⟩
abbrev S2x16x1x2048 : Shape := ⟨4, ![2, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x2x2048 : Shape := ⟨3, ![16, 2, 2048]⟩
abbrev S16x4096 : Shape := ⟨2, ![16, 4096]⟩
abbrev S4096x8x128 : Shape := ⟨3, ![4096, 8, 128]⟩
abbrev S8x4096x128 : Shape := ⟨3, ![8, 4096, 128]⟩
abbrev S24x4096x128 : Shape := ⟨3, ![24, 4096, 128]⟩
abbrev S4096x16 : Shape := ⟨2, ![4096, 16]⟩
abbrev S16x4096x1 : Shape := ⟨3, ![16, 4096, 1]⟩
abbrev S16x4096x128 : Shape := ⟨3, ![16, 4096, 128]⟩
abbrev S2x2x1024x8x2 : Shape := ⟨5, ![2, 2, 1024, 8, 2]⟩
abbrev S2x8x2x2x1024 : Shape := ⟨5, ![2, 8, 2, 2, 1024]⟩
abbrev S16x2x2x1024 : Shape := ⟨4, ![16, 2, 2, 1024]⟩
abbrev S16x2x8x1024 : Shape := ⟨4, ![16, 2, 8, 1024]⟩
abbrev S1x2048x128 : Shape := ⟨3, ![1, 2048, 128]⟩
abbrev S1x1024x128 : Shape := ⟨3, ![1, 1024, 128]⟩
abbrev S2x2048x128 : Shape := ⟨3, ![2, 2048, 128]⟩
abbrev S1x1x8x1024 : Shape := ⟨4, ![1, 1, 8, 1024]⟩
abbrev S2x128x1024 : Shape := ⟨3, ![2, 128, 1024]⟩
abbrev S1024x1024 : Shape := ⟨2, ![1024, 1024]⟩
abbrev S1024x128 : Shape := ⟨2, ![1024, 128]⟩
abbrev S1024x64 : Shape := ⟨2, ![1024, 64]⟩
abbrev S1024 : Shape := ⟨1, ![1024]⟩
abbrev S1024x1 : Shape := ⟨2, ![1024, 1]⟩
abbrev S128x1024 : Shape := ⟨2, ![128, 1024]⟩
abbrev S1x128x1024 : Shape := ⟨3, ![1, 128, 1024]⟩
abbrev S1x1024x64 : Shape := ⟨3, ![1, 1024, 64]⟩
abbrev S1x1x1x1024 : Shape := ⟨4, ![1, 1, 1, 1024]⟩
abbrev S1x1024 : Shape := ⟨2, ![1, 1024]⟩
abbrev S64x1024 : Shape := ⟨2, ![64, 1024]⟩
abbrev S1x64x1024 : Shape := ⟨3, ![1, 64, 1024]⟩

abbrev nBuf : Space → Nat
  | .hbm => 118
  | .vmem => 27
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x1024, .bf16⟩
  | .hbm, ⟨2, _⟩ => ⟨S2x2048x1024, .bf16⟩
  | .hbm, ⟨3, _⟩ => ⟨S2x2048x16, .f32⟩
  | .hbm, ⟨4, _⟩ => ⟨S2x2048x1024, .bf16⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x16x64, .f32⟩
  | .hbm, ⟨9, _⟩ => ⟨S2x16x2048x64, .f32⟩
  | .hbm, ⟨10, _⟩ => ⟨S2x16x2048, .f32⟩
  | .hbm, ⟨11, _⟩ => ⟨S2x2048x16x64, .f32⟩
  | .hbm, ⟨12, _⟩ => ⟨S2x16x2048x64, .f32⟩
  | .hbm, ⟨13, _⟩ => ⟨S2x2048x16x64, .f32⟩
  | .hbm, ⟨14, _⟩ => ⟨S2x16x2048x64, .f32⟩
  | .hbm, ⟨15, _⟩ => ⟨S2x16x2048x2048, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S2x16x2048x1, .f32⟩
  | .hbm, ⟨20, _⟩ => ⟨S2x16x2048x2048, .f32⟩
  | .hbm, ⟨21, _⟩ => ⟨S2x16x2048x2048, .f32⟩
  | .hbm, ⟨22, _⟩ => ⟨S2x16x1x2048, .f32⟩
  | .hbm, ⟨23, _⟩ => ⟨S2x16x2048x2048, .f32⟩
  | .hbm, ⟨24, _⟩ => ⟨S2x16x2048x2048, .f32⟩
  | .hbm, ⟨25, _⟩ => ⟨S2048, .i32⟩
  | .hbm, ⟨26, _⟩ => ⟨S2048x1, .i32⟩
  | .hbm, ⟨27, _⟩ => ⟨S1x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S2x16x2048x2048, .i1⟩
  | .hbm, ⟨34, _⟩ => ⟨S2x16x2048x2048, .f32⟩
  | .hbm, ⟨35, _⟩ => ⟨S2x16x2048x2048, .f32⟩
  | .hbm, ⟨36, _⟩ => ⟨S_, .f32⟩
  | .hbm, ⟨37, _⟩ => ⟨S2x16x2048, .f32⟩
  | .hbm, ⟨38, _⟩ => ⟨S_, .f32⟩
  | .hbm, ⟨39, _⟩ => ⟨S2x16x2048, .f32⟩
  | .hbm, ⟨40, _⟩ => ⟨S2x16x2048, .f32⟩
  | .hbm, ⟨41, _⟩ => ⟨S2x16x2048x1, .f32⟩
  | .hbm, ⟨42, _⟩ => ⟨S2x16x2048x2048, .f32⟩
  | .hbm, ⟨43, _⟩ => ⟨S2x16x2048x2048, .f32⟩
  | .hbm, ⟨44, _⟩ => ⟨S2x16x2048x2048, .f32⟩
  | .hbm, ⟨45, _⟩ => ⟨S_, .f32⟩
  | .hbm, ⟨46, _⟩ => ⟨S2x16x2048, .f32⟩
  | .hbm, ⟨47, _⟩ => ⟨S2x16x2048x1, .f32⟩
  | .hbm, ⟨48, _⟩ => ⟨S2x16x2048x2048, .f32⟩
  | .hbm, ⟨49, _⟩ => ⟨S2x16x2048x2048, .f32⟩
  | .hbm, ⟨50, _⟩ => ⟨S2x16x2048x64, .f32⟩
  | .hbm, ⟨51, _⟩ => ⟨S2x2048x16x64, .f32⟩
  | .hbm, ⟨52, _⟩ => ⟨S2x2048x1024, .f32⟩
  | .hbm, ⟨53, _⟩ => ⟨S2x16x2048, .f32⟩
  | .hbm, ⟨54, _⟩ => ⟨S2x2048x16x64, .f32⟩
  | .hbm, ⟨55, _⟩ => ⟨S2x16x2048x64, .f32⟩
  | .hbm, ⟨56, _⟩ => ⟨S2x2048x16x64, .f32⟩
  | .hbm, ⟨57, _⟩ => ⟨S2x16x2048x64, .f32⟩
  | .hbm, ⟨58, _⟩ => ⟨S2x16x2048x2048, .f32⟩
  | .hbm, ⟨59, _⟩ => ⟨S_, .f32⟩
  | .hbm, ⟨60, _⟩ => ⟨S2x16x2048x2048, .f32⟩
  | .hbm, ⟨61, _⟩ => ⟨S2x16x2048x2048, .f32⟩
  | .hbm, ⟨62, _⟩ => ⟨S2x16x2048x1, .f32⟩
  | .hbm, ⟨63, _⟩ => ⟨S2x16x2048x2048, .f32⟩
  | .hbm, ⟨64, _⟩ => ⟨S2x16x2048x2048, .f32⟩
  | .hbm, ⟨65, _⟩ => ⟨S2x16x1x2048, .f32⟩
  | .hbm, ⟨66, _⟩ => ⟨S2x16x2048x2048, .f32⟩
  | .hbm, ⟨67, _⟩ => ⟨S2x16x2048x2048, .f32⟩
  | .hbm, ⟨68, _⟩ => ⟨S2048, .i32⟩
  | .hbm, ⟨69, _⟩ => ⟨S2048x1, .i32⟩
  | .hbm, ⟨70, _⟩ => ⟨S1x2048, .i32⟩
  | .hbm, ⟨71, _⟩ => ⟨S2048x2048, .i32⟩
  | .hbm, ⟨72, _⟩ => ⟨S2048x2048, .i32⟩
  | .hbm, ⟨73, _⟩ => ⟨S2048x2048, .i1⟩
  | .hbm, ⟨74, _⟩ => ⟨S_, .f32⟩
  | .hbm, ⟨75, _⟩ => ⟨S_, .f32⟩
  | .hbm, ⟨76, _⟩ => ⟨S2x16x2048x2048, .i1⟩
  | .hbm, ⟨77, _⟩ => ⟨S2x16x2048x2048, .f32⟩
  | .hbm, ⟨78, _⟩ => ⟨S2x16x2048x2048, .f32⟩
  | .hbm, ⟨79, _⟩ => ⟨S_, .f32⟩
  | .hbm, ⟨80, _⟩ => ⟨S2x16x2048, .f32⟩
  | .hbm, ⟨81, _⟩ => ⟨S2x16x2048x1, .f32⟩
  | .hbm, ⟨82, _⟩ => ⟨S2x16x2048x2048, .f32⟩
  | .hbm, ⟨83, _⟩ => ⟨S2x16x2048x2048, .f32⟩
  | .hbm, ⟨84, _⟩ => ⟨S2x16x2048x2048, .f32⟩
  | .hbm, ⟨85, _⟩ => ⟨S_, .f32⟩
  | .hbm, ⟨86, _⟩ => ⟨S2x16x2048, .f32⟩
  | .hbm, ⟨87, _⟩ => ⟨S2x16x2048, .f32⟩
  | .hbm, ⟨88, _⟩ => ⟨S2x16x2048, .f32⟩
  | .hbm, ⟨89, _⟩ => ⟨S16x2x2048, .f32⟩
  | .hbm, ⟨90, _⟩ => ⟨S16x4096, .f32⟩
  | .hbm, ⟨91, _⟩ => ⟨S4096x8x128, .bf16⟩
  | .hbm, ⟨92, _⟩ => ⟨S8x4096x128, .bf16⟩
  | .hbm, ⟨93, _⟩ => ⟨S4096x8x128, .bf16⟩
  | .hbm, ⟨94, _⟩ => ⟨S8x4096x128, .bf16⟩
  | .hbm, ⟨95, _⟩ => ⟨S4096x8x128, .bf16⟩
  | .hbm, ⟨96, _⟩ => ⟨S8x4096x128, .bf16⟩
  | .hbm, ⟨97, _⟩ => ⟨S24x4096x128, .bf16⟩
  | .hbm, ⟨98, _⟩ => ⟨S4096x16, .f32⟩
  | .hbm, ⟨99, _⟩ => ⟨S16x4096, .f32⟩
  | .hbm, ⟨100, _⟩ => ⟨S16x4096x1, .f32⟩
  | .hbm, ⟨101, _⟩ => ⟨S16x4096x128, .f32⟩
  | .hbm, ⟨102, _⟩ => ⟨S2x2x1024x8x2, .f32⟩
  | .hbm, ⟨103, _⟩ => ⟨S2x8x2x2x1024, .f32⟩
  | .hbm, ⟨104, _⟩ => ⟨S16x2x2x1024, .f32⟩
  | .hbm, ⟨105, _⟩ => ⟨S_, .i32⟩
  | .hbm, ⟨106, _⟩ => ⟨S_, .f32⟩
  | .hbm, ⟨107, _⟩ => ⟨S16x2x8x1024, .f32⟩
  | .hbm, ⟨108, _⟩ => ⟨S4096x8x128, .f32⟩
  | .hbm, ⟨109, _⟩ => ⟨S8x4096x128, .f32⟩
  | .hbm, ⟨110, _⟩ => ⟨S4096x8x128, .bf16⟩
  | .hbm, ⟨111, _⟩ => ⟨S8x4096x128, .bf16⟩
  | .hbm, ⟨112, _⟩ => ⟨S16x4096x1, .f32⟩
  | .hbm, ⟨113, _⟩ => ⟨S16x4096x128, .f32⟩
  | .hbm, ⟨114, _⟩ => ⟨S8x4096x128, .f32⟩
  | .hbm, ⟨115, _⟩ => ⟨S8x4096x128, .bf16⟩
  | .hbm, ⟨116, _⟩ => ⟨S8x4096x128, .bf16⟩
  | .hbm, ⟨117, _⟩ => ⟨S16x2x8x1024, .f32⟩
  | .local _ .vmem, ⟨0, _⟩ => ⟨S1x2048x128, .bf16⟩
  | .local _ .vmem, ⟨1, _⟩ => ⟨S1x2048x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S2x2048x128, .f32⟩
  | .local _ .vmem, ⟨7, _⟩ => ⟨S2x2048x128, .f32⟩
  | .local _ .vmem, ⟨8, _⟩ => ⟨S1x1x8x1024, .f32⟩
  | .local _ .vmem, ⟨9, _⟩ => ⟨S1x1x8x1024, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .bf16⟩
  | .local _ .vmem, ⟨13, _⟩ => ⟨S1x2048x128, .bf16⟩
  | .local _ .vmem, ⟨14, _⟩ => ⟨S2x2048x128, .f32⟩
  | .local _ .vmem, ⟨15, _⟩ => ⟨S2x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S1x1024x128, .bf16⟩
  | .local _ .vmem, ⟨19, _⟩ => ⟨S1x1024x128, .bf16⟩
  | .local _ .vmem, ⟨20, _⟩ => ⟨S1x1024x128, .bf16⟩
  | .local _ .vmem, ⟨21, _⟩ => ⟨S1x1024x128, .bf16⟩
  | .local _ .vmem, ⟨22, _⟩ => ⟨S1x1x8x1024, .f32⟩
  | .local _ .vmem, ⟨23, _⟩ => ⟨S1x1x8x1024, .f32⟩
  | .local _ .vmem, ⟨24, _⟩ => ⟨S2x2048x128, .f32⟩
  | .local _ .vmem, ⟨25, _⟩ => ⟨S2x128x1024, .bf16⟩
  | .local _ .vmem, ⟨26, _⟩ => ⟨S2x128x1024, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v60 : Ref sig .tc := ⟨.hbm, 78, rfl⟩
abbrev main_cst_6 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_7 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_c : Ref sig .tc := ⟨.hbm, 105, rfl⟩
abbrev main_call2_v0 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92_0 : Ref sig .tc := ⟨.hbm, 114, rfl⟩
abbrev main_v92_1 : Ref sig .tc := ⟨.hbm, 115, rfl⟩
abbrev main_v92_2 : Ref sig .tc := ⟨.hbm, 116, rfl⟩
abbrev main_v92_3 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![2, 8, 2], ![false, false, false]⟩

def k0_mult1 (i : grid0.Coords) : BitVec 32 :=
  let arg2 : BitVec 32 := BitVec.ofNat 32 (i 2).val
  let c1024_i32 : BitVec 32 := 1024#32
  let v22 : BitVec 32 := Scalar.muli arg2 c1024_i32
  v22
def k0_off1 (i : grid0.Coords) : Fin 3 → Nat :=
  let c0_26 : Index := 0#32
  let arg2 : BitVec 32 := BitVec.ofNat 32 (i 2).val
  let c1024_i32 : BitVec 32 := 1024#32
  let v22 : BitVec 32 := Scalar.muli arg2 c1024_i32
  let v23 : BitVec 32 := v22
  let v24 : Index := Scalar.indexCast v23
  let c0_27 : Index := 0#32
  ![0, v24.toNat, 0]
def k0_off2 (i : grid0.Coords) : Fin 3 → Nat :=
  let c0_32 : Index := 0#32
  let arg2 : BitVec 32 := BitVec.ofNat 32 (i 2).val
  let c1024_i32 : BitVec 32 := 1024#32
  let v22 : BitVec 32 := Scalar.muli arg2 c1024_i32
  let v23 : BitVec 32 := v22
  let v33 : Index := Scalar.indexCast v23
  let c0_33 : Index := 0#32
  ![0, v33.toNat, 0]
def k0_off3 (i : grid0.Coords) : Fin 3 → Nat :=
  let arg2 : BitVec 32 := BitVec.ofNat 32 (i 2).val
  let v57 : Index := Scalar.indexCast arg2
  let c0_40 : Index := 0#32
  let c0_41 : Index := 0#32
  ![v57.toNat, 0, 0]
def k0_off4 (i : grid0.Coords) : Fin 3 → Nat :=
  let c0_53 : Index := 0#32
  let arg2 : BitVec 32 := BitVec.ofNat 32 (i 2).val
  let c1024_i32 : BitVec 32 := 1024#32
  let v22 : BitVec 32 := Scalar.muli arg2 c1024_i32
  let v23 : BitVec 32 := v22
  let v82 : Index := Scalar.indexCast v23
  let c64_54 : Index := 64#32
  ![0, v82.toNat, 64]
def k0_off5 (i : grid0.Coords) : Fin 3 → Nat :=
  let c1_59 : Index := 1#32
  let arg2 : BitVec 32 := BitVec.ofNat 32 (i 2).val
  let c1024_i32 : BitVec 32 := 1024#32
  let v22 : BitVec 32 := Scalar.muli arg2 c1024_i32
  let v23 : BitVec 32 := v22
  let v91 : Index := Scalar.indexCast v23
  let c0_60 : Index := 0#32
  ![1, v91.toNat, 0]
def k0_off6 (i : grid0.Coords) : Fin 3 → Nat :=
  let arg2 : BitVec 32 := BitVec.ofNat 32 (i 2).val
  let v115 : Index := Scalar.indexCast arg2
  let c64_67 : Index := 64#32
  let c0_68 : Index := 0#32
  ![v115.toNat, 64, 0]
@[reducible] def k0_t1_loop (i : grid0.Coords) : Scf.Loop 32 :=
  let arg2 : BitVec 32 := BitVec.ofNat 32 (i 2).val
  let c1_i32 : BitVec 32 := 1#32
  let v140 : BitVec 32 := Scalar.addi arg2 c1_i32
  let c2_i32 : BitVec 32 := 2#32
  let v141 : BitVec 32 := Scalar.subi c2_i32 v140
  let c1_i32_81 : BitVec 32 := 1#32
  let v143 : BitVec 32 := Scalar.divsi v141 c1_i32_81
  let v144 : BitVec 32 := Scalar.muli v143 c1_i32_81
  let v145 : BitVec 32 := Scalar.addi v140 v144
  let c1_i32_82 : BitVec 32 := 1#32
  ⟨v140, v145, c1_i32_82⟩
def k0_mult2 (i : grid0.Coords) (k0_t1 : Fin (k0_t1_loop i).trips) : BitVec 32 :=
  let arg2 : BitVec 32 := BitVec.ofNat 32 (i 2).val
  let c1_i32 : BitVec 32 := 1#32
  let v140 : BitVec 32 := Scalar.addi arg2 c1_i32
  let c1_i32_82 : BitVec 32 := 1#32
  let arg18 : BitVec 32 := Scf.iv v140 c1_i32_82 k0_t1
  let c1024_i32_98 : BitVec 32 := 1024#32
  let v166 : BitVec 32 := Scalar.muli arg18 c1024_i32_98
  v166
def k0_off7 (i : grid0.Coords) (k0_t1 : Fin (k0_t1_loop i).trips) : Fin 3 → Nat :=
  let c0_99 : Index := 0#32
  let arg2 : BitVec 32 := BitVec.ofNat 32 (i 2).val
  let c1_i32 : BitVec 32 := 1#32
  let v140 : BitVec 32 := Scalar.addi arg2 c1_i32
  let c1_i32_82 : BitVec 32 := 1#32
  let arg18 : BitVec 32 := Scf.iv v140 c1_i32_82 k0_t1
  let c1024_i32_98 : BitVec 32 := 1024#32
  let v166 : BitVec 32 := Scalar.muli arg18 c1024_i32_98
  let v167 : BitVec 32 := v166
  let v168 : Index := Scalar.indexCast v167
  let c0_100 : Index := 0#32
  ![0, v168.toNat, 0]
def k0_off8 (i : grid0.Coords) (k0_t1 : Fin (k0_t1_loop i).trips) : Fin 3 → Nat :=
  let c0_104 : Index := 0#32
  let arg2 : BitVec 32 := BitVec.ofNat 32 (i 2).val
  let c1_i32 : BitVec 32 := 1#32
  let v140 : BitVec 32 := Scalar.addi arg2 c1_i32
  let c1_i32_82 : BitVec 32 := 1#32
  let arg18 : BitVec 32 := Scf.iv v140 c1_i32_82 k0_t1
  let c1024_i32_98 : BitVec 32 := 1024#32
  let v166 : BitVec 32 := Scalar.muli arg18 c1024_i32_98
  let v167 : BitVec 32 := v166
  let v177 : Index := Scalar.indexCast v167
  let c0_105 : Index := 0#32
  ![0, v177.toNat, 0]
def k0_off9 (i : grid0.Coords) (k0_t1 : Fin (k0_t1_loop i).trips) : Fin 3 → Nat :=
  let arg2 : BitVec 32 := BitVec.ofNat 32 (i 2).val
  let c1_i32 : BitVec 32 := 1#32
  let v140 : BitVec 32 := Scalar.addi arg2 c1_i32
  let c1_i32_82 : BitVec 32 := 1#32
  let arg18 : BitVec 32 := Scf.iv v140 c1_i32_82 k0_t1
  let v198 : Index := Scalar.indexCast arg18
  let c0_111 : Index := 0#32
  let c0_112 : Index := 0#32
  ![v198.toNat, 0, 0]
def k0_off10 (i : grid0.Coords) (k0_t1 : Fin (k0_t1_loop i).trips) : Fin 3 → Nat :=
  let c0_124 : Index := 0#32
  let arg2 : BitVec 32 := BitVec.ofNat 32 (i 2).val
  let c1_i32 : BitVec 32 := 1#32
  let v140 : BitVec 32 := Scalar.addi arg2 c1_i32
  let c1_i32_82 : BitVec 32 := 1#32
  let arg18 : BitVec 32 := Scf.iv v140 c1_i32_82 k0_t1
  let c1024_i32_98 : BitVec 32 := 1024#32
  let v166 : BitVec 32 := Scalar.muli arg18 c1024_i32_98
  let v167 : BitVec 32 := v166
  let v223 : Index := Scalar.indexCast v167
  let c64_125 : Index := 64#32
  ![0, v223.toNat, 64]
def k0_off11 (i : grid0.Coords) (k0_t1 : Fin (k0_t1_loop i).trips) : Fin 3 → Nat :=
  let c1_129 : Index := 1#32
  let arg2 : BitVec 32 := BitVec.ofNat 32 (i 2).val
  let c1_i32 : BitVec 32 := 1#32
  let v140 : BitVec 32 := Scalar.addi arg2 c1_i32
  let c1_i32_82 : BitVec 32 := 1#32
  let arg18 : BitVec 32 := Scf.iv v140 c1_i32_82 k0_t1
  let c1024_i32_98 : BitVec 32 := 1024#32
  let v166 : BitVec 32 := Scalar.muli arg18 c1024_i32_98
  let v167 : BitVec 32 := v166
  let v232 : Index := Scalar.indexCast v167
  let c0_130 : Index := 0#32
  ![1, v232.toNat, 0]
def k0_off12 (i : grid0.Coords) (k0_t1 : Fin (k0_t1_loop i).trips) : Fin 3 → Nat :=
  let arg2 : BitVec 32 := BitVec.ofNat 32 (i 2).val
  let c1_i32 : BitVec 32 := 1#32
  let v140 : BitVec 32 := Scalar.addi arg2 c1_i32
  let c1_i32_82 : BitVec 32 := 1#32
  let arg18 : BitVec 32 := Scf.iv v140 c1_i32_82 k0_t1
  let v253 : Index := Scalar.indexCast arg18
  let c64_136 : Index := 64#32
  let c0_137 : Index := 0#32
  ![v253.toNat, 64, 0]
@[reducible] def k0_t2_loop (i : grid0.Coords) : Scf.Loop 32 :=
  let arg2 : BitVec 32 := BitVec.ofNat 32 (i 2).val
  let c1_i32 : BitVec 32 := 1#32
  let v140 : BitVec 32 := Scalar.addi arg2 c1_i32
  let c2_i32 : BitVec 32 := 2#32
  let v141 : BitVec 32 := Scalar.subi c2_i32 v140
  let c1_i32_81 : BitVec 32 := 1#32
  let v143 : BitVec 32 := Scalar.divsi v141 c1_i32_81
  let v144 : BitVec 32 := Scalar.muli v143 c1_i32_81
  let v145 : BitVec 32 := Scalar.addi v140 v144
  let v142 : BitVec 32 := Scalar.addi v140 v141
  let c1_i32_83 : BitVec 32 := 1#32
  ⟨v145, v142, c1_i32_83⟩
def k0_mult3 (i : grid0.Coords) (k0_t2 : Fin (k0_t2_loop i).trips) : BitVec 32 :=
  let arg2 : BitVec 32 := BitVec.ofNat 32 (i 2).val
  let c1_i32 : BitVec 32 := 1#32
  let v140 : BitVec 32 := Scalar.addi arg2 c1_i32
  let c2_i32 : BitVec 32 := 2#32
  let v141 : BitVec 32 := Scalar.subi c2_i32 v140
  let c1_i32_81 : BitVec 32 := 1#32
  let v143 : BitVec 32 := Scalar.divsi v141 c1_i32_81
  let v144 : BitVec 32 := Scalar.muli v143 c1_i32_81
  let v145 : BitVec 32 := Scalar.addi v140 v144
  let c1_i32_83 : BitVec 32 := 1#32
  let arg18 : BitVec 32 := Scf.iv v145 c1_i32_83 k0_t2
  let c1024_i32_98 : BitVec 32 := 1024#32
  let v166 : BitVec 32 := Scalar.muli arg18 c1024_i32_98
  v166
def k0_off13 (i : grid0.Coords) (k0_t2 : Fin (k0_t2_loop i).trips) : Fin 3 → Nat :=
  let c0_99 : Index := 0#32
  let arg2 : BitVec 32 := BitVec.ofNat 32 (i 2).val
  let c1_i32 : BitVec 32 := 1#32
  let v140 : BitVec 32 := Scalar.addi arg2 c1_i32
  let c2_i32 : BitVec 32 := 2#32
  let v141 : BitVec 32 := Scalar.subi c2_i32 v140
  let c1_i32_81 : BitVec 32 := 1#32
  let v143 : BitVec 32 := Scalar.divsi v141 c1_i32_81
  let v144 : BitVec 32 := Scalar.muli v143 c1_i32_81
  let v145 : BitVec 32 := Scalar.addi v140 v144
  let c1_i32_83 : BitVec 32 := 1#32
  let arg18 : BitVec 32 := Scf.iv v145 c1_i32_83 k0_t2
  let c1024_i32_98 : BitVec 32 := 1024#32
  let v166 : BitVec 32 := Scalar.muli arg18 c1024_i32_98
  let v167 : BitVec 32 := v166
  let v168 : Index := Scalar.indexCast v167
  let c0_100 : Index := 0#32
  ![0, v168.toNat, 0]
def k0_off14 (i : grid0.Coords) (k0_t2 : Fin (k0_t2_loop i).trips) : Fin 3 → Nat :=
  let c0_104 : Index := 0#32
  let arg2 : BitVec 32 := BitVec.ofNat 32 (i 2).val
  let c1_i32 : BitVec 32 := 1#32
  let v140 : BitVec 32 := Scalar.addi arg2 c1_i32
  let c2_i32 : BitVec 32 := 2#32
  let v141 : BitVec 32 := Scalar.subi c2_i32 v140
  let c1_i32_81 : BitVec 32 := 1#32
  let v143 : BitVec 32 := Scalar.divsi v141 c1_i32_81
  let v144 : BitVec 32 := Scalar.muli v143 c1_i32_81
  let v145 : BitVec 32 := Scalar.addi v140 v144
  let c1_i32_83 : BitVec 32 := 1#32
  let arg18 : BitVec 32 := Scf.iv v145 c1_i32_83 k0_t2
  let c1024_i32_98 : BitVec 32 := 1024#32
  let v166 : BitVec 32 := Scalar.muli arg18 c1024_i32_98
  let v167 : BitVec 32 := v166
  let v177 : Index := Scalar.indexCast v167
  let c0_105 : Index := 0#32
  ![0, v177.toNat, 0]
def k0_off15 (i : grid0.Coords) (k0_t2 : Fin (k0_t2_loop i).trips) : Fin 3 → Nat :=
  let arg2 : BitVec 32 := BitVec.ofNat 32 (i 2).val
  let c1_i32 : BitVec 32 := 1#32
  let v140 : BitVec 32 := Scalar.addi arg2 c1_i32
  let c2_i32 : BitVec 32 := 2#32
  let v141 : BitVec 32 := Scalar.subi c2_i32 v140
  let c1_i32_81 : BitVec 32 := 1#32
  let v143 : BitVec 32 := Scalar.divsi v141 c1_i32_81
  let v144 : BitVec 32 := Scalar.muli v143 c1_i32_81
  let v145 : BitVec 32 := Scalar.addi v140 v144
  let c1_i32_83 : BitVec 32 := 1#32
  let arg18 : BitVec 32 := Scf.iv v145 c1_i32_83 k0_t2
  let v198 : Index := Scalar.indexCast arg18
  let c0_111 : Index := 0#32
  let c0_112 : Index := 0#32
  ![v198.toNat, 0, 0]
def k0_off16 (i : grid0.Coords) (k0_t2 : Fin (k0_t2_loop i).trips) : Fin 3 → Nat :=
  let c0_124 : Index := 0#32
  let arg2 : BitVec 32 := BitVec.ofNat 32 (i 2).val
  let c1_i32 : BitVec 32 := 1#32
  let v140 : BitVec 32 := Scalar.addi arg2 c1_i32
  let c2_i32 : BitVec 32 := 2#32
  let v141 : BitVec 32 := Scalar.subi c2_i32 v140
  let c1_i32_81 : BitVec 32 := 1#32
  let v143 : BitVec 32 := Scalar.divsi v141 c1_i32_81
  let v144 : BitVec 32 := Scalar.muli v143 c1_i32_81
  let v145 : BitVec 32 := Scalar.addi v140 v144
  let c1_i32_83 : BitVec 32 := 1#32
  let arg18 : BitVec 32 := Scf.iv v145 c1_i32_83 k0_t2
  let c1024_i32_98 : BitVec 32 := 1024#32
  let v166 : BitVec 32 := Scalar.muli arg18 c1024_i32_98
  let v167 : BitVec 32 := v166
  let v223 : Index := Scalar.indexCast v167
  let c64_125 : Index := 64#32
  ![0, v223.toNat, 64]
def k0_off17 (i : grid0.Coords) (k0_t2 : Fin (k0_t2_loop i).trips) : Fin 3 → Nat :=
  let c1_129 : Index := 1#32
  let arg2 : BitVec 32 := BitVec.ofNat 32 (i 2).val
  let c1_i32 : BitVec 32 := 1#32
  let v140 : BitVec 32 := Scalar.addi arg2 c1_i32
  let c2_i32 : BitVec 32 := 2#32
  let v141 : BitVec 32 := Scalar.subi c2_i32 v140
  let c1_i32_81 : BitVec 32 := 1#32
  let v143 : BitVec 32 := Scalar.divsi v141 c1_i32_81
  let v144 : BitVec 32 := Scalar.muli v143 c1_i32_81
  let v145 : BitVec 32 := Scalar.addi v140 v144
  let c1_i32_83 : BitVec 32 := 1#32
  let arg18 : BitVec 32 := Scf.iv v145 c1_i32_83 k0_t2
  let c1024_i32_98 : BitVec 32 := 1024#32
  let v166 : BitVec 32 := Scalar.muli arg18 c1024_i32_98
  let v167 : BitVec 32 := v166
  let v232 : Index := Scalar.indexCast v167
  let c0_130 : Index := 0#32
  ![1, v232.toNat, 0]
def k0_off18 (i : grid0.Coords) (k0_t2 : Fin (k0_t2_loop i).trips) : Fin 3 → Nat :=
  let arg2 : BitVec 32 := BitVec.ofNat 32 (i 2).val
  let c1_i32 : BitVec 32 := 1#32
  let v140 : BitVec 32 := Scalar.addi arg2 c1_i32
  let c2_i32 : BitVec 32 := 2#32
  let v141 : BitVec 32 := Scalar.subi c2_i32 v140
  let c1_i32_81 : BitVec 32 := 1#32
  let v143 : BitVec 32 := Scalar.divsi v141 c1_i32_81
  let v144 : BitVec 32 := Scalar.muli v143 c1_i32_81
  let v145 : BitVec 32 := Scalar.addi v140 v144
  let c1_i32_83 : BitVec 32 := 1#32
  let arg18 : BitVec 32 := Scf.iv v145 c1_i32_83 k0_t2
  let v253 : Index := Scalar.indexCast arg18
  let c64_136 : Index := 64#32
  let c0_137 : Index := 0#32
  ![v253.toNat, 64, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c2_i32 : BitVec 32 := 2#32
  let v1 : BitVec 32 := Scalar.muli arg0 c2_i32
  let v2 : BitVec 32 := Scalar.addi v1 arg2
  let c0_i32 : BitVec 32 := 0#32
  let c0_i32_0 : BitVec 32 := 0#32
  ![v0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c2_i32 : BitVec 32 := 2#32
  let v1 : BitVec 32 := Scalar.muli arg0 c2_i32
  let v2 : BitVec 32 := Scalar.addi v1 arg2
  let c0_i32 : BitVec 32 := 0#32
  let c0_i32_0 : BitVec 32 := 0#32
  ![v0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, arg2.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![arg1.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![arg1.toNat, v1.toNat, c0_i32.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, arg2.toNat, c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== ReferenceIdeal.lean ====
abbrev S2x2048x1024 : Shape := ⟨3, ![2, 2048, 1024]⟩
abbrev S2x2048x16 : Shape := ⟨3, ![2, 2048, 16]⟩
abbrev S2x2048x16x64 : Shape := ⟨4, ![2, 2048, 16, 64]⟩
abbrev S2x16x2048x64 : Shape := ⟨4, ![2, 16, 2048, 64]⟩
abbrev S2x16x2048 : Shape := ⟨3, ![2, 16, 2048]⟩
abbrev S2x16x2048x2048 : Shape := ⟨4, ![2, 16, 2048, 2048]⟩
abbrev S_ : Shape := ⟨0, ![]⟩
abbrev S2x16x2048x1 : Shape := ⟨4, ![2, 16, 2048, 1]⟩
abbrev S2x16x1x2048 : Shape := ⟨4, ![2, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x16x64x2048 : Shape := ⟨4, ![2, 16, 64, 2048]⟩
abbrev S4096x8x128 : Shape := ⟨3, ![4096, 8, 128]⟩
abbrev S8x4096x128 : Shape := ⟨3, ![8, 4096, 128]⟩
abbrev S2x2x1024x8x2 : Shape := ⟨5, ![2, 2, 1024, 8, 2]⟩
abbrev S2x8x2x2x1024 : Shape := ⟨5, ![2, 8, 2, 2, 1024]⟩
abbrev S16x2x2x1024 : Shape := ⟨4, ![16, 2, 2, 1024]⟩
abbrev S16x2x8x1024 : Shape := ⟨4, ![16, 2, 8, 1024]⟩

abbrev nBuf : Space → Nat
  | .hbm => 140
  | .vmem => 0
  | .smem => 0
  | _ => 0

abbrev hbmTy0_0 (i : Nat) : BufTy := match i % 128 with
  | 0 => ⟨S2x2048x1024, .bf16⟩
  | 1 => ⟨S2x2048x1024, .bf16⟩
  | 2 => ⟨S2x2048x1024, .bf16⟩
  | 3 => ⟨S2x2048x16, .f32⟩
  | 4 => ⟨S2x2048x1024, .bf16⟩
  | 5 => ⟨S2x2048x1024, .f32⟩
  | 6 => ⟨S2x2048x1024, .f32⟩
  | 7 => ⟨S2x2048x1024, .f32⟩
  | 8 => ⟨S2x2048x16x64, .f32⟩
  | 9 => ⟨S2x16x2048x64, .f32⟩
  | 10 => ⟨S2x16x2048, .f32⟩
  | 11 => ⟨S2x2048x16x64, .f32⟩
  | 12 => ⟨S2x16x2048x64, .f32⟩
  | 13 => ⟨S2x2048x16x64, .f32⟩
  | 14 => ⟨S2x16x2048x64, .f32⟩
  | 15 => ⟨S2x16x2048x2048, .f32⟩
  | 16 => ⟨S_, .f32⟩
  | 17 => ⟨S2x16x2048x2048, .f32⟩
  | 18 => ⟨S2x16x2048x2048, .f32⟩
  | 19 => ⟨S2x16x2048x1, .f32⟩
  | 20 => ⟨S2x16x2048x2048, .f32⟩
  | 21 => ⟨S2x16x2048x2048, .f32⟩
  | 22 => ⟨S2x16x1x2048, .f32⟩
  | 23 => ⟨S2x16x2048x2048, .f32⟩
  | 24 => ⟨S2x16x2048x2048, .f32⟩
  | 25 => ⟨S2048, .i32⟩
  | 26 => ⟨S2048x1, .i32⟩
  | 27 => ⟨S1x2048, .i32⟩
  | 28 => ⟨S2048x2048, .i32⟩
  | 29 => ⟨S2048x2048, .i32⟩
  | 30 => ⟨S2048x2048, .i1⟩
  | 31 => ⟨S_, .f32⟩
  | 32 => ⟨S_, .f32⟩
  | 33 => ⟨S2x16x2048x2048, .i1⟩
  | 34 => ⟨S2x16x2048x2048, .f32⟩
  | 35 => ⟨S2x16x2048x2048, .f32⟩
  | 36 => ⟨S_, .f32⟩
  | 37 => ⟨S2x16x2048x2048, .f32⟩
  | 38 => ⟨S_, .f32⟩
  | 39 => ⟨S2x16x2048, .f32⟩
  | 40 => ⟨S2x16x2048x1, .f32⟩
  | 41 => ⟨S2x16x2048x2048, .f32⟩
  | 42 => ⟨S2x16x2048x2048, .i1⟩
  | 43 => ⟨S2x16x2048x2048, .f32⟩
  | 44 => ⟨S_, .f32⟩
  | 45 => ⟨S2x16x2048, .f32⟩
  | 46 => ⟨S_, .f32⟩
  | 47 => ⟨S2x16x2048, .f32⟩
  | 48 => ⟨S2x16x2048, .f32⟩
  | 49 => ⟨S_, .f32⟩
  | 50 => ⟨S2x16x2048, .f32⟩
  | 51 => ⟨S2x16x2048, .i1⟩
  | 52 => ⟨S_, .f32⟩
  | 53 => ⟨S2x16x2048, .f32⟩
  | 54 => ⟨S2x16x2048, .i1⟩
  | 55 => ⟨S_, .f32⟩
  | 56 => ⟨S2x16x2048, .f32⟩
  | 57 => ⟨S_, .f32⟩
  | 58 => ⟨S2x16x2048, .f32⟩
  | 59 => ⟨S_, .f32⟩
  | 60 => ⟨S2x16x2048, .f32⟩
  | 61 => ⟨S2x16x2048, .f32⟩
  | 62 => ⟨S2x16x2048, .f32⟩
  | 63 => ⟨S2x16x2048x1, .f32⟩
  | 64 => ⟨S2x16x2048x2048, .f32⟩
  | 65 => ⟨S2x16x2048x2048, .f32⟩
  | 66 => ⟨S2x16x2048x2048, .f32⟩
  | 67 => ⟨S_, .f32⟩
  | 68 => ⟨S2x16x2048, .f32⟩
  | 69 => ⟨S2x16x2048x1, .f32⟩
  | 70 => ⟨S2x16x2048x2048, .f32⟩
  | 71 => ⟨S2x16x2048x2048, .f32⟩
  | 72 => ⟨S2x16x2048x1, .f32⟩
  | 73 => ⟨S_, .f32⟩
  | 74 => ⟨S2x16x2048x1, .f32⟩
  | 75 => ⟨S2x16x2048x1, .f32⟩
  | 76 => ⟨S2x16x2048x64, .f32⟩
  | 77 => ⟨S2x2048x16x64, .f32⟩
  | 78 => ⟨S2x2048x1024, .f32⟩
  | 79 => ⟨S2x2048x1024, .f32⟩
  | 80 => ⟨S2x2048x16x64, .f32⟩
  | 81 => ⟨S2x16x2048x64, .f32⟩
  | 82 => ⟨S2x16x64x2048, .f32⟩
  | 83 => ⟨S2x16x2048x64, .f32⟩
  | 84 => ⟨S2x16x2048x2048, .f32⟩
  | 85 => ⟨S2x16x2048x2048, .f32⟩
  | 86 => ⟨S2x16x2048x2048, .f32⟩
  | 87 => ⟨S2x16x2048x2048, .f32⟩
  | 88 => ⟨S_, .f32⟩
  | 89 => ⟨S2x16x2048, .f32⟩
  | 90 => ⟨S2x16x2048x1, .f32⟩
  | 91 => ⟨S2x16x2048x1, .f32⟩
  | 92 => ⟨S2x16x2048x2048, .f32⟩
  | 93 => ⟨S2x16x2048x2048, .f32⟩
  | 94 => ⟨S_, .f32⟩
  | 95 => ⟨S2x16x2048, .f32⟩
  | 96 => ⟨S2x16x2048x2048, .f32⟩
  | 97 => ⟨S2x16x2048x2048, .f32⟩
  | 98 => ⟨S2x16x2048x2048, .f32⟩
  | 99 => ⟨S_, .f32⟩
  | 100 => ⟨S2x16x2048x2048, .f32⟩
  | 101 => ⟨S2x16x2048x2048, .f32⟩
  | 102 => ⟨S2x16x2048x2048, .f32⟩
  | 103 => ⟨S_, .f32⟩
  | 104 => ⟨S2x16x2048, .f32⟩
  | 105 => ⟨S2x16x1x2048, .f32⟩
  | 106 => ⟨S_, .f32⟩
  | 107 => ⟨S2x16x2048, .f32⟩
  | 108 => ⟨S_, .f32⟩
  | 109 => ⟨S2x16x2048, .f32⟩
  | 110 => ⟨S2x16x2048x1, .f32⟩
  | 111 => ⟨S_, .f32⟩
  | 112 => ⟨S2x16x2048, .f32⟩
  | 113 => ⟨S2x16x2048, .f32⟩
  | 114 => ⟨S_, .f32⟩
  | 115 => ⟨S2x16x2048x2048, .f32⟩
  | 116 => ⟨S2x16x2048x2048, .f32⟩
  | 117 => ⟨S2x16x2048x64, .f32⟩
  | 118 => ⟨S2x16x2048x64, .f32⟩
  | 119 => ⟨S2x2048x16x64, .f32⟩
  | 120 => ⟨S2x2048x1024, .f32⟩
  | 121 => ⟨S2x2048x16x64, .f32⟩
  | 122 => ⟨S2x2048x1024, .f32⟩
  | 123 => ⟨S2x2048x16, .f32⟩
  | 124 => ⟨S2x2048x16x64, .f32⟩
  | 125 => ⟨S2x2048x1024, .f32⟩
  | 126 => ⟨S4096x8x128, .f32⟩
  | 127 => ⟨S8x4096x128, .f32⟩
  | _ => ⟨S2x2048x1024, .bf16⟩

abbrev hbmTy0_1 (i : Nat) : BufTy := match i % 128 with
  | 0 => ⟨S4096x8x128, .f32⟩
  | 1 => ⟨S8x4096x128, .f32⟩
  | 2 => ⟨S4096x8x128, .f32⟩
  | 3 => ⟨S8x4096x128, .f32⟩
  | 4 => ⟨S2x2x1024x8x2, .f32⟩
  | 5 => ⟨S2x8x2x2x1024, .f32⟩
  | 6 => ⟨S16x2x2x1024, .f32⟩
  | 7 => ⟨S_, .i32⟩
  | 8 => ⟨S_, .f32⟩
  | 9 => ⟨S16x2x8x1024, .f32⟩
  | 10 => ⟨S8x4096x128, .bf16⟩
  | 11 => ⟨S8x4096x128, .bf16⟩
  | _ => ⟨S2x2048x1024, .bf16⟩

abbrev hbmTy (i : Nat) : BufTy := match i / 128 with
  | 0 => hbmTy0_0 i
  | 1 => hbmTy0_1 i
  | _ => ⟨S2x2048x1024, .bf16⟩

abbrev bufTy : (tb : Table) → Fin (tcTables nBuf tb) → BufTy
  | .hbm, ⟨i, _⟩ => hbmTy i
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call0_v0 : Ref sig .tc := ⟨.hbm, 32, rfl⟩
abbrev main_v25_1 : Ref sig .tc := ⟨.hbm, 33, rfl⟩
abbrev main_call0_v2 : Ref sig .tc := ⟨.hbm, 34, rfl⟩
abbrev main_v25_0 : Ref sig .tc := ⟨.hbm, 35, rfl⟩
abbrev main_call0_cst : Ref sig .tc := ⟨.hbm, 36, rfl⟩
abbrev main_v25_2 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_call1_cst : Ref sig .tc := ⟨.hbm, 99, rfl⟩
abbrev main_call1_v0 : Ref sig .tc := ⟨.hbm, 100, rfl⟩
abbrev main_v75 : Ref sig .tc := ⟨.hbm, 101, rfl⟩
abbrev main_v76 : Ref sig .tc := ⟨.hbm, 102, rfl⟩
abbrev main_cst_13 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_cst_16 : Ref sig .tc := ⟨.hbm, 111, rfl⟩
abbrev main_v82 : Ref sig .tc := ⟨.hbm, 112, rfl⟩
abbrev main_v83 : Ref sig .tc := ⟨.hbm, 113, rfl⟩
abbrev main_cst_17 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c : Ref sig .tc := ⟨.hbm, 135, rfl⟩
abbrev main_call2_v0 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩

abbrev nD : Nat := 1
abbrev τ : Topo := Topo.v7x

variable {F : FTy → Type} [FloatOps F]
-- ==== Kernel2.lean ====
abbrev S4096x2816 : Shape := ⟨2, ![4096, 2816]⟩
abbrev S1024x2816 : Shape := ⟨2, ![1024, 2816]⟩
abbrev S2816x1024 : Shape := ⟨2, ![2816, 1024]⟩
abbrev S4096x1024 : Shape := ⟨2, ![4096, 1024]⟩
abbrev S2816x256 : Shape := ⟨2, ![2816, 256]⟩
abbrev S1024x256 : Shape := ⟨2, ![1024, 256]⟩

abbrev nBuf : Space → Nat
  | .hbm => 7
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S2816x1024, .bf16⟩
  | .hbm, ⟨6, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x256, .bf16⟩
  | .local _ .vmem, ⟨3, _⟩ => ⟨S2816x256, .bf16⟩
  | .local _ .vmem, ⟨4, _⟩ => ⟨S1024x2816, .bf16⟩
  | .local _ .vmem, ⟨5, _⟩ => ⟨S1024x2816, .bf16⟩
  | .local _ .vmem, ⟨6, _⟩ => ⟨S2816x256, .bf16⟩
  | .local _ .vmem, ⟨7, _⟩ => ⟨S2816x256, .bf16⟩
  | .local _ .vmem, ⟨8, _⟩ => ⟨S1024x256, .f32⟩
  | .local _ .vmem, ⟨9, _⟩ => ⟨S1024x256, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2816x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2816x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S4096x2816 : Shape := ⟨2, ![4096, 2816]⟩
abbrev S1024x2816 : Shape := ⟨2, ![1024, 2816]⟩
abbrev S_ : Shape := ⟨0, ![]⟩
abbrev S4096x1024 : Shape := ⟨2, ![4096, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .bf16⟩
  | .hbm, ⟨3, _⟩ => ⟨S1024x2816, .bf16⟩
  | .hbm, ⟨4, _⟩ => ⟨S_, .f32⟩
  | .hbm, ⟨5, _⟩ => ⟨S4096x1024, .f32⟩
  | .hbm, ⟨6, _⟩ => ⟨S1024x2816, .f32⟩
  | .hbm, ⟨7, _⟩ => ⟨S4096x2816, .f32⟩
  | .hbm, ⟨8, _⟩ => ⟨S1024x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x1024, .f32⟩
  | .hbm, ⟨13, _⟩ => ⟨S4096x1024, .f32⟩
  | .hbm, ⟨14, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 14
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S4096x1024, .f32⟩
  | .hbm, ⟨6, _⟩ => ⟨S1024x2816, .f32⟩
  | .hbm, ⟨7, _⟩ => ⟨S4096x2816, .f32⟩
  | .hbm, ⟨8, _⟩ => ⟨S4096x2816, .bf16⟩
  | .hbm, ⟨9, _⟩ => ⟨S1024x2816, .f32⟩
  | .hbm, ⟨10, _⟩ => ⟨S4096x2816, .f32⟩
  | .hbm, ⟨11, _⟩ => ⟨S4096x2816, .bf16⟩
  | .hbm, ⟨12, _⟩ => ⟨S4096x2816, .bf16⟩
  | .hbm, ⟨13, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S4096x1024, .f32⟩
  | .hbm, ⟨6, _⟩ => ⟨S1024x2816, .f32⟩
  | .hbm, ⟨7, _⟩ => ⟨S4096x2816, .f32⟩
  | .hbm, ⟨8, _⟩ => ⟨S1024x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S2816x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .bf16⟩
  | .hbm, ⟨35, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v5_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v5_1 : Ref sig .tc := ⟨.hbm, 21, rfl⟩
abbrev main_v5_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩

abbrev nD : Nat := 1
abbrev τ : Topo := Topo.v7x

variable {F : FTy → Type} [FloatOps F]
-- ==== Kernel5.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S2816x1024, .bf16⟩
  | .hbm, ⟨5, _⟩ => ⟨S4096x2816, .bf16⟩
  | .hbm, ⟨6, _⟩ => ⟨S4096x2816, .bf16⟩
  | .hbm, ⟨7, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1024x2816, .bf16⟩
  | .hbm, ⟨3, _⟩ => ⟨S4096x1024, .f32⟩
  | .hbm, ⟨4, _⟩ => ⟨S1024x2816, .f32⟩
  | .hbm, ⟨5, _⟩ => ⟨S4096x2816, .f32⟩
  | .hbm, ⟨6, _⟩ => ⟨S1024x2816, .f32⟩
  | .hbm, ⟨7, _⟩ => ⟨S4096x2816, .f32⟩
  | .hbm, ⟨8, _⟩ => ⟨S4096x2816, .bf16⟩
  | .hbm, ⟨9, _⟩ => ⟨S4096x2816, .bf16⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel6.lean ====
abbrev S4096x2816 : Shape := ⟨2, ![4096, 2816]⟩
abbrev S2816x1024 : Shape := ⟨2, ![2816, 1024]⟩
abbrev S4096x1024 : Shape := ⟨2, ![4096, 1024]⟩
abbrev S2048x2816 : Shape := ⟨2, ![2048, 2816]⟩
abbrev S2816x256 : Shape := ⟨2, ![2816, 256]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S2048x2816, .bf16⟩
  | .local _ .vmem, ⟨1, _⟩ => ⟨S2048x2816, .bf16⟩
  | .local _ .vmem, ⟨2, _⟩ => ⟨S2816x256, .bf16⟩
  | .local _ .vmem, ⟨3, _⟩ => ⟨S2816x256, .bf16⟩
  | .local _ .vmem, ⟨4, _⟩ => ⟨S2048x256, .f32⟩
  | .local _ .vmem, ⟨5, _⟩ => ⟨S2048x256, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2816x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S8x4096x128 : Shape := ⟨3, ![8, 4096, 128]⟩
abbrev S1024x1024 : Shape := ⟨2, ![1024, 1024]⟩
abbrev S4096x1024 : Shape := ⟨2, ![4096, 1024]⟩
abbrev S8x2048x128 : Shape := ⟨3, ![8, 2048, 128]⟩
abbrev S2048x1024 : Shape := ⟨2, ![2048, 1024]⟩
abbrev S1x2048x128 : Shape := ⟨3, ![1, 2048, 128]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S8x4096x128, .bf16⟩
  | .hbm, ⟨1, _⟩ => ⟨S1024x1024, .bf16⟩
  | .hbm, ⟨2, _⟩ => ⟨S4096x1024, .f32⟩
  | .local _ .vmem, ⟨0, _⟩ => ⟨S8x2048x128, .bf16⟩
  | .local _ .vmem, ⟨1, _⟩ => ⟨S8x2048x128, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8x4096x128 : Shape := ⟨3, ![8, 4096, 128]⟩
abbrev S1024x1024 : Shape := ⟨2, ![1024, 1024]⟩
abbrev S4096x8x128 : Shape := ⟨3, ![4096, 8, 128]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x4096x128, .bf16⟩
  | .hbm, ⟨1, _⟩ => ⟨S1024x1024, .bf16⟩
  | .hbm, ⟨2, _⟩ => ⟨S4096x8x128, .bf16⟩
  | .hbm, ⟨3, _⟩ => ⟨S4096x1024, .bf16⟩
  | .hbm, ⟨4, _⟩ => ⟨S4096x1024, .f32⟩
  | .hbm, ⟨5, _⟩ => ⟨S1024x1024, .f32⟩
  | .hbm, ⟨6, _⟩ => ⟨S4096x1024, .f32⟩
  | _, _ => ⟨S8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S8x4096x128 : Shape := ⟨3, ![8, 4096, 128]⟩
abbrev S2048x1024 : Shape := ⟨2, ![2048, 1024]⟩
abbrev S8x2048x128 : Shape := ⟨3, ![8, 2048, 128]⟩
abbrev S2048x128 : Shape := ⟨2, ![2048, 128]⟩
abbrev S1x2048x128 : Shape := ⟨3, ![1, 2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x4096x128, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S8x2048x128, .bf16⟩
  | .local _ .vmem, ⟨4, _⟩ => ⟨S8x2048x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S8x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S1024x1024 : Shape := ⟨2, ![1024, 1024]⟩
abbrev S_ : Shape := ⟨0, ![]⟩
abbrev S4096x8x128 : Shape := ⟨3, ![4096, 8, 128]⟩
abbrev S8x4096x128 : Shape := ⟨3, ![8, 4096, 128]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x8x128, .f32⟩
  | .hbm, ⟨9, _⟩ => ⟨S8x4096x128, .f32⟩
  | .hbm, ⟨10, _⟩ => ⟨S8x4096x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S8x4096x128 : Shape := ⟨3, ![8, 4096, 128]⟩
abbrev S4096x1024 : Shape := ⟨2, ![4096, 1024]⟩
abbrev S1024x1024 : Shape := ⟨2, ![1024, 1024]⟩
abbrev S8x1024x128 : Shape := ⟨3, ![8, 1024, 128]⟩
abbrev S128x1024 : Shape := ⟨2, ![128, 1024]⟩
abbrev S1x1024x128 : Shape := ⟨3, ![1, 1024, 128]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x128, .bf16⟩
  | .hbm, ⟨1, _⟩ => ⟨S4096x1024, .bf16⟩
  | .hbm, ⟨2, _⟩ => ⟨S1024x1024, .bf16⟩
  | .local _ .vmem, ⟨0, _⟩ => ⟨S8x1024x128, .bf16⟩
  | .local _ .vmem, ⟨1, _⟩ => ⟨S8x1024x128, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v68 : BitVec 1 := Scalar.cmpi .eq arg2 c3_i32
  let v69 : BitVec 32 := Scalar.extui v68
  let c0_i32_51 : BitVec 32 := 0#32
  let v70 : BitVec 1 := Scalar.cmpi .ne v69 c0_i32_51
  v70

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8x4096x128 : Shape := ⟨3, ![8, 4096, 128]⟩
abbrev S4096x1024 : Shape := ⟨2, ![4096, 1024]⟩
abbrev S4096x8x128 : Shape := ⟨3, ![4096, 8, 128]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8x4096x128, .bf16⟩
  | .hbm, ⟨1, _⟩ => ⟨S4096x1024, .bf16⟩
  | .hbm, ⟨2, _⟩ => ⟨S4096x8x128, .bf16⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S1024x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S4096x1024 : Shape := ⟨2, ![4096, 1024]⟩
abbrev S1024x3072 : Shape := ⟨2, ![1024, 3072]⟩
abbrev S3072x1024 : Shape := ⟨2, ![3072, 1024]⟩
abbrev S24x4096x128 : Shape := ⟨3, ![24, 4096, 128]⟩
abbrev S2048x1024 : Shape := ⟨2, ![2048, 1024]⟩
abbrev S1024x1024 : Shape := ⟨2, ![1024, 1024]⟩
abbrev S8x2048x128 : Shape := ⟨3, ![8, 2048, 128]⟩
abbrev S2048x128 : Shape := ⟨2, ![2048, 128]⟩
abbrev S1x2048x128 : Shape := ⟨3, ![1, 2048, 128]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S3072x1024, .bf16⟩
  | .hbm, ⟨3, _⟩ => ⟨S24x4096x128, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x2048x128, .bf16⟩
  | .local _ .vmem, ⟨5, _⟩ => ⟨S8x2048x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S1024x3072 : Shape := ⟨2, ![1024, 3072]⟩
abbrev S4096x3072 : Shape := ⟨2, ![4096, 3072]⟩
abbrev S4096x24x128 : Shape := ⟨3, ![4096, 24, 128]⟩
abbrev S24x4096x128 : Shape := ⟨3, ![24, 4096, 128]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | .hbm, ⟨5, _⟩ => ⟨S4096x24x128, .f32⟩
  | .hbm, ⟨6, _⟩ => ⟨S24x4096x128, .f32⟩
  | .hbm, ⟨7, _⟩ => ⟨S24x4096x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel11.lean ====
abbrev S8x4096x128 : Shape := ⟨3, ![8, 4096, 128]⟩
abbrev S4096x128 : Shape := ⟨2, ![4096, 128]⟩
abbrev S1024x3200 : Shape := ⟨2, ![1024, 3200]⟩
abbrev S3200x1024 : Shape := ⟨2, ![3200, 1024]⟩
abbrev S1024x1024 : Shape := ⟨2, ![1024, 1024]⟩
abbrev S128x1024 : Shape := ⟨2, ![128, 1024]⟩
abbrev S4096x1024 : Shape := ⟨2, ![4096, 1024]⟩
abbrev S8x1024x128 : Shape := ⟨3, ![8, 1024, 128]⟩
abbrev S1024x512 : Shape := ⟨2, ![1024, 512]⟩
abbrev S1024x128 : Shape := ⟨2, ![1024, 128]⟩
abbrev S128x512 : Shape := ⟨2, ![128, 512]⟩
abbrev S1x1024x128 : Shape := ⟨3, ![1, 1024, 128]⟩

abbrev nBuf : Space → Nat
  | .hbm => 11
  | .vmem => 18
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .bf16⟩
  | .hbm, ⟨2, _⟩ => ⟨S8x4096x128, .bf16⟩
  | .hbm, ⟨3, _⟩ => ⟨S4096x128, .f32⟩
  | .hbm, ⟨4, _⟩ => ⟨S1024x3200, .bf16⟩
  | .hbm, ⟨5, _⟩ => ⟨S3200x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S128x1024, .bf16⟩
  | .hbm, ⟨10, _⟩ => ⟨S4096x1024, .f32⟩
  | .local _ .vmem, ⟨0, _⟩ => ⟨S8x1024x128, .f32⟩
  | .local _ .vmem, ⟨1, _⟩ => ⟨S8x1024x128, .f32⟩
  | .local _ .vmem, ⟨2, _⟩ => ⟨S1024x512, .bf16⟩
  | .local _ .vmem, ⟨3, _⟩ => ⟨S1024x512, .bf16⟩
  | .local _ .vmem, ⟨4, _⟩ => ⟨S8x1024x128, .bf16⟩
  | .local _ .vmem, ⟨5, _⟩ => ⟨S8x1024x128, .bf16⟩
  | .local _ .vmem, ⟨6, _⟩ => ⟨S1024x512, .bf16⟩
  | .local _ .vmem, ⟨7, _⟩ => ⟨S1024x512, .bf16⟩
  | .local _ .vmem, ⟨8, _⟩ => ⟨S8x1024x128, .bf16⟩
  | .local _ .vmem, ⟨9, _⟩ => ⟨S8x1024x128, .bf16⟩
  | .local _ .vmem, ⟨10, _⟩ => ⟨S1024x512, .bf16⟩
  | .local _ .vmem, ⟨11, _⟩ => ⟨S1024x512, .bf16⟩
  | .local _ .vmem, ⟨12, _⟩ => ⟨S1024x128, .f32⟩
  | .local _ .vmem, ⟨13, _⟩ => ⟨S1024x128, .f32⟩
  | .local _ .vmem, ⟨14, _⟩ => ⟨S128x512, .bf16⟩
  | .local _ .vmem, ⟨15, _⟩ => ⟨S128x512, .bf16⟩
  | .local _ .vmem, ⟨16, _⟩ => ⟨S1024x512, .f32⟩
  | .local _ .vmem, ⟨17, _⟩ => ⟨S1024x512, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference11Ideal.lean ====
abbrev S8x4096x128 : Shape := ⟨3, ![8, 4096, 128]⟩
abbrev S4096x128 : Shape := ⟨2, ![4096, 128]⟩
abbrev S1024x3200 : Shape := ⟨2, ![1024, 3200]⟩
abbrev S4096x8x128 : Shape := ⟨3, ![4096, 8, 128]⟩
abbrev S4096x1024 : Shape := ⟨2, ![4096, 1024]⟩
abbrev S4096x3200 : Shape := ⟨2, ![4096, 3200]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .bf16⟩
  | .hbm, ⟨2, _⟩ => ⟨S8x4096x128, .bf16⟩
  | .hbm, ⟨3, _⟩ => ⟨S4096x128, .f32⟩
  | .hbm, ⟨4, _⟩ => ⟨S1024x3200, .bf16⟩
  | .hbm, ⟨5, _⟩ => ⟨S4096x8x128, .f32⟩
  | .hbm, ⟨6, _⟩ => ⟨S4096x1024, .f32⟩
  | .hbm, ⟨7, _⟩ => ⟨S4096x8x128, .bf16⟩
  | .hbm, ⟨8, _⟩ => ⟨S4096x1024, .bf16⟩
  | .hbm, ⟨9, _⟩ => ⟨S4096x1024, .f32⟩
  | .hbm, ⟨10, _⟩ => ⟨S4096x8x128, .bf16⟩
  | .hbm, ⟨11, _⟩ => ⟨S4096x1024, .bf16⟩
  | .hbm, ⟨12, _⟩ => ⟨S4096x1024, .f32⟩
  | .hbm, ⟨13, _⟩ => ⟨S4096x3200, .f32⟩
  | .hbm, ⟨14, _⟩ => ⟨S_, .f32⟩
  | .hbm, ⟨15, _⟩ => ⟨S4096x1024, .f32⟩
  | .hbm, ⟨16, _⟩ => ⟨S1024x3200, .f32⟩
  | .hbm, ⟨17, _⟩ => ⟨S4096x3200, .f32⟩
  | .hbm, ⟨18, _⟩ => ⟨S4096x1024, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel12.lean ====
abbrev S8x4096x128 : Shape := ⟨3, ![8, 4096, 128]⟩
abbrev S4096x1024 : Shape := ⟨2, ![4096, 1024]⟩
abbrev S1024x1024 : Shape := ⟨2, ![1024, 1024]⟩
abbrev S8x1024x128 : Shape := ⟨3, ![8, 1024, 128]⟩
abbrev S128x1024 : Shape := ⟨2, ![128, 1024]⟩
abbrev S1x1024x128 : Shape := ⟨3, ![1, 1024, 128]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x128, .f32⟩
  | .hbm, ⟨1, _⟩ => ⟨S4096x1024, .bf16⟩
  | .hbm, ⟨2, _⟩ => ⟨S1024x1024, .bf16⟩
  | .local _ .vmem, ⟨0, _⟩ => ⟨S8x1024x128, .f32⟩
  | .local _ .vmem, ⟨1, _⟩ => ⟨S8x1024x128, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v76 : BitVec 1 := Scalar.cmpi .eq arg2 c3_i32
  let v77 : BitVec 32 := Scalar.extui v76
  let c0_i32_51 : BitVec 32 := 0#32
  let v78 : BitVec 1 := Scalar.cmpi .ne v77 c0_i32_51
  v78

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8x4096x128 : Shape := ⟨3, ![8, 4096, 128]⟩
abbrev S4096x1024 : Shape := ⟨2, ![4096, 1024]⟩
abbrev S4096x8x128 : Shape := ⟨3, ![4096, 8, 128]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S4096x1024, .bf16⟩
  | .hbm, ⟨2, _⟩ => ⟨S4096x8x128, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S1024x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S4096x256 : Shape := ⟨2, ![4096, 256]⟩
abbrev S256x1024 : Shape := ⟨2, ![256, 1024]⟩
abbrev S1024x256 : Shape := ⟨2, ![1024, 256]⟩
abbrev S8x4096x128 : Shape := ⟨3, ![8, 4096, 128]⟩
abbrev S2048x256 : Shape := ⟨2, ![2048, 256]⟩
abbrev S8x2048x128 : Shape := ⟨3, ![8, 2048, 128]⟩
abbrev S2048x1024 : Shape := ⟨2, ![2048, 1024]⟩
abbrev S2048x128 : Shape := ⟨2, ![2048, 128]⟩
abbrev S1x2048x128 : Shape := ⟨3, ![1, 2048, 128]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S1024x256, .bf16⟩
  | .hbm, ⟨3, _⟩ => ⟨S8x4096x128, .bf16⟩
  | .local _ .vmem, ⟨0, _⟩ => ⟨S2048x256, .bf16⟩
  | .local _ .vmem, ⟨1, _⟩ => ⟨S2048x256, .bf16⟩
  | .local _ .vmem, ⟨2, _⟩ => ⟨S1024x256, .bf16⟩
  | .local _ .vmem, ⟨3, _⟩ => ⟨S8x2048x128, .bf16⟩
  | .local _ .vmem, ⟨4, _⟩ => ⟨S8x2048x128, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S8x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x256 : Shape := ⟨2, ![4096, 256]⟩
abbrev S256x1024 : Shape := ⟨2, ![256, 1024]⟩
abbrev S4096x1024 : Shape := ⟨2, ![4096, 1024]⟩
abbrev S4096x8x128 : Shape := ⟨3, ![4096, 8, 128]⟩
abbrev S8x4096x128 : Shape := ⟨3, ![8, 4096, 128]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x256, .f32⟩
  | .hbm, ⟨3, _⟩ => ⟨S256x1024, .f32⟩
  | .hbm, ⟨4, _⟩ => ⟨S4096x1024, .f32⟩
  | .hbm, ⟨5, _⟩ => ⟨S4096x8x128, .f32⟩
  | .hbm, ⟨6, _⟩ => ⟨S8x4096x128, .f32⟩
  | .hbm, ⟨7, _⟩ => ⟨S8x4096x128, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel14.lean ====
abbrev S4096x1024 : Shape := ⟨2, ![4096, 1024]⟩
abbrev S1024x640 : Shape := ⟨2, ![1024, 640]⟩
abbrev S4096x640 : Shape := ⟨2, ![4096, 640]⟩
abbrev S2048x1024 : Shape := ⟨2, ![2048, 1024]⟩
abbrev S2048x640 : Shape := ⟨2, ![2048, 640]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x640, .bf16⟩
  | .hbm, ⟨2, _⟩ => ⟨S4096x640, .f32⟩
  | .local _ .vmem, ⟨0, _⟩ => ⟨S2048x1024, .bf16⟩
  | .local _ .vmem, ⟨1, _⟩ => ⟨S2048x1024, .bf16⟩
  | .local _ .vmem, ⟨2, _⟩ => ⟨S1024x640, .bf16⟩
  | .local _ .vmem, ⟨3, _⟩ => ⟨S2048x640, .f32⟩
  | .local _ .vmem, ⟨4, _⟩ => ⟨S2048x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x1024 : Shape := ⟨2, ![4096, 1024]⟩
abbrev S1024x640 : Shape := ⟨2, ![1024, 640]⟩
abbrev S4096x640 : Shape := ⟨2, ![4096, 640]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x640, .bf16⟩
  | .hbm, ⟨2, _⟩ => ⟨S4096x1024, .f32⟩
  | .hbm, ⟨3, _⟩ => ⟨S1024x640, .f32⟩
  | .hbm, ⟨4, _⟩ => ⟨S4096x640, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S4096x640 : Shape := ⟨2, ![4096, 640]⟩
abbrev S1024x640 : Shape := ⟨2, ![1024, 640]⟩
abbrev S4096x1024 : Shape := ⟨2, ![4096, 1024]⟩
abbrev S2048x640 : Shape := ⟨2, ![2048, 640]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x640, .bf16⟩
  | .hbm, ⟨1, _⟩ => ⟨S1024x640, .bf16⟩
  | .hbm, ⟨2, _⟩ => ⟨S4096x1024, .f32⟩
  | .local _ .vmem, ⟨0, _⟩ => ⟨S2048x640, .bf16⟩
  | .local _ .vmem, ⟨1, _⟩ => ⟨S2048x640, .bf16⟩
  | .local _ .vmem, ⟨2, _⟩ => ⟨S1024x640, .bf16⟩
  | .local _ .vmem, ⟨3, _⟩ => ⟨S2048x1024, .f32⟩
  | .local _ .vmem, ⟨4, _⟩ => ⟨S2048x1024, .f32⟩
  | _, _ => ⟨S4096x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4096x640 : Shape := ⟨2, ![4096, 640]⟩
abbrev S1024x640 : Shape := ⟨2, ![1024, 640]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x640, .bf16⟩
  | .hbm, ⟨1, _⟩ => ⟨S1024x640, .bf16⟩
  | .hbm, ⟨2, _⟩ => ⟨S_, .f32⟩
  | .hbm, ⟨3, _⟩ => ⟨S4096x1024, .f32⟩
  | .hbm, ⟨4, _⟩ => ⟨S1024x640, .f32⟩
  | .hbm, ⟨5, _⟩ => ⟨S4096x640, .f32⟩
  | .hbm, ⟨6, _⟩ => ⟨S4096x640, .f32⟩
  | .hbm, ⟨7, _⟩ => ⟨S4096x1024, .f32⟩
  | _, _ => ⟨S4096x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S4096x1024 : Shape := ⟨2, ![4096, 1024]⟩
abbrev S4096x640 : Shape := ⟨2, ![4096, 640]⟩
abbrev S1024x640 : Shape := ⟨2, ![1024, 640]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x640, .bf16⟩
  | .hbm, ⟨2, _⟩ => ⟨S1024x640, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S4096x640 : Shape := ⟨2, ![4096, 640]⟩
abbrev S_ : Shape := ⟨0, ![]⟩
abbrev S1024x640 : Shape := ⟨2, ![1024, 640]⟩
abbrev S640x1024 : Shape := ⟨2, ![640, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x640, .bf16⟩
  | .hbm, ⟨2, _⟩ => ⟨S4096x1024, .f32⟩
  | .hbm, ⟨3, _⟩ => ⟨S4096x640, .f32⟩
  | .hbm, ⟨4, _⟩ => ⟨S_, .f32⟩
  | .hbm, ⟨5, _⟩ => ⟨S1024x640, .f32⟩
  | .hbm, ⟨6, _⟩ => ⟨S4096x640, .f32⟩
  | .hbm, ⟨7, _⟩ => ⟨S640x1024, .f32⟩
  | .hbm, ⟨8, _⟩ => ⟨S1024x640, .f32⟩
  | .hbm, ⟨9, _⟩ => ⟨S1024x640, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Fox.Setup.lean ====
/- The attention backward over its grid: when the body's first guard holds, the staging memrefs of each grid point, and
   the scratch the kernel carries from one point to the next. -/
module

public import proofs.«01_k».proof.Proof.Gen.KernelIdeal.Frame
public import proofs.«01_k».proof.Proof.Gen.KernelIdeal.Skeleton
public import proofs.«01_k».proof.Proof.Gen.KernelIdeal.Loops

@[expose] public section

-- rectangles of production extents
set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the first
    guard of the body: the key block is the first of its batch row). -/
abbrev cond0_0 (i : grid0.Coords) : Prop := (Scalar.cmpi .ne (Scalar.extui (Scalar.cmpi .eq (BitVec.ofNat 32 (i 2).val) 0#32)) 0#32) = 1#1
/-- It holds at the points ≡ 0 (mod 2) — by arithmetic of the point. -/
theorem hcond0_0 : ∀ t : Fin cfg0.N, cond0_0 (grid0.coords t) ↔ t.val % 2 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 2 % 8 := Pipeline.Grid.coords_val t 1 (by decide) rfl
    have e2 : (grid0.coords t 2).val = t.val / 1 % 2 := Pipeline.Grid.coords_val t 2 (by decide) rfl
    simp only [cond0_0, e0, e1, e2]
    word_cmp
   : ∀ t : Fin grid0.N, cond0_0 (grid0.coords t) ↔ t.val % 2 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x2048x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x8x1024 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S2x2048x128 .f32 := Memref.whole cc0_scratch0
abbrev scM0_1 : Memref sig .tc .vmem S2x128x1024 .bf16 := Memref.whole cc0_scratch1
abbrev scM0_2 : Memref sig .tc .vmem S2x128x1024 .bf16 := Memref.whole cc0_scratch2
/-- The scratch `arg15` the kernel carries between points, as a view: what it holds is stated through it. -/
abbrev VS0_0 : View sig .tc .vmem S2x2048x128 .f32 := scM0_0.view
/-- The scratch `arg16` the kernel carries between points, as a view: what it holds is stated through it. -/
abbrev VS0_1 : View sig .tc .vmem S2x128x1024 .bf16 := scM0_1.view
/-- The scratch `arg17` the kernel carries between points, as a view: what it holds is stated through it. -/
abbrev VS0_2 : View sig .tc .vmem S2x128x1024 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Fox

end
-- ==== Proof.Fox.RunA.lean ====
/- The attention backward's body at the first key block. -/
module

public import proofs.«01_k».proof.Proof.Fox.Setup

@[expose] public section

-- rectangles of production extents
set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a first key block of a (batch row, head pair), run on any whole staging memrefs: what its stores leave in each
    output buffer and in the scratch, as written pieces (last first), found by the run, with the triple that says so. -/
noncomputable def runA (c : Dev nD) (i : grid0.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S2x2048x128 .f32) (harg6 : arg6.IsWhole) (arg7 : Memref sig .tc .vmem S1x1x8x1024 .f32) (harg7 : arg7.IsWhole) (arg8 : Memref sig .tc .vmem S1x2048x128 .f32) (harg8 : arg8.IsWhole) (arg9 : Memref sig .tc .vmem S1x2048x128 .bf16) (harg9 : arg9.IsWhole) (arg10 : Memref sig .tc .vmem S2x2048x128 .f32) (harg10 : arg10.IsWhole) (arg11 : Memref sig .tc .vmem S1x2048x128 .f32) (harg11 : arg11.IsWhole) (arg12 : Memref sig .tc .vmem S1x1024x128 .bf16) (harg12 : arg12.IsWhole) (arg13 : Memref sig .tc .vmem S1x1024x128 .bf16) (harg13 : arg13.IsWhole) (arg14 : Memref sig .tc .vmem S1x1x8x1024 .f32) (harg14 : arg14.IsWhole) (arg15 : Memref sig .tc .vmem S2x2048x128 .f32) (harg15 : arg15.IsWhole) (arg16 : Memref sig .tc .vmem S2x128x1024 .bf16) (harg16 : arg16.IsWhole) (arg17 : Memref sig .tc .vmem S2x128x1024 .bf16) (harg17 : arg17.IsWhole) (hc0 : cond0_0 i)
    (x0 : Vec F S1x2048x128 .bf16) (x1 : Vec F S1x1024x128 .bf16) (x2 : Vec F S1x1024x128 .bf16) (x3 : Vec F S2x2048x128 .f32) (x4 : Vec F S1x1x8x1024 .f32) (x5 : Vec F S1x2048x128 .f32) (x6 : Vec F S1x2048x128 .bf16) (x7 : Vec F S2x2048x128 .f32) :
    Σ' (L8 : List (View.Piece (Elt F) S1x2048x128 .f32)), Σ' (L9 : List (View.Piece (Elt F) S1x1024x128 .bf16)), Σ' (L10 : List (View.Piece (Elt F) S1x1024x128 .bf16)), Σ' (L11 : List (View.Piece (Elt F) S1x1x8x1024 .f32)), Σ' (LS0 : List (View.Piece (Elt F) S2x2048x128 .f32)), Σ' (LS1 : List (View.Piece (Elt F) S2x128x1024 .bf16)), { LS2 : List (View.Piece (Elt F) S2x128x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2)) -∗ K ⟨⟩))
          ⊢ wp frame (wpE (defs₀ (F := F)) Variants.none c none) E (cc0_bwd_fox_attn1 i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, fun E K => ?run⟩
  case run =>
    simp only [cc0_bwd_fox_attn1_eq_skeleton]; unfold cc0_bwd_fox_attn1_skel
    simp only [k0_part7_eq_skeleton, k0_part1_eq_skeleton, k0_part2_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    iexists _; iexact HS2

end Cert.KernelIdeal.Fox

end
-- ==== Proof.Fox.RunB.lean ====
/- The attention backward's body at the second key block. -/
module

public import proofs.«01_k».proof.Proof.Fox.RunA

@[expose] public section

-- rectangles of production extents
set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a second key block of a (batch row, head pair), run on any whole staging memrefs: what its stores leave in each
    output buffer (the query gradient over what the point before left in it), as written pieces (last first), found by the run, with the triple that says so. -/
noncomputable def runB (c : Dev nD) (i : grid0.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S2x2048x128 .f32) (harg6 : arg6.IsWhole) (arg7 : Memref sig .tc .vmem S1x1x8x1024 .f32) (harg7 : arg7.IsWhole) (arg8 : Memref sig .tc .vmem S1x2048x128 .f32) (harg8 : arg8.IsWhole) (arg9 : Memref sig .tc .vmem S1x2048x128 .bf16) (harg9 : arg9.IsWhole) (arg10 : Memref sig .tc .vmem S2x2048x128 .f32) (harg10 : arg10.IsWhole) (arg11 : Memref sig .tc .vmem S1x2048x128 .f32) (harg11 : arg11.IsWhole) (arg12 : Memref sig .tc .vmem S1x1024x128 .bf16) (harg12 : arg12.IsWhole) (arg13 : Memref sig .tc .vmem S1x1024x128 .bf16) (harg13 : arg13.IsWhole) (arg14 : Memref sig .tc .vmem S1x1x8x1024 .f32) (harg14 : arg14.IsWhole) (arg15 : Memref sig .tc .vmem S2x2048x128 .f32) (harg15 : arg15.IsWhole) (arg16 : Memref sig .tc .vmem S2x128x1024 .bf16) (harg16 : arg16.IsWhole) (arg17 : Memref sig .tc .vmem S2x128x1024 .bf16) (harg17 : arg17.IsWhole) (hc0 : ¬cond0_0 i)
    (x0 : Vec F S1x2048x128 .bf16) (x1 : Vec F S1x1024x128 .bf16) (x2 : Vec F S1x1024x128 .bf16) (x3 : Vec F S2x2048x128 .f32) (x4 : Vec F S1x1x8x1024 .f32) (x5 : Vec F S1x2048x128 .f32) (x6 : Vec F S1x2048x128 .bf16) (x7 : Vec F S2x2048x128 .f32) (x8 : Vec F S1x2048x128 .f32) (xs0 : Vec F S2x2048x128 .f32) (xs1 : Vec F S2x128x1024 .bf16) (xs2 : Vec F S2x128x1024 .bf16) :
    Σ' (L8 : List (View.Piece (Elt F) S1x2048x128 .f32)), Σ' (L9 : List (View.Piece (Elt F) S1x1024x128 .bf16)), Σ' (L10 : List (View.Piece (Elt F) S1x1024x128 .bf16)), { L11 : List (View.Piece (Elt F) S1x1x8x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0 ∗ owns (c : Thread nD τ) arg16 fullShare xs1 ∗ owns (c : Thread nD τ) arg17 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (arg11.view.loc (c : Thread nD τ) ↦[arg11.view.set]{fullShare} arg11.view.writes (Elt F) (harg11.unread x8) L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ owns (c : Thread nD τ) arg15 fullShare xs0 ∗ owns (c : Thread nD τ) arg16 fullShare xs1 ∗ owns (c : Thread nD τ) arg17 fullShare xs2) -∗ K ⟨⟩))
          ⊢ wp frame (wpE (defs₀ (F := F)) Variants.none c none) E (cc0_bwd_fox_attn1 i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_bwd_fox_attn1_eq_skeleton]; unfold cc0_bwd_fox_attn1_skel
    simp only [k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg15.eq_unread hfs0; obtain rfl := harg16.eq_unread hfs1; obtain rfl := harg17.eq_unread hfs2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexact H8
    isplitl [H9]; · iexists _; iexact H9
    isplitl [H10]; · iexists _; iexact H10
    isplitl [H11]; · iexists _; iexact H11
    isplitl [HS0]
    · iexists _; isplitr; · ipureintro; exact harg15.read_unread _
      iexact HS0
    isplitl [HS1]
    · iexists _; isplitr; · ipureintro; exact harg16.read_unread _
      iexact HS1
    iexists _; isplitr; · ipureintro; exact harg17.read_unread _
    iexact HS2

end Cert.KernelIdeal.Fox

end
-- ==== Proof.Fox.Cover.lean ====
/- What the attention backward's body writes covers each output buffer and, at the first key block, each scratch buffer:
   every buffer's contents after the body are told by the pieces alone. -/
module

public import proofs.«01_k».proof.Proof.Fox.RunB

@[expose] public section

-- rectangles of production extents
set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A store of a whole block covers it, wherever it stands among the pieces. -/
theorem covered_of_mem {S : Shape} {τ' : EltTy} (L : List (View.Piece (Elt F) S τ')) (pc : View.Piece (Elt F) S τ') (h : pc ∈ L)
    (hw : ∀ y, y ∈ pc.1.set) (y : S.Idx) : ∃ pc ∈ L, y ∈ pc.1.set := ⟨pc, h, hw y⟩

/-- The rectangle of a whole block from the origin holds every index. -/
theorem mem_whole {S : Shape} {off : Fin S.rank → ℕ} (h : ∀ a, off a = 0) (inb) (y : S.Idx) :
    y ∈ (Rect.unit (s := S) off S.size inb).set := by
  rw [Rect.mem_set_unit]
  intro a
  rw [h a]
  exact ⟨Nat.zero_le _, by have := (y a).isLt; omega⟩

/-- A store of a whole block from the origin, last among the pieces, covers it. -/
theorem covered_head {S : Shape} {τ' : EltTy} {off : Fin S.rank → ℕ} (h : ∀ a, off a = 0) (inb) (pay : S.Idx → Elt F τ')
    (L : List (View.Piece (Elt F) S τ')) (y : S.Idx) :
    ∃ pc ∈ ((⟨Rect.unit (s := S) off S.size inb, pay⟩ : View.Piece (Elt F) S τ') :: L), y ∈ pc.1.set :=
  ⟨_, List.mem_cons_self .., mem_whole h inb y⟩

/-- At a first key block the query gradient's buffer was zeroed whole. -/
theorem coverA_8 (c : Dev nD) (i : grid0.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S2x2048x128 .f32) (harg6 : arg6.IsWhole) (arg7 : Memref sig .tc .vmem S1x1x8x1024 .f32) (harg7 : arg7.IsWhole) (arg8 : Memref sig .tc .vmem S1x2048x128 .f32) (harg8 : arg8.IsWhole) (arg9 : Memref sig .tc .vmem S1x2048x128 .bf16) (harg9 : arg9.IsWhole) (arg10 : Memref sig .tc .vmem S2x2048x128 .f32) (harg10 : arg10.IsWhole) (arg11 : Memref sig .tc .vmem S1x2048x128 .f32) (harg11 : arg11.IsWhole) (arg12 : Memref sig .tc .vmem S1x1024x128 .bf16) (harg12 : arg12.IsWhole) (arg13 : Memref sig .tc .vmem S1x1024x128 .bf16) (harg13 : arg13.IsWhole) (arg14 : Memref sig .tc .vmem S1x1x8x1024 .f32) (harg14 : arg14.IsWhole) (arg15 : Memref sig .tc .vmem S2x2048x128 .f32) (harg15 : arg15.IsWhole) (arg16 : Memref sig .tc .vmem S2x128x1024 .bf16) (harg16 : arg16.IsWhole) (arg17 : Memref sig .tc .vmem S2x128x1024 .bf16) (harg17 : arg17.IsWhole) (hc0 : cond0_0 i)
    (x0 : Vec F S1x2048x128 .bf16) (x1 : Vec F S1x1024x128 .bf16) (x2 : Vec F S1x1024x128 .bf16) (x3 : Vec F S2x2048x128 .f32) (x4 : Vec F S1x1x8x1024 .f32) (x5 : Vec F S1x2048x128 .f32) (x6 : Vec F S1x2048x128 .bf16) (x7 : Vec F S2x2048x128 .f32) (y : S1x2048x128.Idx) :
    ∃ pc ∈ (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1, y ∈ pc.1.set := by
  unfold runA; dsimp only
  refine covered_of_mem _ ⟨Rect.unit ![0, 0, 0] S1x2048x128.size inb_S1x2048x128_S1x2048x128_0_0_0, k0_pay17⟩ ?_ (mem_whole (by decide) inb_S1x2048x128_S1x2048x128_0_0_0) y
  refine List.mem_append_right _ (List.mem_append_right _ (List.mem_cons_of_mem _ ?_))
  unfold runA.sl.H8_2 runA.sl.H8_1
  exact List.mem_cons_of_mem _ (List.mem_cons_self ..)

/-- The key gradient's block is stored whole. -/
theorem coverA_9 (c : Dev nD) (i : grid0.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S2x2048x128 .f32) (harg6 : arg6.IsWhole) (arg7 : Memref sig .tc .vmem S1x1x8x1024 .f32) (harg7 : arg7.IsWhole) (arg8 : Memref sig .tc .vmem S1x2048x128 .f32) (harg8 : arg8.IsWhole) (arg9 : Memref sig .tc .vmem S1x2048x128 .bf16) (harg9 : arg9.IsWhole) (arg10 : Memref sig .tc .vmem S2x2048x128 .f32) (harg10 : arg10.IsWhole) (arg11 : Memref sig .tc .vmem S1x2048x128 .f32) (harg11 : arg11.IsWhole) (arg12 : Memref sig .tc .vmem S1x1024x128 .bf16) (harg12 : arg12.IsWhole) (arg13 : Memref sig .tc .vmem S1x1024x128 .bf16) (harg13 : arg13.IsWhole) (arg14 : Memref sig .tc .vmem S1x1x8x1024 .f32) (harg14 : arg14.IsWhole) (arg15 : Memref sig .tc .vmem S2x2048x128 .f32) (harg15 : arg15.IsWhole) (arg16 : Memref sig .tc .vmem S2x128x1024 .bf16) (harg16 : arg16.IsWhole) (arg17 : Memref sig .tc .vmem S2x128x1024 .bf16) (harg17 : arg17.IsWhole) (hc0 : cond0_0 i)
    (x0 : Vec F S1x2048x128 .bf16) (x1 : Vec F S1x1024x128 .bf16) (x2 : Vec F S1x1024x128 .bf16) (x3 : Vec F S2x2048x128 .f32) (x4 : Vec F S1x1x8x1024 .f32) (x5 : Vec F S1x2048x128 .f32) (x6 : Vec F S1x2048x128 .bf16) (x7 : Vec F S2x2048x128 .f32) (y : S1x1024x128.Idx) :
    ∃ pc ∈ (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.1, y ∈ pc.1.set := by
  unfold runA; dsimp only
  exact covered_head (S := S1x1024x128) (off := ![0, 0, 0]) (by decide) inb_S1x1024x128_S1x1024x128_0_0_0 _ [] y

/-- The value gradient's block is stored whole. -/
theorem coverA_10 (c : Dev nD) (i : grid0.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S2x2048x128 .f32) (harg6 : arg6.IsWhole) (arg7 : Memref sig .tc .vmem S1x1x8x1024 .f32) (harg7 : arg7.IsWhole) (arg8 : Memref sig .tc .vmem S1x2048x128 .f32) (harg8 : arg8.IsWhole) (arg9 : Memref sig .tc .vmem S1x2048x128 .bf16) (harg9 : arg9.IsWhole) (arg10 : Memref sig .tc .vmem S2x2048x128 .f32) (harg10 : arg10.IsWhole) (arg11 : Memref sig .tc .vmem S1x2048x128 .f32) (harg11 : arg11.IsWhole) (arg12 : Memref sig .tc .vmem S1x1024x128 .bf16) (harg12 : arg12.IsWhole) (arg13 : Memref sig .tc .vmem S1x1024x128 .bf16) (harg13 : arg13.IsWhole) (arg14 : Memref sig .tc .vmem S1x1x8x1024 .f32) (harg14 : arg14.IsWhole) (arg15 : Memref sig .tc .vmem S2x2048x128 .f32) (harg15 : arg15.IsWhole) (arg16 : Memref sig .tc .vmem S2x128x1024 .bf16) (harg16 : arg16.IsWhole) (arg17 : Memref sig .tc .vmem S2x128x1024 .bf16) (harg17 : arg17.IsWhole) (hc0 : cond0_0 i)
    (x0 : Vec F S1x2048x128 .bf16) (x1 : Vec F S1x1024x128 .bf16) (x2 : Vec F S1x1024x128 .bf16) (x3 : Vec F S2x2048x128 .f32) (x4 : Vec F S1x1x8x1024 .f32) (x5 : Vec F S1x2048x128 .f32) (x6 : Vec F S1x2048x128 .bf16) (x7 : Vec F S2x2048x128 .f32) (y : S1x1024x128.Idx) :
    ∃ pc ∈ (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.1, y ∈ pc.1.set := by
  unfold runA; dsimp only
  exact covered_head (S := S1x1024x128) (off := ![0, 0, 0]) (by decide) inb_S1x1024x128_S1x1024x128_0_0_0 _ [] y

/-- The gate gradient's block was zeroed whole. -/
theorem coverA_11 (c : Dev nD) (i : grid0.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S2x2048x128 .f32) (harg6 : arg6.IsWhole) (arg7 : Memref sig .tc .vmem S1x1x8x1024 .f32) (harg7 : arg7.IsWhole) (arg8 : Memref sig .tc .vmem S1x2048x128 .f32) (harg8 : arg8.IsWhole) (arg9 : Memref sig .tc .vmem S1x2048x128 .bf16) (harg9 : arg9.IsWhole) (arg10 : Memref sig .tc .vmem S2x2048x128 .f32) (harg10 : arg10.IsWhole) (arg11 : Memref sig .tc .vmem S1x2048x128 .f32) (harg11 : arg11.IsWhole) (arg12 : Memref sig .tc .vmem S1x1024x128 .bf16) (harg12 : arg12.IsWhole) (arg13 : Memref sig .tc .vmem S1x1024x128 .bf16) (harg13 : arg13.IsWhole) (arg14 : Memref sig .tc .vmem S1x1x8x1024 .f32) (harg14 : arg14.IsWhole) (arg15 : Memref sig .tc .vmem S2x2048x128 .f32) (harg15 : arg15.IsWhole) (arg16 : Memref sig .tc .vmem S2x128x1024 .bf16) (harg16 : arg16.IsWhole) (arg17 : Memref sig .tc .vmem S2x128x1024 .bf16) (harg17 : arg17.IsWhole) (hc0 : cond0_0 i)
    (x0 : Vec F S1x2048x128 .bf16) (x1 : Vec F S1x1024x128 .bf16) (x2 : Vec F S1x1024x128 .bf16) (x3 : Vec F S2x2048x128 .f32) (x4 : Vec F S1x1x8x1024 .f32) (x5 : Vec F S1x2048x128 .f32) (x6 : Vec F S1x2048x128 .bf16) (x7 : Vec F S2x2048x128 .f32) (y : S1x1x8x1024.Idx) :
    ∃ pc ∈ (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.1, y ∈ pc.1.set := by
  unfold runA; dsimp only
  refine covered_of_mem _ ⟨Rect.unit ![0, 0, 0, 0] S1x1x8x1024.size inb_S1x1x8x1024_S1x1x8x1024_0_0_0_0, k0_pay53⟩ ?_ (mem_whole (by decide) inb_S1x1x8x1024_S1x1x8x1024_0_0_0_0) y
  unfold runA.sl.H11_1
  exact List.mem_cons_of_mem _ (List.mem_cons_of_mem _ (List.mem_cons_self ..))

/-- The key gradient's block is stored whole. -/
theorem coverB_9 (c : Dev nD) (i : grid0.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S2x2048x128 .f32) (harg6 : arg6.IsWhole) (arg7 : Memref sig .tc .vmem S1x1x8x1024 .f32) (harg7 : arg7.IsWhole) (arg8 : Memref sig .tc .vmem S1x2048x128 .f32) (harg8 : arg8.IsWhole) (arg9 : Memref sig .tc .vmem S1x2048x128 .bf16) (harg9 : arg9.IsWhole) (arg10 : Memref sig .tc .vmem S2x2048x128 .f32) (harg10 : arg10.IsWhole) (arg11 : Memref sig .tc .vmem S1x2048x128 .f32) (harg11 : arg11.IsWhole) (arg12 : Memref sig .tc .vmem S1x1024x128 .bf16) (harg12 : arg12.IsWhole) (arg13 : Memref sig .tc .vmem S1x1024x128 .bf16) (harg13 : arg13.IsWhole) (arg14 : Memref sig .tc .vmem S1x1x8x1024 .f32) (harg14 : arg14.IsWhole) (arg15 : Memref sig .tc .vmem S2x2048x128 .f32) (harg15 : arg15.IsWhole) (arg16 : Memref sig .tc .vmem S2x128x1024 .bf16) (harg16 : arg16.IsWhole) (arg17 : Memref sig .tc .vmem S2x128x1024 .bf16) (harg17 : arg17.IsWhole) (hc0 : ¬cond0_0 i)
    (x0 : Vec F S1x2048x128 .bf16) (x1 : Vec F S1x1024x128 .bf16) (x2 : Vec F S1x1024x128 .bf16) (x3 : Vec F S2x2048x128 .f32) (x4 : Vec F S1x1x8x1024 .f32) (x5 : Vec F S1x2048x128 .f32) (x6 : Vec F S1x2048x128 .bf16) (x7 : Vec F S2x2048x128 .f32) (x8 : Vec F S1x2048x128 .f32) (xs0 : Vec F S2x2048x128 .f32) (xs1 : Vec F S2x128x1024 .bf16) (xs2 : Vec F S2x128x1024 .bf16) (y : S1x1024x128.Idx) :
    ∃ pc ∈ (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs1 xs2).2.1, y ∈ pc.1.set := by
  unfold runB; dsimp only
  exact covered_head (S := S1x1024x128) (off := ![0, 0, 0]) (by decide) inb_S1x1024x128_S1x1024x128_0_0_0 _ [] y

/-- The value gradient's block is stored whole. -/
theorem coverB_10 (c : Dev nD) (i : grid0.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S2x2048x128 .f32) (harg6 : arg6.IsWhole) (arg7 : Memref sig .tc .vmem S1x1x8x1024 .f32) (harg7 : arg7.IsWhole) (arg8 : Memref sig .tc .vmem S1x2048x128 .f32) (harg8 : arg8.IsWhole) (arg9 : Memref sig .tc .vmem S1x2048x128 .bf16) (harg9 : arg9.IsWhole) (arg10 : Memref sig .tc .vmem S2x2048x128 .f32) (harg10 : arg10.IsWhole) (arg11 : Memref sig .tc .vmem S1x2048x128 .f32) (harg11 : arg11.IsWhole) (arg12 : Memref sig .tc .vmem S1x1024x128 .bf16) (harg12 : arg12.IsWhole) (arg13 : Memref sig .tc .vmem S1x1024x128 .bf16) (harg13 : arg13.IsWhole) (arg14 : Memref sig .tc .vmem S1x1x8x1024 .f32) (harg14 : arg14.IsWhole) (arg15 : Memref sig .tc .vmem S2x2048x128 .f32) (harg15 : arg15.IsWhole) (arg16 : Memref sig .tc .vmem S2x128x1024 .bf16) (harg16 : arg16.IsWhole) (arg17 : Memref sig .tc .vmem S2x128x1024 .bf16) (harg17 : arg17.IsWhole) (hc0 : ¬cond0_0 i)
    (x0 : Vec F S1x2048x128 .bf16) (x1 : Vec F S1x1024x128 .bf16) (x2 : Vec F S1x1024x128 .bf16) (x3 : Vec F S2x2048x128 .f32) (x4 : Vec F S1x1x8x1024 .f32) (x5 : Vec F S1x2048x128 .f32) (x6 : Vec F S1x2048x128 .bf16) (x7 : Vec F S2x2048x128 .f32) (x8 : Vec F S1x2048x128 .f32) (xs0 : Vec F S2x2048x128 .f32) (xs1 : Vec F S2x128x1024 .bf16) (xs2 : Vec F S2x128x1024 .bf16) (y : S1x1024x128.Idx) :
    ∃ pc ∈ (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs1 xs2).2.2.1, y ∈ pc.1.set := by
  unfold runB; dsimp only
  exact covered_head (S := S1x1024x128) (off := ![0, 0, 0]) (by decide) inb_S1x1024x128_S1x1024x128_0_0_0 _ [] y

/-- The gate gradient's block was zeroed whole. -/
theorem coverB_11 (c : Dev nD) (i : grid0.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S2x2048x128 .f32) (harg6 : arg6.IsWhole) (arg7 : Memref sig .tc .vmem S1x1x8x1024 .f32) (harg7 : arg7.IsWhole) (arg8 : Memref sig .tc .vmem S1x2048x128 .f32) (harg8 : arg8.IsWhole) (arg9 : Memref sig .tc .vmem S1x2048x128 .bf16) (harg9 : arg9.IsWhole) (arg10 : Memref sig .tc .vmem S2x2048x128 .f32) (harg10 : arg10.IsWhole) (arg11 : Memref sig .tc .vmem S1x2048x128 .f32) (harg11 : arg11.IsWhole) (arg12 : Memref sig .tc .vmem S1x1024x128 .bf16) (harg12 : arg12.IsWhole) (arg13 : Memref sig .tc .vmem S1x1024x128 .bf16) (harg13 : arg13.IsWhole) (arg14 : Memref sig .tc .vmem S1x1x8x1024 .f32) (harg14 : arg14.IsWhole) (arg15 : Memref sig .tc .vmem S2x2048x128 .f32) (harg15 : arg15.IsWhole) (arg16 : Memref sig .tc .vmem S2x128x1024 .bf16) (harg16 : arg16.IsWhole) (arg17 : Memref sig .tc .vmem S2x128x1024 .bf16) (harg17 : arg17.IsWhole) (hc0 : ¬cond0_0 i)
    (x0 : Vec F S1x2048x128 .bf16) (x1 : Vec F S1x1024x128 .bf16) (x2 : Vec F S1x1024x128 .bf16) (x3 : Vec F S2x2048x128 .f32) (x4 : Vec F S1x1x8x1024 .f32) (x5 : Vec F S1x2048x128 .f32) (x6 : Vec F S1x2048x128 .bf16) (x7 : Vec F S2x2048x128 .f32) (x8 : Vec F S1x2048x128 .f32) (xs0 : Vec F S2x2048x128 .f32) (xs1 : Vec F S2x128x1024 .bf16) (xs2 : Vec F S2x128x1024 .bf16) (y : S1x1x8x1024.Idx) :
    ∃ pc ∈ (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs1 xs2).2.2.2.1, y ∈ pc.1.set := by
  unfold runB; dsimp only
  refine covered_of_mem _ ⟨Rect.unit ![0, 0, 0, 0] S1x1x8x1024.size inb_S1x1x8x1024_S1x1x8x1024_0_0_0_0, k0_pay53⟩ ?_ (mem_whole (by decide) inb_S1x1x8x1024_S1x1x8x1024_0_0_0_0) y
  unfold runB.sl.H11_1
  exact List.mem_cons_of_mem _ (List.mem_cons_of_mem _ (List.mem_cons_self ..))

/-- Scratch 0 is stored whole, tile by tile. -/
theorem scoverA_0 (c : Dev nD) (i : grid0.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S2x2048x128 .f32) (harg6 : arg6.IsWhole) (arg7 : Memref sig .tc .vmem S1x1x8x1024 .f32) (harg7 : arg7.IsWhole) (arg8 : Memref sig .tc .vmem S1x2048x128 .f32) (harg8 : arg8.IsWhole) (arg9 : Memref sig .tc .vmem S1x2048x128 .bf16) (harg9 : arg9.IsWhole) (arg10 : Memref sig .tc .vmem S2x2048x128 .f32) (harg10 : arg10.IsWhole) (arg11 : Memref sig .tc .vmem S1x2048x128 .f32) (harg11 : arg11.IsWhole) (arg12 : Memref sig .tc .vmem S1x1024x128 .bf16) (harg12 : arg12.IsWhole) (arg13 : Memref sig .tc .vmem S1x1024x128 .bf16) (harg13 : arg13.IsWhole) (arg14 : Memref sig .tc .vmem S1x1x8x1024 .f32) (harg14 : arg14.IsWhole) (arg15 : Memref sig .tc .vmem S2x2048x128 .f32) (harg15 : arg15.IsWhole) (arg16 : Memref sig .tc .vmem S2x128x1024 .bf16) (harg16 : arg16.IsWhole) (arg17 : Memref sig .tc .vmem S2x128x1024 .bf16) (harg17 : arg17.IsWhole) (hc0 : cond0_0 i)
    (x0 : Vec F S1x2048x128 .bf16) (x1 : Vec F S1x1024x128 .bf16) (x2 : Vec F S1x1024x128 .bf16) (x3 : Vec F S2x2048x128 .f32) (x4 : Vec F S1x1x8x1024 .f32) (x5 : Vec F S1x2048x128 .f32) (x6 : Vec F S1x2048x128 .bf16) (x7 : Vec F S2x2048x128 .f32) (y : S2x2048x128.Idx) :
    ∃ pc ∈ (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.1, y ∈ pc.1.set := by
  exact View.cover_of_tiledL (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.1 S1x1024x128.size (by sl_kernel_rfl) y

/-- Scratch 1 is stored whole, tile by tile. -/
theorem scoverA_1 (c : Dev nD) (i : grid0.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S2x2048x128 .f32) (harg6 : arg6.IsWhole) (arg7 : Memref sig .tc .vmem S1x1x8x1024 .f32) (harg7 : arg7.IsWhole) (arg8 : Memref sig .tc .vmem S1x2048x128 .f32) (harg8 : arg8.IsWhole) (arg9 : Memref sig .tc .vmem S1x2048x128 .bf16) (harg9 : arg9.IsWhole) (arg10 : Memref sig .tc .vmem S2x2048x128 .f32) (harg10 : arg10.IsWhole) (arg11 : Memref sig .tc .vmem S1x2048x128 .f32) (harg11 : arg11.IsWhole) (arg12 : Memref sig .tc .vmem S1x1024x128 .bf16) (harg12 : arg12.IsWhole) (arg13 : Memref sig .tc .vmem S1x1024x128 .bf16) (harg13 : arg13.IsWhole) (arg14 : Memref sig .tc .vmem S1x1x8x1024 .f32) (harg14 : arg14.IsWhole) (arg15 : Memref sig .tc .vmem S2x2048x128 .f32) (harg15 : arg15.IsWhole) (arg16 : Memref sig .tc .vmem S2x128x1024 .bf16) (harg16 : arg16.IsWhole) (arg17 : Memref sig .tc .vmem S2x128x1024 .bf16) (harg17 : arg17.IsWhole) (hc0 : cond0_0 i)
    (x0 : Vec F S1x2048x128 .bf16) (x1 : Vec F S1x1024x128 .bf16) (x2 : Vec F S1x1024x128 .bf16) (x3 : Vec F S2x2048x128 .f32) (x4 : Vec F S1x1x8x1024 .f32) (x5 : Vec F S1x2048x128 .f32) (x6 : Vec F S1x2048x128 .bf16) (x7 : Vec F S2x2048x128 .f32) (y : S2x128x1024.Idx) :
    ∃ pc ∈ (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.1, y ∈ pc.1.set := by
  exact View.cover_of_tiledL (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.1 S1x128x1024.size (by sl_kernel_rfl) y

/-- Scratch 2 is stored whole, tile by tile. -/
theorem scoverA_2 (c : Dev nD) (i : grid0.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S2x2048x128 .f32) (harg6 : arg6.IsWhole) (arg7 : Memref sig .tc .vmem S1x1x8x1024 .f32) (harg7 : arg7.IsWhole) (arg8 : Memref sig .tc .vmem S1x2048x128 .f32) (harg8 : arg8.IsWhole) (arg9 : Memref sig .tc .vmem S1x2048x128 .bf16) (harg9 : arg9.IsWhole) (arg10 : Memref sig .tc .vmem S2x2048x128 .f32) (harg10 : arg10.IsWhole) (arg11 : Memref sig .tc .vmem S1x2048x128 .f32) (harg11 : arg11.IsWhole) (arg12 : Memref sig .tc .vmem S1x1024x128 .bf16) (harg12 : arg12.IsWhole) (arg13 : Memref sig .tc .vmem S1x1024x128 .bf16) (harg13 : arg13.IsWhole) (arg14 : Memref sig .tc .vmem S1x1x8x1024 .f32) (harg14 : arg14.IsWhole) (arg15 : Memref sig .tc .vmem S2x2048x128 .f32) (harg15 : arg15.IsWhole) (arg16 : Memref sig .tc .vmem S2x128x1024 .bf16) (harg16 : arg16.IsWhole) (arg17 : Memref sig .tc .vmem S2x128x1024 .bf16) (harg17 : arg17.IsWhole) (hc0 : cond0_0 i)
    (x0 : Vec F S1x2048x128 .bf16) (x1 : Vec F S1x1024x128 .bf16) (x2 : Vec F S1x1024x128 .bf16) (x3 : Vec F S2x2048x128 .f32) (x4 : Vec F S1x1x8x1024 .f32) (x5 : Vec F S1x2048x128 .f32) (x6 : Vec F S1x2048x128 .bf16) (x7 : Vec F S2x2048x128 .f32) (y : S2x128x1024.Idx) :
    ∃ pc ∈ (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.2.1, y ∈ pc.1.set := by
  exact View.cover_of_tiledL (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.2.1 S1x128x1024.size (by sl_kernel_rfl) y

end Cert.KernelIdeal.Fox

end
-- ==== Proof.Fox.Frame.lean ====
/- The attention backward's launch: what every grid point leaves in the staging buffers and the scratch, the body's
   obligation at every point, the run of the whole program, and its frame. -/
module

public import proofs.«01_k».proof.Proof.Fox.Cover
public import Idealize.ShloMosaic.Lib.Claim

@[expose] public section

-- rectangles of production extents
set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point before. -/
abbrev prev (t : Fin cfg0.N) : Fin cfg0.N := ⟨t.val - 1, Nat.lt_of_le_of_lt (Nat.sub_le _ _) t.isLt⟩

theorem prev_even {t : Fin cfg0.N} (h : ¬t.val % 2 = 0) : (prev t).val % 2 = 0 := by show (t.val - 1) % 2 = 0; omega

/-- The body's pieces at a first key block: those the run found, at the point's buffers and blocks. -/
abbrev runAt_A (c : Dev nD) (t : Fin cfg0.N) (h : t.val % 2 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h) (iblk m c 0 t) (iblk m c 1 t) (iblk m c 2 t) (iblk m c 3 t) (iblk m c 4 t) (iblk m c 5 t) (iblk m c 6 t) (iblk m c 7 t)

/-- What a first key block leaves in the query gradient's buffer. -/
def dqA (c : Dev nD) (t : Fin cfg0.N) (h : t.val % 2 = 0) : Vec F S1x2048x128 .f32 :=
  (ms0_8 t).view.read (Elt F) ((ms0_8 t).view.writes (Elt F) (ms0_8 t).view.junk (runAt_A m c t h).1)
/-- What a first key block leaves in the key gradient's buffer. -/
def dkA (c : Dev nD) (t : Fin cfg0.N) (h : t.val % 2 = 0) : Vec F S1x1024x128 .bf16 :=
  (ms0_9 t).view.read (Elt F) ((ms0_9 t).view.writes (Elt F) (ms0_9 t).view.junk (runAt_A m c t h).2.1)
/-- What a first key block leaves in the value gradient's buffer. -/
def dvA (c : Dev nD) (t : Fin cfg0.N) (h : t.val % 2 = 0) : Vec F S1x1024x128 .bf16 :=
  (ms0_10 t).view.read (Elt F) ((ms0_10 t).view.writes (Elt F) (ms0_10 t).view.junk (runAt_A m c t h).2.2.1)
/-- What a first key block leaves in the gate gradient's buffer. -/
def dfA (c : Dev nD) (t : Fin cfg0.N) (h : t.val % 2 = 0) : Vec F S1x1x8x1024 .f32 :=
  (ms0_11 t).view.read (Elt F) ((ms0_11 t).view.writes (Elt F) (ms0_11 t).view.junk (runAt_A m c t h).2.2.2.1)
/-- What a first key block leaves in scratch 0. -/
def deltaA (c : Dev nD) (t : Fin cfg0.N) (h : t.val % 2 = 0) : Vec F S2x2048x128 .f32 :=
  VS0_0.read (Elt F) (VS0_0.writes (Elt F) VS0_0.junk (runAt_A m c t h).2.2.2.2.1)
/-- What a first key block leaves in scratch 1. -/
def qTA (c : Dev nD) (t : Fin cfg0.N) (h : t.val % 2 = 0) : Vec F S2x128x1024 .bf16 :=
  VS0_1.read (Elt F) (VS0_1.writes (Elt F) VS0_1.junk (runAt_A m c t h).2.2.2.2.2.1)
/-- What a first key block leaves in scratch 2. -/
def doTA (c : Dev nD) (t : Fin cfg0.N) (h : t.val % 2 = 0) : Vec F S2x128x1024 .bf16 :=
  VS0_2.read (Elt F) (VS0_2.writes (Elt F) VS0_2.junk (runAt_A m c t h).2.2.2.2.2.2.1)

/-- The body's pieces at a second key block: over what the first left in the query gradient and the scratch. -/
abbrev runAt_B (c : Dev nD) (t : Fin cfg0.N) (h : ¬t.val % 2 = 0) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t)
    (dqA m c (prev t) (prev_even h)) (deltaA m c (prev t) (prev_even h)) (qTA m c (prev t) (prev_even h)) (doTA m c (prev t) (prev_even h))

/-- What a second key block leaves in the query gradient's buffer. -/
def dqB (c : Dev nD) (t : Fin cfg0.N) (h : ¬t.val % 2 = 0) : Vec F S1x2048x128 .f32 :=
  (ms0_8 t).view.read (Elt F) ((ms0_8 t).view.writes (Elt F) ((hs0_8 t).unread (dqA m c (prev t) (prev_even h))) (runAt_B m c t h).1)
/-- What a second key block leaves in the key gradient's buffer. -/
def dkB (c : Dev nD) (t : Fin cfg0.N) (h : ¬t.val % 2 = 0) : Vec F S1x1024x128 .bf16 :=
  (ms0_9 t).view.read (Elt F) ((ms0_9 t).view.writes (Elt F) (ms0_9 t).view.junk (runAt_B m c t h).2.1)
/-- What a second key block leaves in the value gradient's buffer. -/
def dvB (c : Dev nD) (t : Fin cfg0.N) (h : ¬t.val % 2 = 0) : Vec F S1x1024x128 .bf16 :=
  (ms0_10 t).view.read (Elt F) ((ms0_10 t).view.writes (Elt F) (ms0_10 t).view.junk (runAt_B m c t h).2.2.1)
/-- What a second key block leaves in the gate gradient's buffer. -/
def dfB (c : Dev nD) (t : Fin cfg0.N) (h : ¬t.val % 2 = 0) : Vec F S1x1x8x1024 .f32 :=
  (ms0_11 t).view.read (Elt F) ((ms0_11 t).view.writes (Elt F) (ms0_11 t).view.junk (runAt_B m c t h).2.2.2.1)
/-- What point `t` leaves in the query gradient's buffer. -/
def dqAt (c : Dev nD) (t : Fin cfg0.N) : Vec F S1x2048x128 .f32 :=
  if h : t.val % 2 = 0 then dqA m c t h else dqB m c t h
theorem dqAt_A (c : Dev nD) (t : Fin cfg0.N) (h : t.val % 2 = 0) : dqAt m c t = dqA m c t h := dif_pos h
theorem dqAt_B (c : Dev nD) (t : Fin cfg0.N) (h : ¬t.val % 2 = 0) : dqAt m c t = dqB m c t h := dif_neg h
/-- What point `t` leaves in the key gradient's buffer. -/
def dkAt (c : Dev nD) (t : Fin cfg0.N) : Vec F S1x1024x128 .bf16 :=
  if h : t.val % 2 = 0 then dkA m c t h else dkB m c t h
theorem dkAt_A (c : Dev nD) (t : Fin cfg0.N) (h : t.val % 2 = 0) : dkAt m c t = dkA m c t h := dif_pos h
theorem dkAt_B (c : Dev nD) (t : Fin cfg0.N) (h : ¬t.val % 2 = 0) : dkAt m c t = dkB m c t h := dif_neg h
/-- What point `t` leaves in the value gradient's buffer. -/
def dvAt (c : Dev nD) (t : Fin cfg0.N) : Vec F S1x1024x128 .bf16 :=
  if h : t.val % 2 = 0 then dvA m c t h else dvB m c t h
theorem dvAt_A (c : Dev nD) (t : Fin cfg0.N) (h : t.val % 2 = 0) : dvAt m c t = dvA m c t h := dif_pos h
theorem dvAt_B (c : Dev nD) (t : Fin cfg0.N) (h : ¬t.val % 2 = 0) : dvAt m c t = dvB m c t h := dif_neg h
/-- What point `t` leaves in the gate gradient's buffer. -/
def dfAt (c : Dev nD) (t : Fin cfg0.N) : Vec F S1x1x8x1024 .f32 :=
  if h : t.val % 2 = 0 then dfA m c t h else dfB m c t h
theorem dfAt_A (c : Dev nD) (t : Fin cfg0.N) (h : t.val % 2 = 0) : dfAt m c t = dfA m c t h := dif_pos h
theorem dfAt_B (c : Dev nD) (t : Fin cfg0.N) (h : ¬t.val % 2 = 0) : dfAt m c t = dfB m c t h := dif_neg h
/-- What point `t` leaves in scratch 0. -/
def deltaAt (c : Dev nD) (t : Fin cfg0.N) : Vec F S2x2048x128 .f32 :=
  if h : t.val % 2 = 0 then deltaA m c t h else deltaA m c (prev t) (prev_even h)
theorem deltaAt_A (c : Dev nD) (t : Fin cfg0.N) (h : t.val % 2 = 0) : deltaAt m c t = deltaA m c t h := dif_pos h
theorem deltaAt_B (c : Dev nD) (t : Fin cfg0.N) (h : ¬t.val % 2 = 0) : deltaAt m c t = deltaA m c (prev t) (prev_even h) := dif_neg h
/-- What point `t` leaves in scratch 1. -/
def qTAt (c : Dev nD) (t : Fin cfg0.N) : Vec F S2x128x1024 .bf16 :=
  if h : t.val % 2 = 0 then qTA m c t h else qTA m c (prev t) (prev_even h)
theorem qTAt_A (c : Dev nD) (t : Fin cfg0.N) (h : t.val % 2 = 0) : qTAt m c t = qTA m c t h := dif_pos h
theorem qTAt_B (c : Dev nD) (t : Fin cfg0.N) (h : ¬t.val % 2 = 0) : qTAt m c t = qTA m c (prev t) (prev_even h) := dif_neg h
/-- What point `t` leaves in scratch 2. -/
def doTAt (c : Dev nD) (t : Fin cfg0.N) : Vec F S2x128x1024 .bf16 :=
  if h : t.val % 2 = 0 then doTA m c t h else doTA m c (prev t) (prev_even h)
theorem doTAt_A (c : Dev nD) (t : Fin cfg0.N) (h : t.val % 2 = 0) : doTAt m c t = doTA m c t h := dif_pos h
theorem doTAt_B (c : Dev nD) (t : Fin cfg0.N) (h : ¬t.val % 2 = 0) : doTAt m c t = doTA m c (prev t) (prev_even h) := dif_neg h

/-- The region's invariant: before the first point the scratch at anything, afterwards at what the point before left. -/
def PhiS (c : Dev nD) : (n : ℕ) → n ≤ cfg0.N → sProp 𝕄
  | 0, _ => Pipeline.ΦA spec0 c
  | n + 1, hn => iprop(iprop(owns (c : Thread nD τ) scM0_0 fullShare (deltaAt m c ⟨n, hn⟩) ∗ owns (c : Thread nD τ) scM0_1 fullShare (qTAt m c ⟨n, hn⟩) ∗ owns (c : Thread nD τ) scM0_2 fullShare (doTAt m c ⟨n, hn⟩)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (t : Fin cfg0.N) :
    PhiS m c (t.val + 1) t.isLt = iprop(iprop(owns (c : Thread nD τ) scM0_0 fullShare (deltaAt m c t) ∗ owns (c : Thread nD τ) scM0_1 fullShare (qTAt m c t) ∗ owns (c : Thread nD τ) scM0_2 fullShare (doTAt m c t)) ∗ (∃ r, prngReg c r)) := rfl
theorem PhiS_pos (c : Dev nD) (t : Fin cfg0.N) (hz : t.val ≠ 0) (h) :
    PhiS m c t.val h = iprop(iprop(owns (c : Thread nD τ) scM0_0 fullShare (deltaAt m c (prev t)) ∗ owns (c : Thread nD τ) scM0_1 fullShare (qTAt m c (prev t)) ∗ owns (c : Thread nD τ) scM0_2 fullShare (doTAt m c (prev t))) ∗ (∃ r, prngReg c r)) := by
  obtain ⟨n, hn⟩ := t
  cases n with
  | zero => exact absurd rfl hz
  | succ n => rfl

/-- The pipeline's proof data: each input's buffer at its block, each output's at what the point leaves in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqAt m c t
    | ⟨9, _⟩ => dkAt m c t
    | ⟨10, _⟩ => dvAt m c t
    | ⟨11, _⟩ => dfAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dqAt m c t := by dsimp only [dats]
theorem after0_9 (c : Dev nD) (t : Fin cfg0.N) : (dats m 0 c).after 9 t = dkAt m c t := by dsimp only [dats]
theorem after0_10 (c : Dev nD) (t : Fin cfg0.N) : (dats m 0 c).after 10 t = dvAt m c t := by dsimp only [dats]
theorem after0_11 (c : Dev nD) (t : Fin cfg0.N) : (dats m 0 c).after 11 t = dfAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a second key block the query gradient's buffer holds what the first left. -/
theorem before0_8 (c : Dev nD) (t : Fin cfg0.N) (h : ¬t.val % 2 = 0) (d) :
    (dats m 0 c).before 8 t d = dqA m c (prev t) (prev_even h) := by
  rw [Dat.before_out_kept _ 8 rfl t (by omega) (Bool.eq_false_iff.mpr fun h' => by have := (flush0_8 _).mp h'; dsimp only at this; omega)
    (fun _ => rfl) (fun _ _ => rfl), after0_8]
  exact dqAt_A m c _ _

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 9600000 in
/-- The body at any point: at a first key block the run over any output buffers and scratch, at a second the run over what
    the first left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ]
  have hN : t.val < 32 := lt_of_lt_of_eq t.isLt (show cfg0.N = 32 from N_0)
  by_cases h0 : t.val % 2 = 0
  · by_cases hz : t.val = 0
    · rw [PhiS_castSucc m c t, PhiS_zero m c _ _ hz, PhiA0_eq]
      rw [dqAt_A m c t h0, dkAt_A m c t h0, dvAt_A m c t h0, dfAt_A m c t h0, deltaAt_A m c t h0, qTAt_A m c t h0, doTAt_A m c t h0]
      unfold dqA dkA dvA dfA deltaA qTA doTA; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt_A m c t h0).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexact HS0
      isplitl [HS1]; · iexact HS1
      isplitl [HS2]; · iexact HS2
      iintro ⟨H0, H1, H2, H3, H4, H5, H6, H7, ⟨%e8, H8⟩, ⟨%e9, H9⟩, ⟨%e10, H10⟩, ⟨%e11, H11⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverA_0 c _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (scoverA_2 c _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (coverA_8 c _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (coverA_9 c _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (coverA_10 c _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (coverA_11 c _ _ _ _ _ _ _ _ _ _ _ _ _ _ _ _ _ _ _ _ _ _ _ _ _ _ _ _ _ _ _ _ _ _ _ _ _ _ _ _)
    · rw [PhiS_castSucc m c t, PhiS_pos m c t hz]
      rw [dqAt_A m c t h0, dkAt_A m c t h0, dvAt_A m c t h0, dfAt_A m c t h0, deltaAt_A m c t h0, qTAt_A m c t h0, doTAt_A m c t h0]
      unfold dqA dkA dvA dfA deltaA qTA doTA; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt_A m c t h0).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexists _; iexact HS0
      isplitl [HS1]; · iexists _; iexact HS1
      isplitl [HS2]; · iexists _; iexact HS2
      iintro ⟨H0, H1, H2, H3, H4, H5, H6, H7, ⟨%e8, H8⟩, ⟨%e9, H9⟩, ⟨%e10, H10⟩, ⟨%e11, H11⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverA_0 c _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (scoverA_2 c _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (coverA_8 c _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (coverA_9 c _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (coverA_10 c _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (coverA_11 c _ _ _ _ _ _ _ _ _ _ _ _ _ _ _ _ _ _ _ _ _ _ _ _ _ _ _ _ _ _ _ _ _ _ _ _ _ _ _ _)
  · have hz : t.val ≠ 0 := by omega
    rw [PhiS_castSucc m c t, PhiS_pos m c t hz]
    rw [dqAt_B m c t h0, dkAt_B m c t h0, dvAt_B m c t h0, dfAt_B m c t h0, deltaAt_B m c t h0, qTAt_B m c t h0, doTAt_B m c t h0,
     deltaAt_A m c (prev t) (prev_even h0), qTAt_A m c (prev t) (prev_even h0), doTAt_A m c (prev t) (prev_even h0)]
    simp only [before0_8 m c t h0]
    unfold dqB dkB dvB dfB; (try dsimp only)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runAt_B m c t h0).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    iintro ⟨H0, H1, H2, H3, H4, H5, H6, H7, H8, ⟨%e9, H9⟩, ⟨%e10, H10⟩, ⟨%e11, H11⟩, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; rfl
    isplitl [H9]
    · unfold owns; iexists _; isplitr
      swap; · iexact H9
      ipureintro; exact View.read_writes_of_cover _ _ _ _ _ (coverB_9 c _ _ _ _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (coverB_10 c _ _ _ _ _ _ _ _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (coverB_11 c _ _ _ _ _ _ _ _ _ _ _ _ _ _ _ _ _ _ _ _ _ _ _ _ _ _ _ _ _ _ _ _ _ _ _ _ _ _ _ _ _ _ _ _)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The invariant after the last point gives back what the launch handed over: the scratch's contents are forgotten. -/
theorem hout (c : Dev nD) : (dats m 0 c).Φ (Fin.last cfg0.N) ⊢ Pipeline.ΦA spec0 c := by
  rw [show (dats m 0 c).Φ (Fin.last cfg0.N) = PhiS m c ((⟨31, lt_of_lt_of_eq (by decide) N_0.symm⟩ : Fin cfg0.N).val + 1) (lt_of_lt_of_eq (by decide) N_0.symm) from rfl, PhiS_succ, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

-- the launch theorem's implicit arguments are found by unifying its conclusion with this one
set_option backward.isDefEq.respectTransparency.types false in
/-- The launch: every final state has every window's array at what the pipeline wrote, every other buffer at its
    region-entry contents, and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every weakly fair execution terminates with the argument arrays unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Fox

end
-- ==== Proof.Fox.Frames.lean ====
/- The frames: the kernel as printed runs as its idealization's text does at the bit-exact floats, and the reference, which
   holds no semaphore, runs as its operations do. -/
module

public import proofs.«01_k».proof.Defs
public import proofs.«01_k».proof.Proof.Fox.Frame
public import proofs.«01_k».proof.Proof.Gen.Kernel
public import proofs.«01_k».proof.Proof.Gen.ReferenceIdeal.Run

@[expose] public section

set_option maxRecDepth 100000

noncomputable section

namespace Cert.Proof

open Idealize.ShloMosaic Idealize.SL.Sem

/-- What the frame of the kernel says, of the idealization's text read at the bit-exact floats. -/
def FrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The two programs are one text: their frames at the bit-exact floats are one statement. -/
theorem frame_texts : Cert.quiescent_Kernel (hKernel := Cert.Kernel.Gen.facts) = FrameAtBits := by sl_kernel_rfl

theorem frame_kernel : Cert.quiescent_Kernel (hKernel := Cert.Kernel.Gen.facts) := by
  rw [frame_texts]
  exact fun m g _ => Cert.KernelIdeal.Fox.frame_run (F := Bits) m g

/-- The reference's run with the counters, of which its signature has none. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m g)

end Cert.Proof

end
-- ==== Proof.Fox.Spec.lean ====
/- Forgetting attention and its gradients, as real arithmetic: per batch entry and head, over the whole sequence. -/
module

public import Idealize.ShloMosaic.PureOps.Ideal

@[expose] public section

noncomputable section

namespace Cert.Attn

/-- Lane `d` of head `h` among the 1024 features. -/
def ch (h : Fin 16) (d : Fin 64) : Fin 1024 := ⟨h.val * 64 + d.val, by omega⟩

/-- The arrays of the step: queries, keys, values, the gradient of the output, the gate's cumulated logarithms, and for each
row the number its logits are shifted by before they are exponentiated (any number gives the same weights). -/
structure Step where
  q : Fin 2 → Fin 2048 → Fin 1024 → ℝ
  k : Fin 2 → Fin 2048 → Fin 1024 → ℝ
  v : Fin 2 → Fin 2048 → Fin 1024 → ℝ
  w : Fin 2 → Fin 2048 → Fin 1024 → ℝ
  g : Fin 2 → Fin 2048 → Fin 16 → ℝ
  t : Fin 2 → Fin 16 → Fin 2048 → ℝ

namespace Step
variable (s : Step) (b : Fin 2) (h : Fin 16)

/-- The logit of query `i` and key `j`. -/
def logit (i j : Fin 2048) : ℝ := (∑ d : Fin 64, s.q b i (ch h d) * s.k b j (ch h d)) * (1 / 8) + s.g b i h - s.g b j h
/-- Its exponential, zero at a later key. -/
def ex (i j : Fin 2048) : ℝ := if j ≤ i then Real.exp (s.logit b h i j - s.t b h i) else 0
/-- The sum of a row. -/
def Z (i : Fin 2048) : ℝ := ∑ j, s.ex b h i j
/-- The weights. -/
def prob (i j : Fin 2048) : ℝ := s.ex b h i j / s.Z b h i
/-- The output. -/
def out (i : Fin 2048) (d : Fin 64) : ℝ := ∑ j, s.prob b h i j * s.v b j (ch h d)
/-- The logarithm of a row's sum of exponentials. -/
def lse (i : Fin 2048) : ℝ := s.t b h i + Real.log (s.Z b h i)
/-- The gradient of a weight. -/
def dp (i j : Fin 2048) : ℝ := ∑ d : Fin 64, s.w b i (ch h d) * s.v b j (ch h d)
/-- The mean of these over a row. -/
def dl (i : Fin 2048) : ℝ := ∑ j, s.prob b h i j * s.dp b h i j
/-- The gradient of a logit. -/
def ds (i j : Fin 2048) : ℝ := s.prob b h i j * (s.dp b h i j - s.dl b h i)
/-- The gradients of the queries, the keys, the values and the gate. -/
def dq (i : Fin 2048) (d : Fin 64) : ℝ := ∑ j, s.ds b h i j * (1 / 8) * s.k b j (ch h d)
def dk (j : Fin 2048) (d : Fin 64) : ℝ := ∑ i, s.ds b h i j * (1 / 8) * s.q b i (ch h d)
def dv (j : Fin 2048) (d : Fin 64) : ℝ := ∑ i, s.w b i (ch h d) * s.prob b h i j
def df (j : Fin 2048) : ℝ := -∑ i, s.ds b h i j

theorem ex_nonneg (i j : Fin 2048) : 0 ≤ s.ex b h i j := by
  unfold ex
  split
  · exact (Real.exp_pos _).le
  · exact le_rfl

theorem Z_pos (i : Fin 2048) : 0 < s.Z b h i := by
  refine Finset.sum_pos' (fun j _ => s.ex_nonneg b h i j) ⟨i, Finset.mem_univ _, ?_⟩
  unfold ex
  rw [if_pos le_rfl]
  exact Real.exp_pos _

theorem Z_ne (i : Fin 2048) : s.Z b h i ≠ 0 := (s.Z_pos b h i).ne'

theorem sum_prob (i : Fin 2048) : ∑ j, s.prob b h i j = 1 := by
  unfold prob
  rw [← Finset.sum_div]
  exact div_self (s.Z_ne b h i)

/-- The gradients of a row of logits cancel. -/
theorem sum_ds (i : Fin 2048) : ∑ j, s.ds b h i j = 0 := by
  unfold ds
  simp only [mul_sub, Finset.sum_sub_distrib]
  rw [← Finset.sum_mul, s.sum_prob, one_mul]
  exact sub_self _

/-- The row's mean is the product of the output with its gradient. -/
theorem dl_eq (i : Fin 2048) : s.dl b h i = ∑ d : Fin 64, s.w b i (ch h d) * s.out b h i d := by
  unfold dl dp out
  simp only [Finset.mul_sum]
  rw [Finset.sum_comm]
  exact Finset.sum_congr rfl fun d _ => Finset.sum_congr rfl fun j _ => by ring

/-- A weight is the exponential of its logit less the logarithm of the sum of the row's. -/
theorem prob_eq (i j : Fin 2048) (hij : j ≤ i) : s.prob b h i j = Real.exp (s.logit b h i j - (s.t b h i + Real.log (s.Z b h i))) := by
  unfold prob ex
  rw [if_pos hij, ← sub_sub, Real.exp_sub (s.logit b h i j - s.t b h i), Real.exp_log (s.Z_pos b h i)]

theorem prob_later (i j : Fin 2048) (hij : ¬j ≤ i) : s.prob b h i j = 0 := by
  unfold prob ex
  rw [if_neg hij, zero_div]

theorem ds_later (i j : Fin 2048) (hij : ¬j ≤ i) : s.ds b h i j = 0 := by
  unfold ds
  rw [s.prob_later b h i j hij, zero_mul]

end Step
end Cert.Attn
-- ==== Proof.Fox.Payloads.lean ====
/- What the attention backward's body computes on one tile, as real arithmetic: each value of the body at an entry, when
   the values it is computed from are real. -/
module

public import proofs.«01_k».proof.Proof.Gen.KernelIdeal.Skeleton
public import Idealize.ShloMosaic.Lib.Pointwise
public import Idealize.ShloMosaic.Lib.Pipeline.Value

@[expose] public section

set_option maxRecDepth 16384

noncomputable section

namespace Cert.KernelIdeal.Fox

open Cert.KernelIdeal.Gen
open Idealize.ShloMosaic

/-- A finite sum of real numbers is the same sum in the extended reals. -/
theorem coe_sum {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The scale of the logits in the format of the queries, one eighth. -/
theorem eighth_bf16 : Ideal.ofBits .bf16 0x3E00#16 = (((1 : ℝ) / 8 : ℝ) : EReal) := by
  simp [Ideal.ofBits, Ideal.ieee, -EReal.coe_mul]; norm_num

/-- The scale of the logits in the format of the accumulators, one eighth. -/
theorem eighth_f32 : Ideal.ofBits .f32 0x3E000000#32 = (((1 : ℝ) / 8 : ℝ) : EReal) := by
  simp [Ideal.ofBits, Ideal.ieee, -EReal.coe_mul]; norm_num

/-- Eight copies of a block side by side, read at an entry, give the block's entry of the same row. -/
theorem wide_apply (v : FVec Ideal S1024x128 .f32) (f : Fin 1024 → ℝ) (hv : ∀ r n, v (ix2 r n) = ((f r : ℝ) : EReal)) (h) (j : S1024x1024.Idx) :
    concatenate S1024x1024 1 [⟨S1024x128, v⟩, ⟨S1024x128, v⟩, ⟨S1024x128, v⟩, ⟨S1024x128, v⟩, ⟨S1024x128, v⟩, ⟨S1024x128, v⟩, ⟨S1024x128, v⟩, ⟨S1024x128, v⟩] h j
      = ((f (j 0) : ℝ) : EReal) := by
  have h8 := concatenate_replicate_apply (t := S1024x1024) (s₁ := S1024x128) (1 : Fin 2) 8 v h rfl j
    (ix2 (j 0) ⟨(j 1).val % 128, Nat.mod_lt _ (by decide)⟩) rfl (by
      intro b hb
      match b with
      | ⟨0, _⟩ => rfl
      | ⟨1, _⟩ => exact absurd rfl hb)
  exact h8.trans (hv _ _)

/-- The same for a block kept with a leading axis of one. -/
theorem wide_eq (v : FVec Ideal S1x1024x128 .f32) (f : Fin 1024 → ℝ) (hv : ∀ r n, v (ix3 0 r n) = ((f r : ℝ) : EReal)) (hc) (h) :
    concatenate S1024x1024 1 [⟨S1024x128, shapeCast S1024x128 v hc⟩, ⟨S1024x128, shapeCast S1024x128 v hc⟩, ⟨S1024x128, shapeCast S1024x128 v hc⟩, ⟨S1024x128, shapeCast S1024x128 v hc⟩, ⟨S1024x128, shapeCast S1024x128 v hc⟩, ⟨S1024x128, shapeCast S1024x128 v hc⟩, ⟨S1024x128, shapeCast S1024x128 v hc⟩, ⟨S1024x128, shapeCast S1024x128 v hc⟩] h
      = fun j => ((f (j 0) : ℝ) : EReal) := by
  funext j
  refine wide_apply _ f (fun r n => ?_) h j
  refine Eq.trans ?_ (hv r n)
  pointwise

/-! ### Real arithmetic of a tile -/

/-- The probability of key `c` for query `r`: the logit with its forget gates, taken down by the logarithm of the sum. -/
def pU (q k : Fin 1024 → Fin 64 → ℝ) (fq fk l : Fin 1024 → ℝ) (r c : Fin 1024) : ℝ :=
  Real.exp ((∑ d, q r d * (1 / 8) * k c d) + fq r - fk c - l r)

/-- The same in a block on the diagonal: a key after the query has none. -/
def pM (q k : Fin 1024 → Fin 64 → ℝ) (fq fk l : Fin 1024 → ℝ) (r c : Fin 1024) : ℝ :=
  if c ≤ r then pU q k fq fk l r c else 0

/-- The gradient of the logit. -/
def dS (p : Fin 1024 → Fin 1024 → ℝ) (w v : Fin 1024 → Fin 64 → ℝ) (dl : Fin 1024 → ℝ) (r c : Fin 1024) : ℝ :=
  p r c * ((∑ d, w r d * v c d) - dl r)

theorem wide_eq2 (v : FVec Ideal S1024x128 .f32) (f : Fin 1024 → ℝ) (hv : ∀ r n, v (ix2 r n) = ((f r : ℝ) : EReal)) (h) :
    concatenate S1024x1024 1 [⟨S1024x128, v⟩, ⟨S1024x128, v⟩, ⟨S1024x128, v⟩, ⟨S1024x128, v⟩, ⟨S1024x128, v⟩, ⟨S1024x128, v⟩, ⟨S1024x128, v⟩, ⟨S1024x128, v⟩] h
      = fun j => ((f (j 0) : ℝ) : EReal) := funext fun j => wide_apply v f hv h j

/-- The pattern of minus infinity. -/
theorem ofBits_neg_inf_f32 : Ideal.ofBits .f32 4286578688#32 = ⊥ := by
  simp [Ideal.ofBits, Ideal.ieee]

/-- The probabilities of a block of queries that all come after the block of keys. -/
theorem pay30_val (cst : Ideal .bf16) (hcst : cst = (((1 : ℝ) / 8 : ℝ) : EReal)) (v8 : FVec Ideal S1024x64 .bf16) (v12 : FVec Ideal S1x1024 .f32) (v172 : FVec Ideal S1x1024x64 .bf16) (v178 : FVec Ideal S1x1024x128 .f32) (v185 : FVec Ideal S1x1024x128 .f32) (k : Fin 1024 → Fin 64 → ℝ) (fk : Fin 1024 → ℝ) (q : Fin 1024 → Fin 64 → ℝ) (fq : Fin 1024 → ℝ) (l : Fin 1024 → ℝ) (hv8 : ∀ r d, v8 (ix2 r d) = ((k r d : ℝ) : EReal)) (hv12 : ∀ c, v12 (ix2 0 c) = ((fk c : ℝ) : EReal)) (hv172 : ∀ r d, v172 (ix3 0 r d) = ((q r d : ℝ) : EReal)) (hv178 : ∀ r n, v178 (ix3 0 r n) = ((fq r : ℝ) : EReal)) (hv185 : ∀ r n, v185 (ix3 0 r n) = ((l r : ℝ) : EReal)) (r c : Fin 1024) :
    k0_pay30 (F := Ideal) v8 v12 cst v172 v178 v185 (ix2 r c) = ((pU q k fq fk l r c : ℝ) : EReal) := by
  unfold k0_pay30
  simp only [wide_eq _ _ hv178, wide_eq _ _ hv185]
  pointwise
  simp only [hv8, hv12, hv172, hcst, coe_sum, ← EReal.coe_mul, ← EReal.coe_add, ← EReal.coe_sub]
  rfl

/-- The probabilities of a block of queries that all come after the block of keys. -/
theorem pay38_val (cst : Ideal .bf16) (hcst : cst = (((1 : ℝ) / 8 : ℝ) : EReal)) (v14 : FVec Ideal S1024x64 .bf16) (v18 : FVec Ideal S1x1024 .f32) (v227 : FVec Ideal S1x1024x64 .bf16) (v233 : FVec Ideal S1x1024x128 .f32) (v240 : FVec Ideal S1x1024x128 .f32) (k : Fin 1024 → Fin 64 → ℝ) (fk : Fin 1024 → ℝ) (q : Fin 1024 → Fin 64 → ℝ) (fq : Fin 1024 → ℝ) (l : Fin 1024 → ℝ) (hv14 : ∀ r d, v14 (ix2 r d) = ((k r d : ℝ) : EReal)) (hv18 : ∀ c, v18 (ix2 0 c) = ((fk c : ℝ) : EReal)) (hv227 : ∀ r d, v227 (ix3 0 r d) = ((q r d : ℝ) : EReal)) (hv233 : ∀ r n, v233 (ix3 0 r n) = ((fq r : ℝ) : EReal)) (hv240 : ∀ r n, v240 (ix3 0 r n) = ((l r : ℝ) : EReal)) (r c : Fin 1024) :
    k0_pay38 (F := Ideal) v14 v18 cst v227 v233 v240 (ix2 r c) = ((pU q k fq fk l r c : ℝ) : EReal) := by
  unfold k0_pay38
  simp only [wide_eq _ _ hv233, wide_eq _ _ hv240]
  pointwise
  simp only [hv14, hv18, hv227, hcst, coe_sum, ← EReal.coe_mul, ← EReal.coe_add, ← EReal.coe_sub]
  rfl

/-- The probabilities of a block of queries against the block of keys at the same place. -/
theorem pay63_val (v0 v1 : IVec S1024x1024 32) (hm : ∀ r c, IntOp.cmpi .sge (v0 (ix2 r c)) (v1 (ix2 r c)) = if c ≤ r then 1#1 else 0#1) (v8 : FVec Ideal S1024x64 .bf16) (v12 : FVec Ideal S1x1024 .f32) (v28 : FVec Ideal S1x1024x64 .bf16) (v34 : FVec Ideal S1x1024x128 .f32) (v44 : FVec Ideal S1x1024x128 .f32) (k : Fin 1024 → Fin 64 → ℝ) (fk : Fin 1024 → ℝ) (q : Fin 1024 → Fin 64 → ℝ) (fq : Fin 1024 → ℝ) (l : Fin 1024 → ℝ) (hv8 : ∀ r d, v8 (ix2 r d) = ((k r d : ℝ) : EReal)) (hv12 : ∀ c, v12 (ix2 0 c) = ((fk c : ℝ) : EReal)) (hv28 : ∀ r d, v28 (ix3 0 r d) = ((q r d : ℝ) : EReal)) (hv34 : ∀ r n, v34 (ix3 0 r n) = ((fq r : ℝ) : EReal)) (hv44 : ∀ r n, v44 (ix3 0 r n) = ((l r : ℝ) : EReal)) (r c : Fin 1024) :
    k0_pay63 (F := Ideal) v0 v1 v8 v12 v28 v34 v44 (ix2 r c) = ((pM q k fq fk l r c : ℝ) : EReal) := by
  unfold k0_pay63
  simp only [wide_eq _ _ hv34, wide_eq _ _ hv44]
  pointwise
  rw [hm]
  by_cases hrc : c ≤ r
  · rw [if_pos hrc, pM, if_pos hrc]
    show Ideal.exp (_ - _) = _
    simp only [hv8, hv12, hv28, eighth_bf16, coe_sum, ← EReal.coe_mul, ← EReal.coe_add, ← EReal.coe_sub]
    rfl
  · rw [if_neg hrc, pM, if_neg hrc]
    show Ideal.exp (Ideal.ofBits .f32 4286578688#32 - _) = _
    rw [ofBits_neg_inf_f32, EReal.bot_sub]
    exact EReal.coe_zero.symm

/-- The gradient of the logits of that block. -/
theorem pay31_val (cst : Ideal .bf16) (hcst : cst = (((1 : ℝ) / 8 : ℝ) : EReal)) (v8 : FVec Ideal S1024x64 .bf16) (v10 : FVec Ideal S1024x64 .bf16) (v12 : FVec Ideal S1x1024 .f32) (v169 : FVec Ideal S1x1024x64 .bf16) (v172 : FVec Ideal S1x1024x64 .bf16) (v178 : FVec Ideal S1x1024x128 .f32) (v185 : FVec Ideal S1x1024x128 .f32) (v192 : FVec Ideal S1x1024x128 .f32) (k : Fin 1024 → Fin 64 → ℝ) (v : Fin 1024 → Fin 64 → ℝ) (fk : Fin 1024 → ℝ) (w : Fin 1024 → Fin 64 → ℝ) (q : Fin 1024 → Fin 64 → ℝ) (fq : Fin 1024 → ℝ) (l : Fin 1024 → ℝ) (dl : Fin 1024 → ℝ) (hv8 : ∀ r d, v8 (ix2 r d) = ((k r d : ℝ) : EReal)) (hv10 : ∀ r d, v10 (ix2 r d) = ((v r d : ℝ) : EReal)) (hv12 : ∀ c, v12 (ix2 0 c) = ((fk c : ℝ) : EReal)) (hv169 : ∀ r d, v169 (ix3 0 r d) = ((w r d : ℝ) : EReal)) (hv172 : ∀ r d, v172 (ix3 0 r d) = ((q r d : ℝ) : EReal)) (hv178 : ∀ r n, v178 (ix3 0 r n) = ((fq r : ℝ) : EReal)) (hv185 : ∀ r n, v185 (ix3 0 r n) = ((l r : ℝ) : EReal)) (hv192 : ∀ r n, v192 (ix3 0 r n) = ((dl r : ℝ) : EReal)) (r c : Fin 1024) :
    k0_pay31 (F := Ideal) v8 v10 v12 cst v169 v172 v178 v185 v192 (ix2 r c) = ((dS (pU q k fq fk l) w v dl r c : ℝ) : EReal) := by
  unfold k0_pay31
  simp only [wide_eq _ _ hv192]
  have hp := fun r c => pay30_val cst hcst v8 v12 v172 v178 v185 k fk q fq l hv8 hv12 hv172 hv178 hv185 r c
  pointwise
  simp only [hp, hv169, hv10, coe_sum, ← EReal.coe_mul, ← EReal.coe_sub]
  rfl

/-- The gradient of the logits of that block. -/
theorem pay64_val (v0 v1 : IVec S1024x1024 32) (hm : ∀ r c, IntOp.cmpi .sge (v0 (ix2 r c)) (v1 (ix2 r c)) = if c ≤ r then 1#1 else 0#1) (v8 : FVec Ideal S1024x64 .bf16) (v10 : FVec Ideal S1024x64 .bf16) (v12 : FVec Ideal S1x1024 .f32) (v25 : FVec Ideal S1x1024x64 .bf16) (v28 : FVec Ideal S1x1024x64 .bf16) (v34 : FVec Ideal S1x1024x128 .f32) (v44 : FVec Ideal S1x1024x128 .f32) (v51 : FVec Ideal S1x1024x128 .f32) (k : Fin 1024 → Fin 64 → ℝ) (v : Fin 1024 → Fin 64 → ℝ) (fk : Fin 1024 → ℝ) (w : Fin 1024 → Fin 64 → ℝ) (q : Fin 1024 → Fin 64 → ℝ) (fq : Fin 1024 → ℝ) (l : Fin 1024 → ℝ) (dl : Fin 1024 → ℝ) (hv8 : ∀ r d, v8 (ix2 r d) = ((k r d : ℝ) : EReal)) (hv10 : ∀ r d, v10 (ix2 r d) = ((v r d : ℝ) : EReal)) (hv12 : ∀ c, v12 (ix2 0 c) = ((fk c : ℝ) : EReal)) (hv25 : ∀ r d, v25 (ix3 0 r d) = ((w r d : ℝ) : EReal)) (hv28 : ∀ r d, v28 (ix3 0 r d) = ((q r d : ℝ) : EReal)) (hv34 : ∀ r n, v34 (ix3 0 r n) = ((fq r : ℝ) : EReal)) (hv44 : ∀ r n, v44 (ix3 0 r n) = ((l r : ℝ) : EReal)) (hv51 : ∀ r n, v51 (ix3 0 r n) = ((dl r : ℝ) : EReal)) (r c : Fin 1024) :
    k0_pay64 (F := Ideal) v0 v1 v8 v10 v12 v25 v28 v34 v44 v51 (ix2 r c) = ((dS (pM q k fq fk l) w v dl r c : ℝ) : EReal) := by
  unfold k0_pay64
  simp only [wide_eq _ _ hv51]
  have hp := fun r c => pay63_val v0 v1 hm v8 v12 v28 v34 v44 k fk q fq l hv8 hv12 hv28 hv34 hv44 r c
  pointwise
  simp only [hp, hv25, hv10, coe_sum, ← EReal.coe_mul, ← EReal.coe_sub]
  rfl

/-- The products of the gradient of the output with the values. -/
theorem pay39_val (v16 : FVec Ideal S1024x64 .bf16) (v224 : FVec Ideal S1x1024x64 .bf16) (v : Fin 1024 → Fin 64 → ℝ) (w : Fin 1024 → Fin 64 → ℝ) (hv16 : ∀ r d, v16 (ix2 r d) = ((v r d : ℝ) : EReal)) (hv224 : ∀ r d, v224 (ix3 0 r d) = ((w r d : ℝ) : EReal)) (r c : Fin 1024) :
    k0_pay39 (F := Ideal) v16 v224 (ix2 r c) = ((∑ d, w r d * v c d : ℝ) : EReal) := by
  unfold k0_pay39
  pointwise
  simp only [hv16, hv224, coe_sum, ← EReal.coe_mul]

/-- The gradient of the logits of a block, from its probabilities. -/
theorem pay1_val (v244 : FVec Ideal S1024x1024 .f32) (v245 : FVec Ideal S1024x1024 .f32) (v247 : FVec Ideal S1x1024x128 .f32) (p : Fin 1024 → Fin 1024 → ℝ) (dp : Fin 1024 → Fin 1024 → ℝ) (dl : Fin 1024 → ℝ) (hv244 : ∀ r c, v244 (ix2 r c) = ((p r c : ℝ) : EReal)) (hv245 : ∀ r c, v245 (ix2 r c) = ((dp r c : ℝ) : EReal)) (hv247 : ∀ r n, v247 (ix3 0 r n) = ((dl r : ℝ) : EReal)) (r c : Fin 1024) :
    k0_pay1 (F := Ideal) v244 v245 v247 (ix2 r c) = ((p r c * (dp r c - dl r) : ℝ) : EReal) := by
  unfold k0_pay1
  simp only [wide_eq _ _ hv247]
  pointwise
  simp only [hv244, hv245, ← EReal.coe_mul, ← EReal.coe_sub]

/-- The same, rounded. -/
theorem pay2_val (v244 : FVec Ideal S1024x1024 .f32) (v245 : FVec Ideal S1024x1024 .f32) (v247 : FVec Ideal S1x1024x128 .f32) (p : Fin 1024 → Fin 1024 → ℝ) (dp : Fin 1024 → Fin 1024 → ℝ) (dl : Fin 1024 → ℝ) (hv244 : ∀ r c, v244 (ix2 r c) = ((p r c : ℝ) : EReal)) (hv245 : ∀ r c, v245 (ix2 r c) = ((dp r c : ℝ) : EReal)) (hv247 : ∀ r n, v247 (ix3 0 r n) = ((dl r : ℝ) : EReal)) (r c : Fin 1024) :
    k0_pay2 (F := Ideal) v244 v245 v247 (ix2 r c) = ((p r c * (dp r c - dl r) : ℝ) : EReal) := by
  unfold k0_pay2
  have hp := fun r c => pay1_val v244 v245 v247 p dp dl hv244 hv245 hv247 r c
  pointwise
  exact hp r c

/-- The gradient of the values takes up a block of queries. -/
theorem pay33_val (cst : Ideal .bf16) (hcst : cst = (((1 : ℝ) / 8 : ℝ) : EReal)) (v8 : FVec Ideal S1024x64 .bf16) (v12 : FVec Ideal S1x1024 .f32) (arg20 : FVec Ideal S64x1024 .f32) (v172 : FVec Ideal S1x1024x64 .bf16) (v178 : FVec Ideal S1x1024x128 .f32) (v185 : FVec Ideal S1x1024x128 .f32) (v199 : FVec Ideal S1x64x1024 .bf16) (k : Fin 1024 → Fin 64 → ℝ) (fk : Fin 1024 → ℝ) (a : Fin 64 → Fin 1024 → ℝ) (q : Fin 1024 → Fin 64 → ℝ) (fq : Fin 1024 → ℝ) (l : Fin 1024 → ℝ) (y : Fin 64 → Fin 1024 → ℝ) (hv8 : ∀ r d, v8 (ix2 r d) = ((k r d : ℝ) : EReal)) (hv12 : ∀ c, v12 (ix2 0 c) = ((fk c : ℝ) : EReal)) (harg20 : ∀ d c, arg20 (ix2 d c) = ((a d c : ℝ) : EReal)) (hv172 : ∀ r d, v172 (ix3 0 r d) = ((q r d : ℝ) : EReal)) (hv178 : ∀ r n, v178 (ix3 0 r n) = ((fq r : ℝ) : EReal)) (hv185 : ∀ r n, v185 (ix3 0 r n) = ((l r : ℝ) : EReal)) (hv199 : ∀ d r, v199 (ix3 0 d r) = ((y d r : ℝ) : EReal)) (d : Fin 64) (c : Fin 1024) :
    k0_pay33 (F := Ideal) v8 v12 cst arg20 v172 v178 v185 v199 (ix2 d c) = ((a d c + ∑ r, y d r * pU q k fq fk l r c : ℝ) : EReal) := by
  unfold k0_pay33
  have hp := fun r c => pay30_val cst hcst v8 v12 v172 v178 v185 k fk q fq l hv8 hv12 hv172 hv178 hv185 r c
  pointwise
  simp only [hp, harg20, hv199, eighth_f32, coe_sum, ← EReal.coe_mul, ← EReal.coe_add, ← EReal.coe_sub]

/-- The gradient of the keys takes up a block of queries. -/
theorem pay35_val (arg19 : FVec Ideal S64x1024 .f32) (v197 : FVec Ideal S1024x1024 .bf16) (v206 : FVec Ideal S64x1024 .bf16) (a : Fin 64 → Fin 1024 → ℝ) (s : Fin 1024 → Fin 1024 → ℝ) (y : Fin 64 → Fin 1024 → ℝ) (harg19 : ∀ d c, arg19 (ix2 d c) = ((a d c : ℝ) : EReal)) (hv197 : ∀ r c, v197 (ix2 r c) = ((s r c : ℝ) : EReal)) (hv206 : ∀ d c, v206 (ix2 d c) = ((y d c : ℝ) : EReal)) (d : Fin 64) (c : Fin 1024) :
    k0_pay35 (F := Ideal) arg19 v197 v206 (ix2 d c) = ((a d c + ∑ r, y d r * s r c : ℝ) : EReal) := by
  unfold k0_pay35
  pointwise
  simp only [harg19, hv197, hv206, eighth_f32, coe_sum, ← EReal.coe_mul, ← EReal.coe_add, ← EReal.coe_sub]

/-- The gradient of the queries takes up a block of keys. -/
theorem pay36_val (v8 : FVec Ideal S1024x64 .bf16) (v197 : FVec Ideal S1024x1024 .bf16) (v210 : FVec Ideal S1x1024x64 .f32) (k : Fin 1024 → Fin 64 → ℝ) (s : Fin 1024 → Fin 1024 → ℝ) (a : Fin 1024 → Fin 64 → ℝ) (hv8 : ∀ r d, v8 (ix2 r d) = ((k r d : ℝ) : EReal)) (hv197 : ∀ r c, v197 (ix2 r c) = ((s r c : ℝ) : EReal)) (hv210 : ∀ r d, v210 (ix3 0 r d) = ((a r d : ℝ) : EReal)) (r : Fin 1024) (d : Fin 64) :
    k0_pay36 (F := Ideal) v8 v197 v210 (ix3 0 r d) = ((a r d + (∑ c, s r c * k c d) * (1 / 8) : ℝ) : EReal) := by
  unfold k0_pay36
  pointwise
  simp only [hv8, hv197, hv210, eighth_f32, coe_sum, ← EReal.coe_mul, ← EReal.coe_add, ← EReal.coe_sub]

/-- The gradient of the forget gates takes up a block of queries. -/
theorem pay37_val (arg21 : FVec Ideal S1x1024 .f32) (v196 : FVec Ideal S1024x1024 .f32) (a : Fin 1024 → ℝ) (s : Fin 1024 → Fin 1024 → ℝ) (harg21 : ∀ c, arg21 (ix2 0 c) = ((a c : ℝ) : EReal)) (hv196 : ∀ r c, v196 (ix2 r c) = ((s r c : ℝ) : EReal)) (c : Fin 1024) :
    k0_pay37 (F := Ideal) arg21 v196 (ix2 0 c) = ((a c - ∑ r, s r c : ℝ) : EReal) := by
  unfold k0_pay37
  pointwise
  simp only [harg21, hv196, eighth_f32, coe_sum, ← EReal.coe_mul, ← EReal.coe_add, ← EReal.coe_sub]

/-- The gradient of the values takes up a block of queries. -/
theorem pay3_val (arg23 : FVec Ideal S64x1024 .f32) (v244 : FVec Ideal S1024x1024 .f32) (v254 : FVec Ideal S1x64x1024 .bf16) (a : Fin 64 → Fin 1024 → ℝ) (p : Fin 1024 → Fin 1024 → ℝ) (y : Fin 64 → Fin 1024 → ℝ) (harg23 : ∀ d c, arg23 (ix2 d c) = ((a d c : ℝ) : EReal)) (hv244 : ∀ r c, v244 (ix2 r c) = ((p r c : ℝ) : EReal)) (hv254 : ∀ d r, v254 (ix3 0 d r) = ((y d r : ℝ) : EReal)) (d : Fin 64) (c : Fin 1024) :
    k0_pay3 (F := Ideal) arg23 v244 v254 (ix2 d c) = ((a d c + ∑ r, y d r * p r c : ℝ) : EReal) := by
  unfold k0_pay3
  pointwise
  simp only [harg23, hv244, hv254, eighth_f32, coe_sum, ← EReal.coe_mul, ← EReal.coe_add, ← EReal.coe_sub]

/-- The gradient of the keys takes up a block of queries. -/
theorem pay4_val (arg22 : FVec Ideal S64x1024 .f32) (v244 : FVec Ideal S1024x1024 .f32) (v245 : FVec Ideal S1024x1024 .f32) (v247 : FVec Ideal S1x1024x128 .f32) (v260 : FVec Ideal S1x64x1024 .bf16) (a : Fin 64 → Fin 1024 → ℝ) (p : Fin 1024 → Fin 1024 → ℝ) (dp : Fin 1024 → Fin 1024 → ℝ) (dl : Fin 1024 → ℝ) (y : Fin 64 → Fin 1024 → ℝ) (harg22 : ∀ d c, arg22 (ix2 d c) = ((a d c : ℝ) : EReal)) (hv244 : ∀ r c, v244 (ix2 r c) = ((p r c : ℝ) : EReal)) (hv245 : ∀ r c, v245 (ix2 r c) = ((dp r c : ℝ) : EReal)) (hv247 : ∀ r n, v247 (ix3 0 r n) = ((dl r : ℝ) : EReal)) (hv260 : ∀ d r, v260 (ix3 0 d r) = ((y d r : ℝ) : EReal)) (d : Fin 64) (c : Fin 1024) :
    k0_pay4 (F := Ideal) arg22 v244 v245 v247 v260 (ix2 d c) = ((a d c + ∑ r, y d r * (p r c * (dp r c - dl r)) : ℝ) : EReal) := by
  unfold k0_pay4
  have hp := fun r c => pay2_val v244 v245 v247 p dp dl hv244 hv245 hv247 r c
  pointwise
  simp only [hp, harg22, hv260, eighth_f32, coe_sum, ← EReal.coe_mul, ← EReal.coe_add, ← EReal.coe_sub]

/-- The gradient of the queries takes up a block of keys. -/
theorem pay5_val (v14 : FVec Ideal S1024x64 .bf16) (v244 : FVec Ideal S1024x1024 .f32) (v245 : FVec Ideal S1024x1024 .f32) (v247 : FVec Ideal S1x1024x128 .f32) (v265 : FVec Ideal S1x1024x64 .f32) (k : Fin 1024 → Fin 64 → ℝ) (p : Fin 1024 → Fin 1024 → ℝ) (dp : Fin 1024 → Fin 1024 → ℝ) (dl : Fin 1024 → ℝ) (a : Fin 1024 → Fin 64 → ℝ) (hv14 : ∀ r d, v14 (ix2 r d) = ((k r d : ℝ) : EReal)) (hv244 : ∀ r c, v244 (ix2 r c) = ((p r c : ℝ) : EReal)) (hv245 : ∀ r c, v245 (ix2 r c) = ((dp r c : ℝ) : EReal)) (hv247 : ∀ r n, v247 (ix3 0 r n) = ((dl r : ℝ) : EReal)) (hv265 : ∀ r d, v265 (ix3 0 r d) = ((a r d : ℝ) : EReal)) (r : Fin 1024) (d : Fin 64) :
    k0_pay5 (F := Ideal) v14 v244 v245 v247 v265 (ix3 0 r d) = ((a r d + (∑ c, (p r c * (dp r c - dl r)) * k c d) * (1 / 8) : ℝ) : EReal) := by
  unfold k0_pay5
  have hp := fun r c => pay2_val v244 v245 v247 p dp dl hv244 hv245 hv247 r c
  pointwise
  simp only [hp, hv14, hv265, eighth_f32, coe_sum, ← EReal.coe_mul, ← EReal.coe_add, ← EReal.coe_sub]

/-- The gradient of the forget gates takes up a block of queries. -/
theorem pay6_val (arg24 : FVec Ideal S1x1024 .f32) (v244 : FVec Ideal S1024x1024 .f32) (v245 : FVec Ideal S1024x1024 .f32) (v247 : FVec Ideal S1x1024x128 .f32) (a : Fin 1024 → ℝ) (p : Fin 1024 → Fin 1024 → ℝ) (dp : Fin 1024 → Fin 1024 → ℝ) (dl : Fin 1024 → ℝ) (harg24 : ∀ c, arg24 (ix2 0 c) = ((a c : ℝ) : EReal)) (hv244 : ∀ r c, v244 (ix2 r c) = ((p r c : ℝ) : EReal)) (hv245 : ∀ r c, v245 (ix2 r c) = ((dp r c : ℝ) : EReal)) (hv247 : ∀ r n, v247 (ix3 0 r n) = ((dl r : ℝ) : EReal)) (c : Fin 1024) :
    k0_pay6 (F := Ideal) arg24 v244 v245 v247 (ix2 0 c) = ((a c - ∑ r, p r c * (dp r c - dl r) : ℝ) : EReal) := by
  unfold k0_pay6
  have hp := fun r c => pay1_val v244 v245 v247 p dp dl hv244 hv245 hv247 r c
  pointwise
  simp only [hp, harg24, eighth_f32, coe_sum, ← EReal.coe_mul, ← EReal.coe_add, ← EReal.coe_sub]

/-- The gradient of the values takes up a block of queries. -/
theorem pay66_val (v0 v1 : IVec S1024x1024 32) (hm : ∀ r c, IntOp.cmpi .sge (v0 (ix2 r c)) (v1 (ix2 r c)) = if c ≤ r then 1#1 else 0#1) (v8 : FVec Ideal S1024x64 .bf16) (v12 : FVec Ideal S1x1024 .f32) (v21 : FVec Ideal S64x1024 .f32) (v28 : FVec Ideal S1x1024x64 .bf16) (v34 : FVec Ideal S1x1024x128 .f32) (v44 : FVec Ideal S1x1024x128 .f32) (v58 : FVec Ideal S1x64x1024 .bf16) (k : Fin 1024 → Fin 64 → ℝ) (fk : Fin 1024 → ℝ) (a : Fin 64 → Fin 1024 → ℝ) (q : Fin 1024 → Fin 64 → ℝ) (fq : Fin 1024 → ℝ) (l : Fin 1024 → ℝ) (y : Fin 64 → Fin 1024 → ℝ) (hv8 : ∀ r d, v8 (ix2 r d) = ((k r d : ℝ) : EReal)) (hv12 : ∀ c, v12 (ix2 0 c) = ((fk c : ℝ) : EReal)) (hv21 : ∀ d c, v21 (ix2 d c) = ((a d c : ℝ) : EReal)) (hv28 : ∀ r d, v28 (ix3 0 r d) = ((q r d : ℝ) : EReal)) (hv34 : ∀ r n, v34 (ix3 0 r n) = ((fq r : ℝ) : EReal)) (hv44 : ∀ r n, v44 (ix3 0 r n) = ((l r : ℝ) : EReal)) (hv58 : ∀ d r, v58 (ix3 0 d r) = ((y d r : ℝ) : EReal)) (d : Fin 64) (c : Fin 1024) :
    k0_pay66 (F := Ideal) v0 v1 v8 v12 v21 v28 v34 v44 v58 (ix2 d c) = ((a d c + ∑ r, y d r * pM q k fq fk l r c : ℝ) : EReal) := by
  unfold k0_pay66
  have hp := fun r c => pay63_val v0 v1 hm v8 v12 v28 v34 v44 k fk q fq l hv8 hv12 hv28 hv34 hv44 r c
  pointwise
  simp only [hp, hv21, hv58, eighth_f32, coe_sum, ← EReal.coe_mul, ← EReal.coe_add, ← EReal.coe_sub]

/-- The gradient of the keys takes up a block of queries. -/
theorem pay67_val (v20 : FVec Ideal S64x1024 .f32) (v56 : FVec Ideal S1024x1024 .bf16) (v64 : FVec Ideal S1x64x1024 .bf16) (a : Fin 64 → Fin 1024 → ℝ) (s : Fin 1024 → Fin 1024 → ℝ) (y : Fin 64 → Fin 1024 → ℝ) (hv20 : ∀ d c, v20 (ix2 d c) = ((a d c : ℝ) : EReal)) (hv56 : ∀ r c, v56 (ix2 r c) = ((s r c : ℝ) : EReal)) (hv64 : ∀ d r, v64 (ix3 0 d r) = ((y d r : ℝ) : EReal)) (d : Fin 64) (c : Fin 1024) :
    k0_pay67 (F := Ideal) v20 v56 v64 (ix2 d c) = ((a d c + ∑ r, y d r * s r c : ℝ) : EReal) := by
  unfold k0_pay67
  pointwise
  simp only [hv20, hv56, hv64, eighth_f32, coe_sum, ← EReal.coe_mul, ← EReal.coe_add, ← EReal.coe_sub]

/-- The gradient of the queries takes up a block of keys. -/
theorem pay68_val (v8 : FVec Ideal S1024x64 .bf16) (v56 : FVec Ideal S1024x1024 .bf16) (v69 : FVec Ideal S1x1024x64 .f32) (k : Fin 1024 → Fin 64 → ℝ) (s : Fin 1024 → Fin 1024 → ℝ) (a : Fin 1024 → Fin 64 → ℝ) (hv8 : ∀ r d, v8 (ix2 r d) = ((k r d : ℝ) : EReal)) (hv56 : ∀ r c, v56 (ix2 r c) = ((s r c : ℝ) : EReal)) (hv69 : ∀ r d, v69 (ix3 0 r d) = ((a r d : ℝ) : EReal)) (r : Fin 1024) (d : Fin 64) :
    k0_pay68 (F := Ideal) v8 v56 v69 (ix3 0 r d) = ((a r d + (∑ c, s r c * k c d) * (1 / 8) : ℝ) : EReal) := by
  unfold k0_pay68
  pointwise
  simp only [hv8, hv56, hv69, eighth_f32, coe_sum, ← EReal.coe_mul, ← EReal.coe_add, ← EReal.coe_sub]

/-- The gradient of the forget gates takes up a block of queries. -/
theorem pay69_val (v19 : FVec Ideal S1x1024 .f32) (v55 : FVec Ideal S1024x1024 .f32) (a : Fin 1024 → ℝ) (s : Fin 1024 → Fin 1024 → ℝ) (hv19 : ∀ c, v19 (ix2 0 c) = ((a c : ℝ) : EReal)) (hv55 : ∀ r c, v55 (ix2 r c) = ((s r c : ℝ) : EReal)) (c : Fin 1024) :
    k0_pay69 (F := Ideal) v19 v55 (ix2 0 c) = ((a c - ∑ r, s r c : ℝ) : EReal) := by
  unfold k0_pay69
  pointwise
  simp only [hv19, hv55, eighth_f32, coe_sum, ← EReal.coe_mul, ← EReal.coe_add, ← EReal.coe_sub]

/-- The probabilities of the second head, its logits still to be taken down by the logarithm of their sum. -/
theorem pay71_val (v0 v1 : IVec S1024x1024 32) (hm : ∀ r c, IntOp.cmpi .sge (v0 (ix2 r c)) (v1 (ix2 r c)) = if c ≤ r then 1#1 else 0#1) (v14 : FVec Ideal S1024x64 .bf16) (v18 : FVec Ideal S1x1024 .f32) (v86 : FVec Ideal S1x1024x64 .bf16) (v92 : FVec Ideal S1x1024x128 .f32)
    (k q : Fin 1024 → Fin 64 → ℝ) (fk fq l : Fin 1024 → ℝ)
    (hv14 : ∀ r d, v14 (ix2 r d) = ((k r d : ℝ) : EReal)) (hv18 : ∀ c, v18 (ix2 0 c) = ((fk c : ℝ) : EReal)) (hv86 : ∀ r d, v86 (ix3 0 r d) = ((q r d : ℝ) : EReal)) (hv92 : ∀ r n, v92 (ix3 0 r n) = ((fq r : ℝ) : EReal)) (r c : Fin 1024) :
    Ideal.exp (k0_pay71 (F := Ideal) v0 v1 v14 v18 v86 v92 (ix2 r c) - ((l r : ℝ) : EReal)) = ((pM q k fq fk l r c : ℝ) : EReal) := by
  unfold k0_pay71
  simp only [wide_eq _ _ hv92]
  pointwise
  rw [hm]
  by_cases hrc : c ≤ r
  · rw [if_pos hrc, pM, if_pos hrc]
    show Ideal.exp (_ - _) = _
    simp only [hv14, hv18, hv86, eighth_bf16, coe_sum, ← EReal.coe_mul, ← EReal.coe_add, ← EReal.coe_sub]
    rfl
  · rw [if_neg hrc, pM, if_neg hrc]
    show Ideal.exp (Ideal.ofBits .f32 4286578688#32 - _) = _
    rw [ofBits_neg_inf_f32, EReal.bot_sub]
    exact EReal.coe_zero.symm

/-- The probabilities of the second head. -/
theorem pay73_val (v103 : FVec Ideal S1024x128 .f32) (l : Fin 1024 → ℝ) (p : Fin 1024 → Fin 1024 → ℝ) (v100 : FVec Ideal S1024x1024 .f32) (hp : ∀ r c, Ideal.exp (v100 (ix2 r c) - ((l r : ℝ) : EReal)) = ((p r c : ℝ) : EReal)) (hv103 : ∀ r n, v103 (ix2 r n) = ((l r : ℝ) : EReal)) (r c : Fin 1024) :
    k0_pay73 (F := Ideal) v100 v103 (ix2 r c) = ((p r c : ℝ) : EReal) := by
  unfold k0_pay73
  simp only [wide_eq2 _ _ hv103]
  pointwise
  exact hp r c

/-- The gradient of the logits of the second head. -/
theorem pay74_val (v103 : FVec Ideal S1024x128 .f32) (l : Fin 1024 → ℝ) (p : Fin 1024 → Fin 1024 → ℝ) (v100 : FVec Ideal S1024x1024 .f32) (hp : ∀ r c, Ideal.exp (v100 (ix2 r c) - ((l r : ℝ) : EReal)) = ((p r c : ℝ) : EReal)) (hv103 : ∀ r n, v103 (ix2 r n) = ((l r : ℝ) : EReal)) (v16 v84 : FVec Ideal S1024x64 .bf16) (v w : Fin 1024 → Fin 64 → ℝ) (hv16 : ∀ r d, v16 (ix2 r d) = ((v r d : ℝ) : EReal)) (hv84 : ∀ r d, v84 (ix2 r d) = ((w r d : ℝ) : EReal)) (v109 : FVec Ideal S1x1024x128 .f32) (dl : Fin 1024 → ℝ) (hv109 : ∀ r n, v109 (ix3 0 r n) = ((dl r : ℝ) : EReal)) (r c : Fin 1024) :
    k0_pay74 (F := Ideal) v16 v84 v100 v103 v109 (ix2 r c) = ((dS p w v dl r c : ℝ) : EReal) := by
  unfold k0_pay74
  simp only [wide_eq _ _ hv109]
  have hq := fun r c => pay73_val v103 l p v100 hp hv103 r c
  pointwise
  simp only [hq, hv16, hv84, coe_sum, ← EReal.coe_mul, ← EReal.coe_sub]
  rfl

/-- The same, rounded. -/
theorem pay75_val (v103 : FVec Ideal S1024x128 .f32) (l : Fin 1024 → ℝ) (p : Fin 1024 → Fin 1024 → ℝ) (v100 : FVec Ideal S1024x1024 .f32) (hp : ∀ r c, Ideal.exp (v100 (ix2 r c) - ((l r : ℝ) : EReal)) = ((p r c : ℝ) : EReal)) (hv103 : ∀ r n, v103 (ix2 r n) = ((l r : ℝ) : EReal)) (v16 v84 : FVec Ideal S1024x64 .bf16) (v w : Fin 1024 → Fin 64 → ℝ) (hv16 : ∀ r d, v16 (ix2 r d) = ((v r d : ℝ) : EReal)) (hv84 : ∀ r d, v84 (ix2 r d) = ((w r d : ℝ) : EReal)) (v109 : FVec Ideal S1x1024x128 .f32) (dl : Fin 1024 → ℝ) (hv109 : ∀ r n, v109 (ix3 0 r n) = ((dl r : ℝ) : EReal)) (r c : Fin 1024) :
    k0_pay75 (F := Ideal) v16 v84 v100 v103 v109 (ix2 r c) = ((dS p w v dl r c : ℝ) : EReal) := by
  unfold k0_pay75
  have hq := fun r c => pay74_val v103 l p v100 hp hv103 v16 v84 v w hv16 hv84 v109 dl hv109 r c
  pointwise
  exact hq r c

/-- The gradient of the values of the second head takes up a block of queries. -/
theorem pay76_val (v103 : FVec Ideal S1024x128 .f32) (l : Fin 1024 → ℝ) (p : Fin 1024 → Fin 1024 → ℝ) (v100 : FVec Ideal S1024x1024 .f32) (hp : ∀ r c, Ideal.exp (v100 (ix2 r c) - ((l r : ℝ) : EReal)) = ((p r c : ℝ) : EReal)) (hv103 : ∀ r n, v103 (ix2 r n) = ((l r : ℝ) : EReal)) (v21 : FVec Ideal S64x1024 .f32) (a : Fin 64 → Fin 1024 → ℝ) (hv21 : ∀ d c, v21 (ix2 d c) = ((a d c : ℝ) : EReal)) (v116 : FVec Ideal S1x64x1024 .bf16) (y : Fin 64 → Fin 1024 → ℝ) (hv116 : ∀ d r, v116 (ix3 0 d r) = ((y d r : ℝ) : EReal)) (d : Fin 64) (c : Fin 1024) :
    k0_pay76 (F := Ideal) v21 v100 v103 v116 (ix2 d c) = ((a d c + ∑ r, y d r * p r c : ℝ) : EReal) := by
  unfold k0_pay76
  have hq := fun r c => pay73_val v103 l p v100 hp hv103 r c
  pointwise
  simp only [hq, hv21, hv116, eighth_f32, coe_sum, ← EReal.coe_mul, ← EReal.coe_add, ← EReal.coe_sub]

/-- The gradient of the keys of the second head takes up a block of queries. -/
theorem pay77_val (v103 : FVec Ideal S1024x128 .f32) (l : Fin 1024 → ℝ) (p : Fin 1024 → Fin 1024 → ℝ) (v100 : FVec Ideal S1024x1024 .f32) (hp : ∀ r c, Ideal.exp (v100 (ix2 r c) - ((l r : ℝ) : EReal)) = ((p r c : ℝ) : EReal)) (hv103 : ∀ r n, v103 (ix2 r n) = ((l r : ℝ) : EReal)) (v16 v84 : FVec Ideal S1024x64 .bf16) (v w : Fin 1024 → Fin 64 → ℝ) (hv16 : ∀ r d, v16 (ix2 r d) = ((v r d : ℝ) : EReal)) (hv84 : ∀ r d, v84 (ix2 r d) = ((w r d : ℝ) : EReal)) (v109 : FVec Ideal S1x1024x128 .f32) (dl : Fin 1024 → ℝ) (hv109 : ∀ r n, v109 (ix3 0 r n) = ((dl r : ℝ) : EReal)) (v20 : FVec Ideal S64x1024 .f32) (a : Fin 64 → Fin 1024 → ℝ) (hv20 : ∀ d c, v20 (ix2 d c) = ((a d c : ℝ) : EReal)) (v122 : FVec Ideal S1x64x1024 .bf16) (y : Fin 64 → Fin 1024 → ℝ) (hv122 : ∀ d r, v122 (ix3 0 d r) = ((y d r : ℝ) : EReal)) (d : Fin 64) (c : Fin 1024) :
    k0_pay77 (F := Ideal) v16 v20 v84 v100 v103 v109 v122 (ix2 d c) = ((a d c + ∑ r, y d r * dS p w v dl r c : ℝ) : EReal) := by
  unfold k0_pay77
  have hq := fun r c => pay75_val v103 l p v100 hp hv103 v16 v84 v w hv16 hv84 v109 dl hv109 r c
  pointwise
  simp only [hq, hv20, hv122, eighth_f32, coe_sum, ← EReal.coe_mul, ← EReal.coe_add, ← EReal.coe_sub]

/-- The gradient of the queries of the second head takes up a block of keys. -/
theorem pay78_val (v103 : FVec Ideal S1024x128 .f32) (l : Fin 1024 → ℝ) (p : Fin 1024 → Fin 1024 → ℝ) (v100 : FVec Ideal S1024x1024 .f32) (hp : ∀ r c, Ideal.exp (v100 (ix2 r c) - ((l r : ℝ) : EReal)) = ((p r c : ℝ) : EReal)) (hv103 : ∀ r n, v103 (ix2 r n) = ((l r : ℝ) : EReal)) (v16 v84 : FVec Ideal S1024x64 .bf16) (v w : Fin 1024 → Fin 64 → ℝ) (hv16 : ∀ r d, v16 (ix2 r d) = ((v r d : ℝ) : EReal)) (hv84 : ∀ r d, v84 (ix2 r d) = ((w r d : ℝ) : EReal)) (v109 : FVec Ideal S1x1024x128 .f32) (dl : Fin 1024 → ℝ) (hv109 : ∀ r n, v109 (ix3 0 r n) = ((dl r : ℝ) : EReal)) (v14 : FVec Ideal S1024x64 .bf16) (k : Fin 1024 → Fin 64 → ℝ) (hv14 : ∀ r d, v14 (ix2 r d) = ((k r d : ℝ) : EReal)) (v127 : FVec Ideal S1x1024x64 .f32) (a : Fin 1024 → Fin 64 → ℝ) (hv127 : ∀ r d, v127 (ix3 0 r d) = ((a r d : ℝ) : EReal)) (r : Fin 1024) (d : Fin 64) :
    k0_pay78 (F := Ideal) v14 v16 v84 v100 v103 v109 v127 (ix3 0 r d) = ((a r d + (∑ c, dS p w v dl r c * k c d) * (1 / 8) : ℝ) : EReal) := by
  unfold k0_pay78
  have hq := fun r c => pay75_val v103 l p v100 hp hv103 v16 v84 v w hv16 hv84 v109 dl hv109 r c
  pointwise
  simp only [hq, hv14, hv127, eighth_f32, coe_sum, ← EReal.coe_mul, ← EReal.coe_add, ← EReal.coe_sub]

/-- The gradient of the forget gates of the second head takes up a block of queries. -/
theorem pay79_val (v103 : FVec Ideal S1024x128 .f32) (l : Fin 1024 → ℝ) (p : Fin 1024 → Fin 1024 → ℝ) (v100 : FVec Ideal S1024x1024 .f32) (hp : ∀ r c, Ideal.exp (v100 (ix2 r c) - ((l r : ℝ) : EReal)) = ((p r c : ℝ) : EReal)) (hv103 : ∀ r n, v103 (ix2 r n) = ((l r : ℝ) : EReal)) (v16 v84 : FVec Ideal S1024x64 .bf16) (v w : Fin 1024 → Fin 64 → ℝ) (hv16 : ∀ r d, v16 (ix2 r d) = ((v r d : ℝ) : EReal)) (hv84 : ∀ r d, v84 (ix2 r d) = ((w r d : ℝ) : EReal)) (v109 : FVec Ideal S1x1024x128 .f32) (dl : Fin 1024 → ℝ) (hv109 : ∀ r n, v109 (ix3 0 r n) = ((dl r : ℝ) : EReal)) (v19 : FVec Ideal S1x1024 .f32) (a : Fin 1024 → ℝ) (hv19 : ∀ c, v19 (ix2 0 c) = ((a c : ℝ) : EReal)) (c : Fin 1024) :
    k0_pay79 (F := Ideal) v16 v19 v84 v100 v103 v109 (ix2 0 c) = ((a c - ∑ r, dS p w v dl r c : ℝ) : EReal) := by
  unfold k0_pay79
  have hq := fun r c => pay74_val v103 l p v100 hp hv103 v16 v84 v w hv16 hv84 v109 dl hv109 r c
  pointwise
  simp only [hq, hv19, eighth_f32, coe_sum, ← EReal.coe_mul, ← EReal.coe_add, ← EReal.coe_sub]

end Cert.KernelIdeal.Fox
-- ==== Proof.Fox.Loads.lean ====
/- The attention backward's loads, casts and products before a tile's arithmetic, and the casts after it, at an entry. -/
module

public import proofs.«01_k».proof.Proof.Fox.Payloads

@[expose] public section

set_option maxRecDepth 16384

noncomputable section

namespace Cert.KernelIdeal.Fox

open Cert.KernelIdeal.Gen
open Idealize.ShloMosaic

/-- Lane `d` of head `h` in a slab of two heads. -/
def lane (h : Fin 2) (d : Fin 64) : Fin 128 := ⟨h.val * 64 + d.val, by omega⟩

theorem pay54_at (v : FVec Ideal S1x1024x64 .bf16) (c : Fin 1024) (d : Fin 64) : k0_pay54 (F := Ideal) v (ix2 c d) = v (ix3 0 c d) := by
  unfold k0_pay54
  pointwise

theorem pay55_at (v : FVec Ideal S1x1024x64 .bf16) (c : Fin 1024) (d : Fin 64) : k0_pay55 (F := Ideal) v (ix2 c d) = v (ix3 0 c d) := by
  unfold k0_pay55
  pointwise

theorem pay57_at (v : FVec Ideal S1x1024x64 .bf16) (c : Fin 1024) (d : Fin 64) : k0_pay57 (F := Ideal) v (ix2 c d) = v (ix3 0 c d) := by
  unfold k0_pay57
  pointwise

theorem pay58_at (v : FVec Ideal S1x1024x64 .bf16) (c : Fin 1024) (d : Fin 64) : k0_pay58 (F := Ideal) v (ix2 c d) = v (ix3 0 c d) := by
  unfold k0_pay58
  pointwise

theorem pay70_at (v : FVec Ideal S1x1024x64 .bf16) (c : Fin 1024) (d : Fin 64) : k0_pay70 (F := Ideal) v (ix2 c d) = v (ix3 0 c d) := by
  unfold k0_pay70
  pointwise

theorem pay56_at (v : FVec Ideal S1x1x1x1024 .f32) (c : Fin 1024) : k0_pay56 (F := Ideal) v (ix2 0 c) = v (ix4 0 0 0 c) := by
  unfold k0_pay56
  pointwise

theorem pay59_at (v : FVec Ideal S1x1x1x1024 .f32) (c : Fin 1024) : k0_pay59 (F := Ideal) v (ix2 0 c) = v (ix4 0 0 0 c) := by
  unfold k0_pay59
  pointwise

theorem pay72_at (v : FVec Ideal S1x1024x128 .f32) (r : Fin 1024) (n : Fin 128) : k0_pay72 (F := Ideal) v (ix2 r n) = v (ix3 0 r n) := by
  unfold k0_pay72
  pointwise

theorem pay13_at (v : FVec Ideal S1x1024 .f32) (c : Fin 1024) : k0_pay13 (F := Ideal) v (ix4 0 0 0 c) = v (ix2 0 c) := by
  unfold k0_pay13
  pointwise

theorem pay14_at (v : FVec Ideal S1x1024 .f32) (c : Fin 1024) : k0_pay14 (F := Ideal) v (ix4 0 0 0 c) = v (ix2 0 c) := by
  unfold k0_pay14
  pointwise

theorem pay17_at  (j : S1x2048x128.Idx) : k0_pay17 (F := Ideal)  j = 0 := by
  unfold k0_pay17
  exact Ideal.ofBits_zero_f32

theorem pay53_at  (j : S1x1x8x1024.Idx) : k0_pay53 (F := Ideal)  j = 0 := by
  unfold k0_pay53
  exact Ideal.ofBits_zero_f32

theorem pay60_at  (j : S1x1024.Idx) : k0_pay60 (F := Ideal)  j = 0 := by
  unfold k0_pay60
  exact Ideal.ofBits_zero_f32

theorem pay61_at  (j : S64x1024.Idx) : k0_pay61 (F := Ideal)  j = 0 := by
  unfold k0_pay61
  exact Ideal.ofBits_zero_f32

theorem pay62_at  (j : S64x1024.Idx) : k0_pay62 (F := Ideal)  j = 0 := by
  unfold k0_pay62
  exact Ideal.ofBits_zero_f32

theorem pay34_at (v : FVec Ideal S1x64x1024 .bf16) (d : Fin 64) (r : Fin 1024) : k0_pay34 (F := Ideal) v (ix2 d r) = v (ix3 0 d r) := by
  unfold k0_pay34
  pointwise

theorem pay18_at (v : FVec Ideal S1x1024x128 .bf16)(w : FVec Ideal S1x1024x128 .f32) (r : Fin 1024) (n : Fin 128) : k0_pay18 (F := Ideal) v w (ix2 r n) = v (ix3 0 r n) * w (ix3 0 r n) := by
  unfold k0_pay18
  pointwise

theorem pay25_at (v : FVec Ideal S1x1024x128 .bf16)(w : FVec Ideal S1x1024x128 .f32) (r : Fin 1024) (n : Fin 128) : k0_pay25 (F := Ideal) v w (ix2 r n) = v (ix3 0 r n) * w (ix3 0 r n) := by
  unfold k0_pay25
  pointwise

theorem pay22_at (v : FVec Ideal S1x1024x128 .bf16)(w : FVec Ideal S1x1024x128 .f32) (r : Fin 1024) : k0_pay22 (F := Ideal) v w (ix2 r 0) = ∑ d : Fin 64, v (ix3 0 r (lane 0 d)) * w (ix3 0 r (lane 0 d)) := by
  unfold k0_pay22
  pointwise [pay18_at, pay25_at, lane]

theorem pay26_at (v : FVec Ideal S1x1024x128 .bf16)(w : FVec Ideal S1x1024x128 .f32) (r : Fin 1024) : k0_pay26 (F := Ideal) v w (ix2 r 0) = ∑ d : Fin 64, v (ix3 0 r (lane 0 d)) * w (ix3 0 r (lane 0 d)) := by
  unfold k0_pay26
  pointwise [pay18_at, pay25_at, lane]

theorem pay19_at (v : FVec Ideal S1x1024x128 .bf16)(w : FVec Ideal S1x1024x128 .f32) (r : Fin 1024) : k0_pay19 (F := Ideal) v w (ix2 r 0) = ∑ d : Fin 64, v (ix3 0 r (lane 1 d)) * w (ix3 0 r (lane 1 d)) := by
  unfold k0_pay19
  pointwise [pay18_at, pay25_at, lane]

theorem pay27_at (v : FVec Ideal S1x1024x128 .bf16)(w : FVec Ideal S1x1024x128 .f32) (r : Fin 1024) : k0_pay27 (F := Ideal) v w (ix2 r 0) = ∑ d : Fin 64, v (ix3 0 r (lane 1 d)) * w (ix3 0 r (lane 1 d)) := by
  unfold k0_pay27
  pointwise [pay18_at, pay25_at, lane]

theorem pay23_at (v : FVec Ideal S1024x1 .f32) (r : Fin 1024) (n : Fin 128) : k0_pay23 (F := Ideal) v (ix3 0 r n) = v (ix2 r 0) := by
  unfold k0_pay23
  pointwise

theorem pay24_at (v : FVec Ideal S1024x1 .f32) (r : Fin 1024) (n : Fin 128) : k0_pay24 (F := Ideal) v (ix3 0 r n) = v (ix2 r 0) := by
  unfold k0_pay24
  pointwise

theorem pay51_at (v : FVec Ideal S1024x1 .f32) (r : Fin 1024) (n : Fin 128) : k0_pay51 (F := Ideal) v (ix3 0 r n) = v (ix2 r 0) := by
  unfold k0_pay51
  pointwise

theorem pay52_at (v : FVec Ideal S1024x1 .f32) (r : Fin 1024) (n : Fin 128) : k0_pay52 (F := Ideal) v (ix3 0 r n) = v (ix2 r 0) := by
  unfold k0_pay52
  pointwise

theorem pay20_at (cst : Ideal .bf16) (v : FVec Ideal S1x1024x128 .bf16) (n : Fin 128) (r : Fin 1024) : k0_pay20 (F := Ideal) cst v (ix3 0 n r) = v (ix3 0 r n) * cst := by
  unfold k0_pay20
  pointwise

theorem pay28_at (cst : Ideal .bf16) (v : FVec Ideal S1x1024x128 .bf16) (n : Fin 128) (r : Fin 1024) : k0_pay28 (F := Ideal) cst v (ix3 0 n r) = v (ix3 0 r n) * cst := by
  unfold k0_pay28
  pointwise

theorem pay21_at (v : FVec Ideal S1x1024x128 .bf16) (n : Fin 128) (r : Fin 1024) : k0_pay21 (F := Ideal) v (ix3 0 n r) = v (ix3 0 r n) := by
  unfold k0_pay21
  pointwise

theorem pay29_at (v : FVec Ideal S1x1024x128 .bf16) (r : Fin 1024) (n : Fin 128) : k0_pay29 (F := Ideal) v (ix2 r n) = v (ix3 0 r n) := by
  unfold k0_pay29
  pointwise

theorem pay50_at (v : FVec Ideal S1024x128 .f32) (n : Fin 128) (r : Fin 1024) : k0_pay50 (F := Ideal) v (ix3 0 n r) = v (ix2 r n) := by
  unfold k0_pay50
  pointwise

theorem pay15_at (v : FVec Ideal S64x1024 .f32)(w : FVec Ideal S64x1024 .f32) (h : Fin 2) (c : Fin 1024) (d : Fin 64) : k0_pay15 (F := Ideal) v w (ix3 0 c (lane h d)) = if h = 0 then v (ix2 d c) else w (ix2 d c) := by
  unfold k0_pay15
  match h with
  | 0 => pointwise [lane]
  | 1 => pointwise [lane]

theorem pay16_at (v : FVec Ideal S64x1024 .f32)(w : FVec Ideal S64x1024 .f32) (h : Fin 2) (c : Fin 1024) (d : Fin 64) : k0_pay16 (F := Ideal) v w (ix3 0 c (lane h d)) = if h = 0 then v (ix2 d c) else w (ix2 d c) := by
  unfold k0_pay16
  match h with
  | 0 => pointwise [lane]
  | 1 => pointwise [lane]

theorem pay65_at (v0 v1 : IVec S1024x1024 32) (v8 v10 : FVec Ideal S1024x64 .bf16) (v12 : FVec Ideal S1x1024 .f32)  (v25 v28 : FVec Ideal S1x1024x64 .bf16) (v34 v44 v51 : FVec Ideal S1x1024x128 .f32) (j : S1024x1024.Idx) :
    k0_pay65 (F := Ideal) v0 v1 v8 v10 v12 v25 v28 v34 v44 v51 j = k0_pay64 (F := Ideal) v0 v1 v8 v10 v12 v25 v28 v34 v44 v51 j := rfl

theorem pay32_at (v8 v10 : FVec Ideal S1024x64 .bf16) (v12 : FVec Ideal S1x1024 .f32)  (cst : Ideal .bf16) (v25 v28 : FVec Ideal S1x1024x64 .bf16) (v34 v44 v51 : FVec Ideal S1x1024x128 .f32) (j : S1024x1024.Idx) :
    k0_pay32 (F := Ideal) v8 v10 v12 cst v25 v28 v34 v44 v51 j = k0_pay31 (F := Ideal) v8 v10 v12 cst v25 v28 v34 v44 v51 j := rfl

end Cert.KernelIdeal.Fox
-- ==== Proof.Fox.Tile.lean ====
/- One tile of the attention backward as real arithmetic: the slabs a body reads, and what one trip of its loop over later
   blocks of queries yields and writes. -/
module

public import proofs.«01_k».proof.Proof.Fox.Loads
public import proofs.«01_k».proof.Proof.Gen.KernelIdeal.Loops
public import Idealize.ShloMosaic.Lib.WholeRead
public import Idealize.ShloMosaic.Lib.WritesUnit

@[expose] public section

-- rectangles of production extents
set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Row `r` of row block `R`. -/
def blk (R : Fin 2) (r : Fin 1024) : Fin 2048 := ⟨R.val * 1024 + r.val, by omega⟩

/-- What a body reads, as real numbers: the slabs of two heads of queries, keys, values, output and its gradient, the
forget gates summed up to the queries and to the keys, the logarithms of the sums, and the products of the output with its
gradient. -/
structure Slab where
  q : Fin 2048 → Fin 128 → ℝ
  k : Fin 1024 → Fin 128 → ℝ
  v : Fin 1024 → Fin 128 → ℝ
  fq : Fin 2 → Fin 2048 → ℝ
  fk : Fin 2 → Fin 1024 → ℝ
  w : Fin 2048 → Fin 128 → ℝ
  l : Fin 2 → Fin 2048 → ℝ
  dl : Fin 2 → Fin 2048 → ℝ

namespace Slab

variable (s : Slab)

def Q (R h : Fin 2) (r : Fin 1024) (d : Fin 64) : ℝ := s.q (blk R r) (lane h d)
def W (R h : Fin 2) (r : Fin 1024) (d : Fin 64) : ℝ := s.w (blk R r) (lane h d)
def K (h : Fin 2) (c : Fin 1024) (d : Fin 64) : ℝ := s.k c (lane h d)
def V (h : Fin 2) (c : Fin 1024) (d : Fin 64) : ℝ := s.v c (lane h d)
def Fq (R h : Fin 2) (r : Fin 1024) : ℝ := s.fq h (blk R r)
def Ls (R h : Fin 2) (r : Fin 1024) : ℝ := s.l h (blk R r)
def Dl (R h : Fin 2) (r : Fin 1024) : ℝ := s.dl h (blk R r)

/-- The probabilities of a block of queries on the diagonal, and of one below it. -/
def pd (R h : Fin 2) : Fin 1024 → Fin 1024 → ℝ := pM (s.Q R h) (s.K h) (s.Fq R h) (s.fk h) (s.Ls R h)
def pu (R h : Fin 2) : Fin 1024 → Fin 1024 → ℝ := pU (s.Q R h) (s.K h) (s.Fq R h) (s.fk h) (s.Ls R h)

/-- The gradients of their logits. -/
def sd (R h : Fin 2) : Fin 1024 → Fin 1024 → ℝ := dS (s.pd R h) (s.W R h) (s.V h) (s.Dl R h)
def su (R h : Fin 2) : Fin 1024 → Fin 1024 → ℝ := dS (s.pu R h) (s.W R h) (s.V h) (s.Dl R h)

/-- The transposed slabs the body keeps: the scaled queries and the gradients of the output. -/
def QT (R h : Fin 2) (d : Fin 64) (r : Fin 1024) : ℝ := s.q (blk R r) (lane h d) * (1 / 8)
def WT (R h : Fin 2) (d : Fin 64) (r : Fin 1024) : ℝ := s.w (blk R r) (lane h d)

end Slab

/-- A load from a unit-stride rectangle at an entry. -/
theorem readAt_at {S : Shape} {e : EltTy} (v : View sig .tc .vmem S e) (off size : Fin S.rank → ℕ) (inb)
    (f : v.ty.Contents (Elt Ideal)) (x : (Rect.unit (s := S) off size inb).toLoadRect.shape.Idx) (y : S.Idx)
    (h : ∀ a, (y a).val = off a + (x a).val) :
    View.readAt (Elt Ideal) v (Rect.unit (s := S) off size inb).toLoadRect f x = v.read (Elt Ideal) f y := by
  show v.read (Elt Ideal) f _ = v.read (Elt Ideal) f y
  congr 1
  funext a
  apply Fin.ext
  rw [h a]
  show off a + 1 * (x a).val = _
  rw [Nat.one_mul]

/-- Row `h` of the eight rows that hold the forget gates of two heads. -/
def row (h : Fin 2) : Fin 8 := ⟨h.val, by omega⟩

/-- A block of rows of one head. -/
theorem ld64 {e : EltTy} (v : View sig .tc .vmem S1x2048x128 e) (off : Fin S1x2048x128.rank → ℕ) (inb) (f : v.ty.Contents (Elt Ideal)) (R h : Fin 2)
    (hoff : off = ![0, 1024 * R.val, 64 * h.val]) (r : Fin 1024) (d : Fin 64) :
    View.readAt (Elt Ideal) v (Rect.unit (s := S1x2048x128) off S1x1024x64.size inb).toLoadRect f (ix3 0 r d) = v.read (Elt Ideal) f (ix3 0 (blk R r) (lane h d)) := by
  subst hoff
  refine readAt_at v _ _ inb f _ _ fun a => ?_
  fin_cases a <;> simp [blk, lane, row] <;> omega

/-- A block of rows of both heads. -/
theorem ldS {e : EltTy} (v : View sig .tc .vmem S1x2048x128 e) (off : Fin S1x2048x128.rank → ℕ) (inb) (f : v.ty.Contents (Elt Ideal)) (R : Fin 2)
    (hoff : off = ![0, 1024 * R.val, 0]) (r : Fin 1024) (n : Fin 128) :
    View.readAt (Elt Ideal) v (Rect.unit (s := S1x2048x128) off S1x1024x128.size inb).toLoadRect f (ix3 0 r n) = v.read (Elt Ideal) f (ix3 0 (blk R r) n) := by
  subst hoff
  refine readAt_at v _ _ inb f _ _ fun a => ?_
  fin_cases a <;> simp [blk, lane, row] <;> omega

/-- A block of rows of a head kept as lanes. -/
theorem ld128 {e : EltTy} (v : View sig .tc .vmem S2x2048x128 e) (off : Fin S2x2048x128.rank → ℕ) (inb) (f : v.ty.Contents (Elt Ideal)) (R h : Fin 2)
    (hoff : off = ![h.val, 1024 * R.val, 0]) (r : Fin 1024) (n : Fin 128) :
    View.readAt (Elt Ideal) v (Rect.unit (s := S2x2048x128) off S1x1024x128.size inb).toLoadRect f (ix3 0 r n) = v.read (Elt Ideal) f (ix3 h (blk R r) n) := by
  subst hoff
  refine readAt_at v _ _ inb f _ _ fun a => ?_
  fin_cases a <;> simp [blk, lane, row] <;> omega

/-- A transposed block of one head. -/
theorem ldT {e : EltTy} (v : View sig .tc .vmem S2x128x1024 e) (off : Fin S2x128x1024.rank → ℕ) (inb) (f : v.ty.Contents (Elt Ideal)) (R h : Fin 2)
    (hoff : off = ![R.val, 64 * h.val, 0]) (d : Fin 64) (r : Fin 1024) :
    View.readAt (Elt Ideal) v (Rect.unit (s := S2x128x1024) off S1x64x1024.size inb).toLoadRect f (ix3 0 d r) = v.read (Elt Ideal) f (ix3 R (lane h d) r) := by
  subst hoff
  refine readAt_at v _ _ inb f _ _ fun a => ?_
  fin_cases a <;> simp [blk, lane, row] <;> omega

/-- The block of keys or values of one head. -/
theorem ldK {e : EltTy} (v : View sig .tc .vmem S1x1024x128 e) (off : Fin S1x1024x128.rank → ℕ) (inb) (f : v.ty.Contents (Elt Ideal)) (h : Fin 2)
    (hoff : off = ![0, 0, 64 * h.val]) (c : Fin 1024) (d : Fin 64) :
    View.readAt (Elt Ideal) v (Rect.unit (s := S1x1024x128) off S1x1024x64.size inb).toLoadRect f (ix3 0 c d) = v.read (Elt Ideal) f (ix3 0 c (lane h d)) := by
  subst hoff
  refine readAt_at v _ _ inb f _ _ fun a => ?_
  fin_cases a <;> simp [blk, lane, row] <;> omega

/-- The forget gates of one head at the block of keys. -/
theorem ldF {e : EltTy} (v : View sig .tc .vmem S1x1x8x1024 e) (off : Fin S1x1x8x1024.rank → ℕ) (inb) (f : v.ty.Contents (Elt Ideal)) (h : Fin 2)
    (hoff : off = ![0, 0, h.val, 0]) (c : Fin 1024) :
    View.readAt (Elt Ideal) v (Rect.unit (s := S1x1x8x1024) off S1x1x1x1024.size inb).toLoadRect f (ix4 0 0 0 c) = v.read (Elt Ideal) f (ix4 0 0 (row h) c) := by
  subst hoff
  refine readAt_at v _ _ inb f _ _ fun a => ?_
  fin_cases a <;> simp [blk, lane, row] <;> omega

/-- A store of a block of rows of one head, read where it was stored. -/
theorem st64_hit {e : EltTy} (v : View sig .tc .vmem S1x2048x128 e) (off : Fin S1x2048x128.rank → ℕ) (inb) (f : v.ty.Contents (Elt Ideal)) (R h : Fin 2)
    (hoff : off = ![0, 1024 * R.val, 64 * h.val]) (w) (L) (r : Fin 1024) (d : Fin 64) :
    v.read (Elt Ideal) (v.writes (Elt Ideal) f ((⟨Rect.unit (s := S1x2048x128) off S1x1024x64.size inb, w⟩ : View.Piece (Elt Ideal) S1x2048x128 e) :: L)) (ix3 0 (blk R r) (lane h d)) = w (ix3 0 r d) := by
  refine View.read_writes_cons_unit_of_mem v f inb w L _ (ix3 0 r d) hoff fun a => ?_
  fin_cases a <;> simp [blk, lane] <;> omega

/-- The same, read at rows of another block. -/
theorem st64_row {e : EltTy} (v : View sig .tc .vmem S1x2048x128 e) (off : Fin S1x2048x128.rank → ℕ) (inb) (f : v.ty.Contents (Elt Ideal)) (R h : Fin 2)
    (hoff : off = ![0, 1024 * R.val, 64 * h.val]) (w) (L) (R' : Fin 2) (hR : R' ≠ R) (r : Fin 1024) (n : Fin 128) :
    v.read (Elt Ideal) (v.writes (Elt Ideal) f ((⟨Rect.unit (s := S1x2048x128) off S1x1024x64.size inb, w⟩ : View.Piece (Elt Ideal) S1x2048x128 e) :: L)) (ix3 0 (blk R' r) n)
      = v.read (Elt Ideal) (v.writes (Elt Ideal) f L) (ix3 0 (blk R' r) n) := by
  have hR' : R'.val ≠ R.val := fun h => hR (Fin.ext h)
  refine View.read_writes_cons_unit_of_not_mem v f inb w L _ hoff (1 : Fin 3) ?_
  show R'.val * 1024 + r.val < 1024 * R.val ∨ 1024 * R.val + 1024 ≤ R'.val * 1024 + r.val
  omega

/-- The same, read at lanes of the other head. -/
theorem st64_lane {e : EltTy} (v : View sig .tc .vmem S1x2048x128 e) (off : Fin S1x2048x128.rank → ℕ) (inb) (f : v.ty.Contents (Elt Ideal)) (R h : Fin 2)
    (hoff : off = ![0, 1024 * R.val, 64 * h.val]) (w) (L) (h' : Fin 2) (hh : h' ≠ h) (i : Fin 2048) (d : Fin 64) :
    v.read (Elt Ideal) (v.writes (Elt Ideal) f ((⟨Rect.unit (s := S1x2048x128) off S1x1024x64.size inb, w⟩ : View.Piece (Elt Ideal) S1x2048x128 e) :: L)) (ix3 0 i (lane h' d))
      = v.read (Elt Ideal) (v.writes (Elt Ideal) f L) (ix3 0 i (lane h' d)) := by
  have hh' : h'.val ≠ h.val := fun e => hh (Fin.ext e)
  refine View.read_writes_cons_unit_of_not_mem v f inb w L _ hoff (2 : Fin 3) ?_
  show h'.val * 64 + d.val < 64 * h.val ∨ 64 * h.val + 64 ≤ h'.val * 64 + d.val
  omega

/-- A store of a whole block, read anywhere. -/
theorem st_whole {S : Shape} {e : EltTy} (v : View sig .tc .vmem S e) (off : Fin S.rank → ℕ) (hoff : ∀ a, off a = 0) (inb) (f : v.ty.Contents (Elt Ideal)) (w) (L) (y : S.Idx) :
    v.read (Elt Ideal) (v.writes (Elt Ideal) f ((⟨Rect.unit (s := S) off S.size inb, w⟩ : View.Piece (Elt Ideal) S e) :: L)) y = w y :=
  View.read_writes_cons_unit_of_mem v f inb w L y y rfl fun a => by rw [hoff a, Nat.zero_add]

/-- A store of a block of rows of a head kept as lanes, read where it was stored and elsewhere. -/
theorem st128_hit {e : EltTy} (v : View sig .tc .vmem S2x2048x128 e) (off : Fin S2x2048x128.rank → ℕ) (inb) (f : v.ty.Contents (Elt Ideal)) (R h : Fin 2)
    (hoff : off = ![h.val, 1024 * R.val, 0]) (w) (L) (r : Fin 1024) (n : Fin 128) :
    v.read (Elt Ideal) (v.writes (Elt Ideal) f ((⟨Rect.unit (s := S2x2048x128) off S1x1024x128.size inb, w⟩ : View.Piece (Elt Ideal) S2x2048x128 e) :: L)) (ix3 h (blk R r) n) = w (ix3 0 r n) := by
  refine View.read_writes_cons_unit_of_mem v f inb w L _ (ix3 0 r n) hoff fun a => ?_
  fin_cases a <;> simp [blk] <;> omega

theorem st128_miss {e : EltTy} (v : View sig .tc .vmem S2x2048x128 e) (off : Fin S2x2048x128.rank → ℕ) (inb) (f : v.ty.Contents (Elt Ideal)) (R h : Fin 2)
    (hoff : off = ![h.val, 1024 * R.val, 0]) (w) (L) (R' h' : Fin 2) (hne : h' ≠ h ∨ R' ≠ R) (r : Fin 1024) (n : Fin 128) :
    v.read (Elt Ideal) (v.writes (Elt Ideal) f ((⟨Rect.unit (s := S2x2048x128) off S1x1024x128.size inb, w⟩ : View.Piece (Elt Ideal) S2x2048x128 e) :: L)) (ix3 h' (blk R' r) n)
      = v.read (Elt Ideal) (v.writes (Elt Ideal) f L) (ix3 h' (blk R' r) n) := by
  rcases hne with hne | hne
  · have : h'.val ≠ h.val := fun e => hne (Fin.ext e)
    refine View.read_writes_cons_unit_of_not_mem v f inb w L _ hoff (0 : Fin 3) ?_
    show h'.val < h.val ∨ h.val + 1 ≤ h'.val
    omega
  · have : R'.val ≠ R.val := fun e => hne (Fin.ext e)
    refine View.read_writes_cons_unit_of_not_mem v f inb w L _ hoff (1 : Fin 3) ?_
    show R'.val * 1024 + r.val < 1024 * R.val ∨ 1024 * R.val + 1024 ≤ R'.val * 1024 + r.val
    omega

/-- A store of a transposed block, read where it was stored and elsewhere. -/
theorem stT_hit {e : EltTy} (v : View sig .tc .vmem S2x128x1024 e) (off : Fin S2x128x1024.rank → ℕ) (inb) (f : v.ty.Contents (Elt Ideal)) (R : Fin 2)
    (hoff : off = ![R.val, 0, 0]) (w) (L) (n : Fin 128) (r : Fin 1024) :
    v.read (Elt Ideal) (v.writes (Elt Ideal) f ((⟨Rect.unit (s := S2x128x1024) off S1x128x1024.size inb, w⟩ : View.Piece (Elt Ideal) S2x128x1024 e) :: L)) (ix3 R n r) = w (ix3 0 n r) := by
  refine View.read_writes_cons_unit_of_mem v f inb w L _ (ix3 0 n r) hoff fun a => ?_
  fin_cases a <;> simp

theorem stT_miss {e : EltTy} (v : View sig .tc .vmem S2x128x1024 e) (off : Fin S2x128x1024.rank → ℕ) (inb) (f : v.ty.Contents (Elt Ideal)) (R : Fin 2)
    (hoff : off = ![R.val, 0, 0]) (w) (L) (R' : Fin 2) (hne : R' ≠ R) (n : Fin 128) (r : Fin 1024) :
    v.read (Elt Ideal) (v.writes (Elt Ideal) f ((⟨Rect.unit (s := S2x128x1024) off S1x128x1024.size inb, w⟩ : View.Piece (Elt Ideal) S2x128x1024 e) :: L)) (ix3 R' n r)
      = v.read (Elt Ideal) (v.writes (Elt Ideal) f L) (ix3 R' n r) := by
  have : R'.val ≠ R.val := fun e => hne (Fin.ext e)
  refine View.read_writes_cons_unit_of_not_mem v f inb w L _ hoff (0 : Fin 3) ?_
  show R'.val < R.val ∨ R.val + 1 ≤ R'.val
  omega

/-- A store of one row of the eight, read where it was stored and elsewhere. -/
theorem stF_hit {e : EltTy} (v : View sig .tc .vmem S1x1x8x1024 e) (off : Fin S1x1x8x1024.rank → ℕ) (inb) (f : v.ty.Contents (Elt Ideal)) (h : Fin 2)
    (hoff : off = ![0, 0, h.val, 0]) (w) (L) (c : Fin 1024) :
    v.read (Elt Ideal) (v.writes (Elt Ideal) f ((⟨Rect.unit (s := S1x1x8x1024) off S1x1x1x1024.size inb, w⟩ : View.Piece (Elt Ideal) S1x1x8x1024 e) :: L)) (ix4 0 0 (row h) c) = w (ix4 0 0 0 c) := by
  refine View.read_writes_cons_unit_of_mem v f inb w L _ (ix4 0 0 0 c) hoff fun a => ?_
  fin_cases a <;> simp [row]

theorem stF_miss {e : EltTy} (v : View sig .tc .vmem S1x1x8x1024 e) (off : Fin S1x1x8x1024.rank → ℕ) (inb) (f : v.ty.Contents (Elt Ideal)) (h : Fin 2)
    (hoff : off = ![0, 0, h.val, 0]) (w) (L) (n : Fin 8) (hne : n ≠ row h) (c : Fin 1024) :
    v.read (Elt Ideal) (v.writes (Elt Ideal) f ((⟨Rect.unit (s := S1x1x8x1024) off S1x1x1x1024.size inb, w⟩ : View.Piece (Elt Ideal) S1x1x8x1024 e) :: L)) (ix4 0 0 n c)
      = v.read (Elt Ideal) (v.writes (Elt Ideal) f L) (ix4 0 0 n c) := by
  have : n.val ≠ h.val := fun e => hne (Fin.ext e)
  refine View.read_writes_cons_unit_of_not_mem v f inb w L _ hoff (2 : Fin 4) ?_
  show n.val < h.val ∨ h.val + 1 ≤ n.val
  omega

/-- Every row lies in one of the two blocks of rows, and every lane belongs to one of the two heads. -/
theorem exists_blk (i : Fin 2048) : ∃ R r, i = blk R r :=
  ⟨⟨i.val / 1024, by omega⟩, ⟨i.val % 1024, by omega⟩, Fin.ext (by show i.val = i.val / 1024 * 1024 + i.val % 1024; omega)⟩

theorem exists_lane (n : Fin 128) : ∃ h d, n = lane h d :=
  ⟨⟨n.val / 64, by omega⟩, ⟨n.val % 64, by omega⟩, Fin.ext (by show n.val = n.val / 64 * 64 + n.val % 64; omega)⟩

/-- The mask of a block on the diagonal: the keys not after the query. -/
theorem mask_val (r c : Fin 1024) :
    IntOp.cmpi .sge (iota Kind.tc S1024x1024 32 [0] iota_S1024x1024_d0_w32 (ix2 r c)) (iota Kind.tc S1024x1024 32 [1] iota_S1024x1024_d1_w32 (ix2 r c))
      = if c ≤ r then 1#1 else 0#1 := by
  have e0 : iota Kind.tc S1024x1024 32 [0] iota_S1024x1024_d0_w32 (ix2 r c) = BitVec.ofNat 32 r.val := by pointwise
  have e1 : iota Kind.tc S1024x1024 32 [1] iota_S1024x1024_d1_w32 (ix2 r c) = BitVec.ofNat 32 c.val := by pointwise
  rw [e0, e1]
  have hr : (BitVec.ofNat 32 r.val).toInt = r.val := by
    have := r.isLt
    have hn : (BitVec.ofNat 32 r.val).toNat = r.val := by rw [BitVec.toNat_ofNat]; omega
    rw [BitVec.toInt_eq_toNat_of_lt (by omega), hn]
  have hc : (BitVec.ofNat 32 c.val).toInt = c.val := by
    have := c.isLt
    have hn : (BitVec.ofNat 32 c.val).toNat = c.val := by rw [BitVec.toNat_ofNat]; omega
    rw [BitVec.toInt_eq_toNat_of_lt (by omega), hn]
  simp only [IntOp.cmpi, BitVec.sle, hr, hc, Fin.le_def]
  by_cases h : c.val ≤ r.val <;> simp [h]

/-- The loop over later blocks of queries runs once at the first block of keys and not at all at the second. -/
theorem trips_first : ∀ i : grid0.Coords, (i 2).val = 0 → (k0_t1_loop i).trips = 1 := by decide +kernel
theorem trips_second : ∀ i : grid0.Coords, (i 2).val = 1 → (k0_t1_loop i).trips = 0 := by decide +kernel
theorem trips_rest : ∀ i : grid0.Coords, (k0_t2_loop i).trips = 0 := by decide +kernel

end Cert.KernelIdeal.Fox
-- ==== Proof.Fox.RefValue.lean ====
/- The reference's stages, read entry by entry as real arithmetic. -/
module

public import proofs.«01_k».proof.Proof.Gen.ReferenceIdeal.Read
public import Idealize.ShloMosaic.Lib.Pointwise
public import proofs.«01_k».proof.Proof.Fox.Spec
public import proofs.«01_k».proof.Proof.Fox.Tile

@[expose] public section

set_option maxRecDepth 16384

noncomputable section

namespace Cert.ReferenceIdeal.Attn

open Cert.ReferenceIdeal Cert.ReferenceIdeal.Gen Cert.ReferenceIdeal.Read Cert.Attn
open Idealize.ShloMosaic Idealize.ShloMosaic.TcCoe
open Cert.KernelIdeal.Fox (coe_sum eighth_f32 ofBits_neg_inf_f32 lane row)

theorem one_f32 : Ideal.ofBits .f32 0x3F800000#32 = ((1 : ℝ) : EReal) := by
  simp [Ideal.ofBits, Ideal.ieee, -EReal.coe_mul]; norm_num

/-- A quotient of reals by a real that isn't zero. -/
theorem div_real (x : ℝ) {y : ℝ} (hy : y ≠ 0) : Ideal.div (x : EReal) (y : EReal) = ((x / y : ℝ) : EReal) := by
  rw [Ideal.div_coe hy, ← EReal.coe_mul, mul_one_div]

/-- The head `e` of a pair, the row of a token among both batch entries, and the pair of a batch entry. -/

def hd (g : Fin 8) (e : Fin 2) : Fin 16 := ⟨g.val * 2 + e.val, by omega⟩
def tok (b : Fin 2) (i : Fin 2048) : Fin 4096 := ⟨b.val * 2048 + i.val, by omega⟩
def bg (b : Fin 2) (g : Fin 8) : Fin 16 := ⟨b.val * 8 + g.val, by omega⟩
def key (j : Fin 2) (c : Fin 1024) : Fin 2048 := ⟨j.val * 1024 + c.val, by omega⟩

/-- The arguments of the step hold the reals `s`. -/
structure Reads (x0 x1 x2 : (⟨S2x2048x1024, .bf16⟩ : BufTy).Contents (Elt Ideal)) (x3 : (⟨S2x2048x16, .f32⟩ : BufTy).Contents (Elt Ideal)) (x4 : (⟨S2x2048x1024, .bf16⟩ : BufTy).Contents (Elt Ideal)) (s : Step) : Prop where
  q : ∀ b i n, x0 (ix3 b i n) = ((s.q b i n : ℝ) : EReal)
  k : ∀ b i n, x1 (ix3 b i n) = ((s.k b i n : ℝ) : EReal)
  v : ∀ b i n, x2 (ix3 b i n) = ((s.v b i n : ℝ) : EReal)
  g : ∀ b i n, x3 (ix3 b i n) = ((s.g b i n : ℝ) : EReal)
  w : ∀ b i n, x4 (ix3 b i n) = ((s.w b i n : ℝ) : EReal)

variable {x0 x1 x2 : (⟨S2x2048x1024, .bf16⟩ : BufTy).Contents (Elt Ideal)} {x3 : (⟨S2x2048x16, .f32⟩ : BufTy).Contents (Elt Ideal)} {x4 : (⟨S2x2048x1024, .bf16⟩ : BufTy).Contents (Elt Ideal)} {s : Step}

theorem v4_at (R : Reads x0 x1 x2 x3 x4 s) (b : Fin 2) (h : Fin 16) (i : Fin 2048) (d : Fin 64) : (val_main_v4 (F := Ideal) x2) (ix4 b h i d) = ((s.v b i (ch h d) : ℝ) : EReal) := by
  rw [val_main_v4_apply, (show idx_main_v4 (ix4 b h i d) = ix4 b i h d from by funext a; fin_cases a <;> first | rfl | (apply Fin.ext; simp [ch, hd, tok, Cert.KernelIdeal.Fox.lane, bg, key] <;> omega)), val_main_v3_apply, (show idx_main_v3 (ix4 b i h d) = ix3 b i (ch h d) from by funext a; fin_cases a <;> first | rfl | (apply Fin.ext; simp [ch, hd, tok, Cert.KernelIdeal.Fox.lane, bg, key] <;> omega))]
  exact R.v b i (ch h d)

theorem v7_at (R : Reads x0 x1 x2 x3 x4 s) (b : Fin 2) (h : Fin 16) (i : Fin 2048) (d : Fin 64) : (val_main_v7 (F := Ideal) x0) (ix4 b h i d) = ((s.q b i (ch h d) : ℝ) : EReal) := by
  rw [val_main_v7_apply, (show idx_main_v7 (ix4 b h i d) = ix4 b i h d from by funext a; fin_cases a <;> first | rfl | (apply Fin.ext; simp [ch, hd, tok, Cert.KernelIdeal.Fox.lane, bg, key] <;> omega)), val_main_v6_apply, (show idx_main_v6 (ix4 b i h d) = ix3 b i (ch h d) from by funext a; fin_cases a <;> first | rfl | (apply Fin.ext; simp [ch, hd, tok, Cert.KernelIdeal.Fox.lane, bg, key] <;> omega))]
  exact R.q b i (ch h d)

theorem v9_at (R : Reads x0 x1 x2 x3 x4 s) (b : Fin 2) (h : Fin 16) (i : Fin 2048) (d : Fin 64) : (val_main_v9 (F := Ideal) x1) (ix4 b h i d) = ((s.k b i (ch h d) : ℝ) : EReal) := by
  rw [val_main_v9_apply, (show idx_main_v9 (ix4 b h i d) = ix4 b i h d from by funext a; fin_cases a <;> first | rfl | (apply Fin.ext; simp [ch, hd, tok, Cert.KernelIdeal.Fox.lane, bg, key] <;> omega)), val_main_v8_apply, (show idx_main_v8 (ix4 b i h d) = ix3 b i (ch h d) from by funext a; fin_cases a <;> first | rfl | (apply Fin.ext; simp [ch, hd, tok, Cert.KernelIdeal.Fox.lane, bg, key] <;> omega))]
  exact R.k b i (ch h d)

theorem v59_at (R : Reads x0 x1 x2 x3 x4 s) (b : Fin 2) (h : Fin 16) (i : Fin 2048) (d : Fin 64) : (val_main_v59 (F := Ideal) x4) (ix4 b h i d) = ((s.w b i (ch h d) : ℝ) : EReal) := by
  rw [val_main_v59_apply, (show idx_main_v59 (ix4 b h i d) = ix4 b i h d from by funext a; fin_cases a <;> first | rfl | (apply Fin.ext; simp [ch, hd, tok, Cert.KernelIdeal.Fox.lane, bg, key] <;> omega)), val_main_v58_apply, (show idx_main_v58 (ix4 b i h d) = ix3 b i (ch h d) from by funext a; fin_cases a <;> first | rfl | (apply Fin.ext; simp [ch, hd, tok, Cert.KernelIdeal.Fox.lane, bg, key] <;> omega))]
  exact R.w b i (ch h d)

theorem v5_at (R : Reads x0 x1 x2 x3 x4 s) (b : Fin 2) (h : Fin 16) (i : Fin 2048) : (val_main_v5 (F := Ideal) x3) (ix3 b h i) = ((s.g b i h : ℝ) : EReal) := by
  rw [val_main_v5_apply, (show idx_main_v5 (ix3 b h i) = ix3 b i h from by funext a; fin_cases a <;> first | rfl | (apply Fin.ext; simp [ch, hd, tok, Cert.KernelIdeal.Fox.lane, bg, key] <;> omega))]
  exact R.g b i h

theorem v10_at (R : Reads x0 x1 x2 x3 x4 s) (b : Fin 2) (h : Fin 16) (i j : Fin 2048) : (val_main_v10 (F := Ideal) x0 x1) (ix4 b h i j) = ((∑ d : Fin 64, s.q b i (ch h d) * s.k b j (ch h d) : ℝ) : EReal) := by
  rw [val_main_v10_apply]
  refine (Finset.sum_congr rfl fun k _ => ?_).trans (coe_sum _ _)
  rw [(show lidx_main_v10 (ix4 b h i j) (k) = ix4 b h i k from by funext a; fin_cases a <;> first | rfl | (apply Fin.ext; simp [ch, hd, tok, Cert.KernelIdeal.Fox.lane, bg, key] <;> omega)), (show ridx_main_v10 (ix4 b h i j) (k) = ix4 b h j k from by funext a; fin_cases a <;> first | rfl | (apply Fin.ext; simp [ch, hd, tok, Cert.KernelIdeal.Fox.lane, bg, key] <;> omega)), v7_at R, v9_at R, ← EReal.coe_mul]

theorem v14_at (R : Reads x0 x1 x2 x3 x4 s) (b : Fin 2) (h : Fin 16) (i j : Fin 2048) : (val_main_v14 (F := Ideal) x3) (ix4 b h i j) = ((s.g b i h : ℝ) : EReal) := by
  rw [val_main_v14_apply, (show idx_main_v14 (ix4 b h i j) = ix4 b h i 0 from by funext a; fin_cases a <;> first | rfl | (apply Fin.ext; simp [ch, hd, tok, Cert.KernelIdeal.Fox.lane, bg, key] <;> omega)), val_main_v13_apply, (show idx_main_v13 (ix4 b h i 0) = ix3 b h i from by funext a; fin_cases a <;> first | rfl | (apply Fin.ext; simp [ch, hd, tok, Cert.KernelIdeal.Fox.lane, bg, key] <;> omega))]
  exact v5_at R b h i

theorem v17_at (R : Reads x0 x1 x2 x3 x4 s) (b : Fin 2) (h : Fin 16) (i j : Fin 2048) : (val_main_v17 (F := Ideal) x3) (ix4 b h i j) = ((s.g b j h : ℝ) : EReal) := by
  rw [val_main_v17_apply, (show idx_main_v17 (ix4 b h i j) = ix4 b h 0 j from by funext a; fin_cases a <;> first | rfl | (apply Fin.ext; simp [ch, hd, tok, Cert.KernelIdeal.Fox.lane, bg, key] <;> omega)), val_main_v16_apply, (show idx_main_v16 (ix4 b h 0 j) = ix3 b h j from by funext a; fin_cases a <;> first | rfl | (apply Fin.ext; simp [ch, hd, tok, Cert.KernelIdeal.Fox.lane, bg, key] <;> omega))]
  exact v5_at R b h j

theorem v18_at (R : Reads x0 x1 x2 x3 x4 s) (b : Fin 2) (h : Fin 16) (i j : Fin 2048) : (val_main_v18 (F := Ideal) x0 x1 x3) (ix4 b h i j) = ((s.logit b h i j : ℝ) : EReal) := by
  have e : val_main_v11 (F := Ideal) (ix4 b h i j) = ((1 / 8 : ℝ) : EReal) := eighth_f32
  rw [val_main_v18_apply, val_main_v15_apply, val_main_v12_apply, v10_at R, v14_at R, v17_at R, e]
  simp only [Ideal.subf_def, Ideal.addf_def, Ideal.mulf_def, ← EReal.coe_mul, ← EReal.coe_add, ← EReal.coe_sub]
  rfl

theorem v25_1_at  (b : Fin 2) (h : Fin 16) (i j : Fin 2048) : (val_main_v25_1 (F := Ideal)) (ix4 b h i j) = if j ≤ i then 1#1 else 0#1 := by
  have e : val_main_v25_1 (F := Ideal) (ix4 b h i j) = IntOp.cmpi .sge (BitVec.ofNat 32 i.val) (BitVec.ofNat 32 j.val) := rfl
  rw [e]
  have hi : (BitVec.ofNat 32 i.val).toInt = (i.val : Int) := by
    have hn : (BitVec.ofNat 32 i.val).toNat = i.val := by rw [BitVec.toNat_ofNat]; omega
    rw [BitVec.toInt_eq_toNat_of_lt (by omega), hn]
  have hj : (BitVec.ofNat 32 j.val).toInt = (j.val : Int) := by
    have hn : (BitVec.ofNat 32 j.val).toNat = j.val := by rw [BitVec.toNat_ofNat]; omega
    rw [BitVec.toInt_eq_toNat_of_lt (by omega), hn]
  unfold IntOp.cmpi
  simp only [BitVec.sle, hi, hj, Int.ofNat_le]
  by_cases hc : j ≤ i
  · rw [if_pos hc]; simp [hc]
  · rw [if_neg hc]; simp [hc]

theorem v25_0_at (R : Reads x0 x1 x2 x3 x4 s) (b : Fin 2) (h : Fin 16) (i j : Fin 2048) : (val_main_v25_0 (F := Ideal) x0 x1 x3) (ix4 b h i j) = if j ≤ i then ((s.logit b h i j : ℝ) : EReal) else ⊥ := by
  have e : val_main_call0_v2 (F := Ideal) (ix4 b h i j) = (⊥ : EReal) := ofBits_neg_inf_f32
  rw [val_main_v25_0_apply, v25_1_at, v18_at R, e]
  unfold Scalar.select
  split <;> simp

/-- The largest logit of a row is a real number. -/
theorem v26_real (R : Reads x0 x1 x2 x3 x4 s) (b : Fin 2) (h : Fin 16) (i : Fin 2048) : ∃ t : ℝ, val_main_v26 (F := Ideal) x0 x1 x3 (ix3 b h i) = (t : EReal) := by
  have hr : Shape.Reduces S2x16x2048x2048 [3] S2x16x2048 := by decide
  have e : (val_main_v26 (F := Ideal) x0 x1 x3) (ix3 b h i) = (Finset.univ : Finset (Fin 2048)).fold max (⊥ : EReal) ((val_main_v25_0 (F := Ideal) x0 x1 x3) ∘ hr.lift (ix3 b h i)) := by
    unfold val_main_v26
    rw [show (FloatOps.maximumf : Ideal .f32 → Ideal .f32 → Ideal .f32) = max from rfl]
    refine (Host.reduce_eq_fold_single (max : EReal → EReal → EReal) _ _ _ hr h_S_ _).trans ?_
    rw [show val_main_cst_1 (F := Ideal) (Shape.Idx.first h_S_) = (⊥ : EReal) from ofBits_neg_inf_f32]
    rfl
  have hl : ∀ j : Fin 2048, hr.lift (ix3 b h i) j = ix4 b h i j := fun j => by funext a; fin_cases a <;> rfl
  have g : ∀ j : Fin 2048, ((val_main_v25_0 (F := Ideal) x0 x1 x3) ∘ hr.lift (ix3 b h i)) j = if j ≤ i then ((s.logit b h i j : ℝ) : EReal) else ⊥ := fun j => by
    show (val_main_v25_0 (F := Ideal) x0 x1 x3) (hr.lift (ix3 b h i) j) = _
    rw [hl j, v25_0_at R]
  rw [e]
  have lo : ((s.logit b h i i : ℝ) : EReal) ≤ (Finset.univ : Finset (Fin 2048)).fold max (⊥ : EReal) ((val_main_v25_0 (F := Ideal) x0 x1 x3) ∘ hr.lift (ix3 b h i)) := by
    refine Finset.le_fold_max _ |>.mpr (Or.inr ⟨i, Finset.mem_univ _, ?_⟩)
    exact ((g i).trans (if_pos le_rfl)).ge
  have up : (Finset.univ : Finset (Fin 2048)).fold max (⊥ : EReal) ((val_main_v25_0 (F := Ideal) x0 x1 x3) ∘ hr.lift (ix3 b h i)) < ⊤ := by
    refine Finset.fold_max_lt _ |>.mpr ⟨bot_lt_top, fun j _ => ?_⟩
    refine (g j).trans_lt ?_
    split
    · exact EReal.coe_lt_top _
    · exact bot_lt_top
  exact ⟨_, (EReal.coe_toReal up.ne ((EReal.bot_lt_coe _).trans_le lo).ne').symm⟩

/-- The reals a row's logits are shifted by are the reference's largest logits. -/
def Top (x0 x1 : (⟨S2x2048x1024, .bf16⟩ : BufTy).Contents (Elt Ideal)) (x3 : (⟨S2x2048x16, .f32⟩ : BufTy).Contents (Elt Ideal)) (s : Step) : Prop :=
  ∀ b h i, (val_main_v26 (F := Ideal) x0 x1 x3) (ix3 b h i) = ((s.t b h i : ℝ) : EReal)

theorem v44_at (R : Reads x0 x1 x2 x3 x4 s) (T : Top x0 x1 x3 s) (b : Fin 2) (h : Fin 16) (i j : Fin 2048) : (val_main_v44 (F := Ideal) x0 x1 x3) (ix4 b h i j) = ((s.t b h i : ℝ) : EReal) := by
  rw [val_main_v44_apply, (show idx_main_v44 (ix4 b h i j) = ix4 b h i 0 from by funext a; fin_cases a <;> first | rfl | (apply Fin.ext; simp [ch, hd, tok, Cert.KernelIdeal.Fox.lane, bg, key] <;> omega)), val_main_v43_apply, (show idx_main_v43 (ix4 b h i 0) = ix3 b h i from by funext a; fin_cases a <;> first | rfl | (apply Fin.ext; simp [ch, hd, tok, Cert.KernelIdeal.Fox.lane, bg, key] <;> omega)), val_main_v33_apply, T b h i]
  have e : val_main_v32 (F := Ideal) (ix3 b h i) = (⊥ : EReal) := ofBits_neg_inf_f32
  rw [e]
  exact max_eq_right bot_le

theorem v46_at (R : Reads x0 x1 x2 x3 x4 s) (T : Top x0 x1 x3 s) (b : Fin 2) (h : Fin 16) (i j : Fin 2048) : (val_main_v46 (F := Ideal) x0 x1 x3) (ix4 b h i j) = ((s.ex b h i j : ℝ) : EReal) := by
  rw [val_main_v46_apply, val_main_v45_apply, v25_0_at R, v44_at R T]
  unfold Step.ex
  split
  · exact congrArg Ideal.exp (EReal.coe_sub _ _).symm
  · exact (congrArg Ideal.exp (EReal.bot_sub ((s.t b h i : ℝ) : EReal))).trans EReal.coe_zero.symm

theorem v47_at (R : Reads x0 x1 x2 x3 x4 s) (T : Top x0 x1 x3 s) (b : Fin 2) (h : Fin 16) (i : Fin 2048) : (val_main_v47 (F := Ideal) x0 x1 x3) (ix3 b h i) = ((s.Z b h i : ℝ) : EReal) := by
  have e : val_main_cst_9 (F := Ideal) (Shape.Idx.first h_S_) = (0 : EReal) := Ideal.ofBits_zero_f32
  rw [val_main_v47_apply, e, zero_add]
  refine (Finset.sum_congr rfl fun k _ => ?_).trans (coe_sum _ _)
  rw [(show idx_main_v47 (ix3 b h i) (k) = ix4 b h i k from by funext a; fin_cases a <;> first | rfl | (apply Fin.ext; simp [ch, hd, tok, Cert.KernelIdeal.Fox.lane, bg, key] <;> omega)), v46_at R T]

theorem v48_at (R : Reads x0 x1 x2 x3 x4 s) (T : Top x0 x1 x3 s) (b : Fin 2) (h : Fin 16) (i : Fin 2048) (e : Fin 1) : (val_main_v48 (F := Ideal) x0 x1 x3) (ix4 b h i e) = ((s.Z b h i : ℝ) : EReal) := by
  rw [val_main_v48_apply, (show idx_main_v48 (ix4 b h i e) = ix3 b h i from by funext a; fin_cases a <;> first | rfl | (apply Fin.ext; simp [ch, hd, tok, Cert.KernelIdeal.Fox.lane, bg, key] <;> omega))]
  exact v47_at R T b h i

theorem v49_at (R : Reads x0 x1 x2 x3 x4 s) (T : Top x0 x1 x3 s) (b : Fin 2) (h : Fin 16) (i j : Fin 2048) : (val_main_v49 (F := Ideal) x0 x1 x3) (ix4 b h i j) = ((s.Z b h i : ℝ) : EReal) := by
  rw [val_main_v49_apply, (show idx_main_v49 (ix4 b h i j) = ix4 b h i 0 from by funext a; fin_cases a <;> first | rfl | (apply Fin.ext; simp [ch, hd, tok, Cert.KernelIdeal.Fox.lane, bg, key] <;> omega))]
  exact v48_at R T b h i 0

theorem v69_at (R : Reads x0 x1 x2 x3 x4 s) (T : Top x0 x1 x3 s) (b : Fin 2) (h : Fin 16) (i j : Fin 2048) : (val_main_v69 (F := Ideal) x0 x1 x3) (ix4 b h i j) = ((s.Z b h i : ℝ) : EReal) := by
  rw [val_main_v69_apply, (show idx_main_v69 (ix4 b h i j) = ix4 b h i 0 from by funext a; fin_cases a <;> first | rfl | (apply Fin.ext; simp [ch, hd, tok, Cert.KernelIdeal.Fox.lane, bg, key] <;> omega))]
  exact v48_at R T b h i 0

theorem v50_at (R : Reads x0 x1 x2 x3 x4 s) (T : Top x0 x1 x3 s) (b : Fin 2) (h : Fin 16) (i j : Fin 2048) : (val_main_v50 (F := Ideal) x0 x1 x3) (ix4 b h i j) = ((s.prob b h i j : ℝ) : EReal) := by
  rw [val_main_v50_apply, v46_at R T, v49_at R T]
  exact div_real _ (s.Z_ne b h i)

theorem v63_at (R : Reads x0 x1 x2 x3 x4 s) (T : Top x0 x1 x3 s) (b : Fin 2) (h : Fin 16) (i j : Fin 2048) : (val_main_v63 (F := Ideal) x0 x1 x3) (ix4 b h i j) = ((1 / (s.Z b h i * s.Z b h i) : ℝ) : EReal) := by
  have e : val_main_v52 (F := Ideal) (ix4 b h i 0) = ((1 : ℝ) : EReal) := one_f32
  rw [val_main_v63_apply, (show idx_main_v63 (ix4 b h i j) = ix4 b h i 0 from by funext a; fin_cases a <;> first | rfl | (apply Fin.ext; simp [ch, hd, tok, Cert.KernelIdeal.Fox.lane, bg, key] <;> omega)), val_main_v53_apply, val_main_v51_apply, v48_at R T, e, Ideal.mulf_def, ← EReal.coe_mul]
  exact div_real _ (mul_ne_zero (s.Z_ne b h i) (s.Z_ne b h i))

theorem v54_at (R : Reads x0 x1 x2 x3 x4 s) (T : Top x0 x1 x3 s) (b : Fin 2) (h : Fin 16) (i : Fin 2048) (d : Fin 64) : (val_main_v54 (F := Ideal) x0 x1 x2 x3) (ix4 b h i d) = ((s.out b h i d : ℝ) : EReal) := by
  rw [val_main_v54_apply]
  refine (Finset.sum_congr rfl fun k _ => ?_).trans (coe_sum _ _)
  rw [(show lidx_main_v54 (ix4 b h i d) (k) = ix4 b h i k from by funext a; fin_cases a <;> first | rfl | (apply Fin.ext; simp [ch, hd, tok, Cert.KernelIdeal.Fox.lane, bg, key] <;> omega)), (show ridx_main_v54 (ix4 b h i d) (k) = ix4 b h k d from by funext a; fin_cases a <;> first | rfl | (apply Fin.ext; simp [ch, hd, tok, Cert.KernelIdeal.Fox.lane, bg, key] <;> omega)), v50_at R T, v4_at R, ← EReal.coe_mul]

theorem v60_at (R : Reads x0 x1 x2 x3 x4 s) (T : Top x0 x1 x3 s) (b : Fin 2) (h : Fin 16) (d : Fin 64) (j : Fin 2048) : (val_main_v60 (F := Ideal) x0 x1 x3 x4) (ix4 b h d j) = ((s.dv b h j d : ℝ) : EReal) := by
  rw [val_main_v60_apply]
  refine (Finset.sum_congr rfl fun k _ => ?_).trans (coe_sum _ _)
  rw [(show lidx_main_v60 (ix4 b h d j) (k) = ix4 b h k d from by funext a; fin_cases a <;> first | rfl | (apply Fin.ext; simp [ch, hd, tok, Cert.KernelIdeal.Fox.lane, bg, key] <;> omega)), (show ridx_main_v60 (ix4 b h d j) (k) = ix4 b h k j from by funext a; fin_cases a <;> first | rfl | (apply Fin.ext; simp [ch, hd, tok, Cert.KernelIdeal.Fox.lane, bg, key] <;> omega)), v59_at R, v50_at R T, ← EReal.coe_mul]

theorem v62_at (R : Reads x0 x1 x2 x3 x4 s) (b : Fin 2) (h : Fin 16) (i j : Fin 2048) : (val_main_v62 (F := Ideal) x2 x4) (ix4 b h i j) = ((s.dp b h i j : ℝ) : EReal) := by
  rw [val_main_v62_apply]
  refine (Finset.sum_congr rfl fun k _ => ?_).trans (coe_sum _ _)
  rw [(show lidx_main_v62 (ix4 b h i j) (k) = ix4 b h i k from by funext a; fin_cases a <;> first | rfl | (apply Fin.ext; simp [ch, hd, tok, Cert.KernelIdeal.Fox.lane, bg, key] <;> omega)), (show ridx_main_v62 (ix4 b h i j) (k) = ix4 b h j k from by funext a; fin_cases a <;> first | rfl | (apply Fin.ext; simp [ch, hd, tok, Cert.KernelIdeal.Fox.lane, bg, key] <;> omega)), v59_at R, v4_at R, ← EReal.coe_mul]

theorem v66_at (R : Reads x0 x1 x2 x3 x4 s) (T : Top x0 x1 x3 s) (b : Fin 2) (h : Fin 16) (i : Fin 2048) : (val_main_v66 (F := Ideal) x0 x1 x2 x3 x4) (ix3 b h i) = ((s.dl b h i / s.Z b h i : ℝ) : EReal) := by
  have e : val_main_cst_11 (F := Ideal) (Shape.Idx.first h_S_) = (0 : EReal) := Ideal.ofBits_zero_f32
  rw [val_main_v66_apply, e, zero_add]
  refine (Finset.sum_congr rfl fun k _ => ?_).trans ((coe_sum _ (fun k => s.dp b h i k * (1 / (s.Z b h i * s.Z b h i)) * s.ex b h i k)).trans (congrArg _ ?_))
  · rw [(show idx_main_v66 (ix3 b h i) (k) = ix4 b h i k from by funext a; fin_cases a <;> first | rfl | (apply Fin.ext; simp [ch, hd, tok, Cert.KernelIdeal.Fox.lane, bg, key] <;> omega)), val_main_v65_apply, val_main_v64_apply, v62_at R, v63_at R T, v46_at R T, Ideal.mulf_def, Ideal.mulf_def, ← EReal.coe_mul, ← EReal.coe_mul]
  · unfold Step.dl Step.prob
    rw [Finset.sum_div]
    refine Finset.sum_congr rfl fun k _ => ?_
    have hz := s.Z_ne b h i
    field_simp

theorem v72_at (R : Reads x0 x1 x2 x3 x4 s) (T : Top x0 x1 x3 s) (b : Fin 2) (h : Fin 16) (i j : Fin 2048) : (val_main_v72 (F := Ideal) x0 x1 x2 x3 x4) (ix4 b h i j) = ((-(s.dl b h i / s.Z b h i) : ℝ) : EReal) := by
  rw [val_main_v72_apply, (show idx_main_v72 (ix4 b h i j) = ix3 b h i from by funext a; fin_cases a <;> first | rfl | (apply Fin.ext; simp [ch, hd, tok, Cert.KernelIdeal.Fox.lane, bg, key] <;> omega)), val_main_v71_apply, show val_main_cst_12 (F := Ideal) (Shape.Idx.first h_S_) = (0 : EReal) from Ideal.ofBits_zero_f32, zero_add, Fin.sum_univ_one,
    (show idx_main_v71 (ix3 b h i) (0) = ix4 b h i 0 from by funext a; fin_cases a <;> first | rfl | (apply Fin.ext; simp [ch, hd, tok, Cert.KernelIdeal.Fox.lane, bg, key] <;> omega)), val_main_v68_apply, val_main_v67_apply, (show idx_main_v67 (ix4 b h i 0) = ix3 b h i from by funext a; fin_cases a <;> first | rfl | (apply Fin.ext; simp [ch, hd, tok, Cert.KernelIdeal.Fox.lane, bg, key] <;> omega)), v66_at R T]
  exact (EReal.coe_neg _).symm

theorem v74_at (R : Reads x0 x1 x2 x3 x4 s) (T : Top x0 x1 x3 s) (b : Fin 2) (h : Fin 16) (i j : Fin 2048) : (val_main_v74 (F := Ideal) x0 x1 x2 x3 x4) (ix4 b h i j) = ((s.ds b h i j : ℝ) : EReal) := by
  rw [val_main_v74_apply, val_main_v73_apply, val_main_v70_apply, v62_at R, v69_at R T, v72_at R T, v46_at R T]
  refine (congrArg₂ (· * ·) ((congrArg₂ (· + ·) (div_real (s.dp b h i j) (s.Z_ne b h i)) rfl).trans (EReal.coe_add _ _).symm) rfl).trans ((EReal.coe_mul _ _).symm.trans (congrArg _ ?_))
  have hz := s.Z_ne b h i
  unfold Step.ds Step.prob
  field_simp
  ring

theorem v75_at (R : Reads x0 x1 x2 x3 x4 s) (T : Top x0 x1 x3 s) (b : Fin 2) (h : Fin 16) (i j : Fin 2048) : (val_main_v75 (F := Ideal) x0 x1 x2 x3 x4) (ix4 b h i j) = ((s.ds b h i j : ℝ) : EReal) := by
  have e : val_main_call1_v0 (F := Ideal) (ix4 b h i j) = (0 : EReal) := Ideal.ofBits_zero_f32
  rw [val_main_v75_apply, v25_1_at, v74_at R T, e]
  unfold Scalar.select
  by_cases hc : j ≤ i
  · rw [if_pos hc]; rfl
  · rw [if_neg hc, s.ds_later b h i j hc]; exact EReal.coe_zero.symm

theorem v77_at (R : Reads x0 x1 x2 x3 x4 s) (T : Top x0 x1 x3 s) (b : Fin 2) (h : Fin 16) (j : Fin 2048) : (val_main_v77 (F := Ideal) x0 x1 x2 x3 x4) (ix3 b h j) = ((s.df b h j : ℝ) : EReal) := by
  have e : val_main_cst_13 (F := Ideal) (Shape.Idx.first h_S_) = (0 : EReal) := Ideal.ofBits_zero_f32
  rw [val_main_v77_apply, e, zero_add]
  refine (Finset.sum_congr rfl fun k _ => ?_).trans ((coe_sum _ (fun k => -s.ds b h k j)).trans (congrArg _ (Finset.sum_neg_distrib _)))
  rw [(show idx_main_v77 (ix3 b h j) (k) = ix4 b h k j from by funext a; fin_cases a <;> first | rfl | (apply Fin.ext; simp [ch, hd, tok, Cert.KernelIdeal.Fox.lane, bg, key] <;> omega)), val_main_v76_apply, v75_at R T]
  exact (EReal.coe_neg _).symm

theorem v80_at (R : Reads x0 x1 x2 x3 x4 s) (T : Top x0 x1 x3 s) (b : Fin 2) (h : Fin 16) (i : Fin 2048) : (val_main_v80 (F := Ideal) x0 x1 x2 x3 x4) (ix3 b h i) = 0 := by
  have e : val_main_cst_15 (F := Ideal) (Shape.Idx.first h_S_) = (0 : EReal) := Ideal.ofBits_zero_f32
  rw [val_main_v80_apply, e, zero_add]
  refine (Finset.sum_congr rfl fun k _ => ?_).trans ((coe_sum _ _).trans ((congrArg _ (s.sum_ds b h i)).trans EReal.coe_zero))
  rw [(show idx_main_v80 (ix3 b h i) (k) = ix4 b h i k from by funext a; fin_cases a <;> first | rfl | (apply Fin.ext; simp [ch, hd, tok, Cert.KernelIdeal.Fox.lane, bg, key] <;> omega)), v75_at R T]

theorem v83_at (R : Reads x0 x1 x2 x3 x4 s) (T : Top x0 x1 x3 s) (b : Fin 2) (h : Fin 16) (j : Fin 2048) : (val_main_v83 (F := Ideal) x0 x1 x2 x3 x4) (ix3 b h j) = ((s.df b h j : ℝ) : EReal) := by
  rw [val_main_v83_apply, val_main_v79_apply, val_main_v82_apply, show val_main_cst_14 (F := Ideal) (Shape.Idx.first h_S_) = (0 : EReal) from Ideal.ofBits_zero_f32,
    show val_main_cst_16 (F := Ideal) (Shape.Idx.first h_S_) = (0 : EReal) from Ideal.ofBits_zero_f32, Fin.sum_univ_one, Fin.sum_univ_one,
    (show idx_main_v79 (ix3 b h j) (0) = ix4 b h 0 j from by funext a; fin_cases a <;> first | rfl | (apply Fin.ext; simp [ch, hd, tok, Cert.KernelIdeal.Fox.lane, bg, key] <;> omega)), (show idx_main_v82 (ix3 b h j) (0) = ix4 b h j 0 from by funext a; fin_cases a <;> first | rfl | (apply Fin.ext; simp [ch, hd, tok, Cert.KernelIdeal.Fox.lane, bg, key] <;> omega)), val_main_v78_apply, val_main_v81_apply,
    (show idx_main_v78 (ix4 b h 0 j) = ix3 b h j from by funext a; fin_cases a <;> first | rfl | (apply Fin.ext; simp [ch, hd, tok, Cert.KernelIdeal.Fox.lane, bg, key] <;> omega)), (show idx_main_v81 (ix4 b h j 0) = ix3 b h j from by funext a; fin_cases a <;> first | rfl | (apply Fin.ext; simp [ch, hd, tok, Cert.KernelIdeal.Fox.lane, bg, key] <;> omega)), v77_at R T, v80_at R T]
  simp

theorem v85_at (R : Reads x0 x1 x2 x3 x4 s) (T : Top x0 x1 x3 s) (b : Fin 2) (h : Fin 16) (i j : Fin 2048) : (val_main_v85 (F := Ideal) x0 x1 x2 x3 x4) (ix4 b h i j) = ((s.ds b h i j * (1 / 8) : ℝ) : EReal) := by
  have e : val_main_v84 (F := Ideal) (ix4 b h i j) = ((1 / 8 : ℝ) : EReal) := eighth_f32
  rw [val_main_v85_apply, v75_at R T, e]
  exact (EReal.coe_mul _ _).symm

theorem v86_at (R : Reads x0 x1 x2 x3 x4 s) (T : Top x0 x1 x3 s) (b : Fin 2) (h : Fin 16) (j : Fin 2048) (d : Fin 64) : (val_main_v86 (F := Ideal) x0 x1 x2 x3 x4) (ix4 b h j d) = ((s.dk b h j d : ℝ) : EReal) := by
  rw [val_main_v86_apply]
  refine (Finset.sum_congr rfl fun k _ => ?_).trans (coe_sum _ _)
  rw [(show lidx_main_v86 (ix4 b h j d) (k) = ix4 b h k j from by funext a; fin_cases a <;> first | rfl | (apply Fin.ext; simp [ch, hd, tok, Cert.KernelIdeal.Fox.lane, bg, key] <;> omega)), (show ridx_main_v86 (ix4 b h j d) (k) = ix4 b h k d from by funext a; fin_cases a <;> first | rfl | (apply Fin.ext; simp [ch, hd, tok, Cert.KernelIdeal.Fox.lane, bg, key] <;> omega)), v85_at R T, v7_at R, ← EReal.coe_mul]

theorem v87_at (R : Reads x0 x1 x2 x3 x4 s) (T : Top x0 x1 x3 s) (b : Fin 2) (h : Fin 16) (i : Fin 2048) (d : Fin 64) : (val_main_v87 (F := Ideal) x0 x1 x2 x3 x4) (ix4 b h i d) = ((s.dq b h i d : ℝ) : EReal) := by
  rw [val_main_v87_apply]
  refine (Finset.sum_congr rfl fun k _ => ?_).trans (coe_sum _ _)
  rw [(show lidx_main_v87 (ix4 b h i d) (k) = ix4 b h i k from by funext a; fin_cases a <;> first | rfl | (apply Fin.ext; simp [ch, hd, tok, Cert.KernelIdeal.Fox.lane, bg, key] <;> omega)), (show ridx_main_v87 (ix4 b h i d) (k) = ix4 b h k d from by funext a; fin_cases a <;> first | rfl | (apply Fin.ext; simp [ch, hd, tok, Cert.KernelIdeal.Fox.lane, bg, key] <;> omega)), v85_at R T, v9_at R, ← EReal.coe_mul]

theorem v96_at (R : Reads x0 x1 x2 x3 x4 s) (T : Top x0 x1 x3 s) (g : Fin 8) (b : Fin 2) (i : Fin 2048) (e : Fin 2) (d : Fin 64) : (val_main_v96 (F := Ideal) x0 x1 x2 x3 x4) (ix3 g (tok b i) (lane e d)) = ((s.dq b (hd g e) i d : ℝ) : EReal) := by
  rw [val_main_v96_apply, (show idx_main_v96 (ix3 g (tok b i) (lane e d)) = ix3 (tok b i) g (lane e d) from by funext a; fin_cases a <;> first | rfl | (apply Fin.ext; simp [ch, hd, tok, Cert.KernelIdeal.Fox.lane, bg, key] <;> omega)), val_main_v95_apply, (show idx_main_v95 (ix3 (tok b i) g (lane e d)) = ix3 b i (ch (hd g e) d) from by funext a; fin_cases a <;> first | rfl | (apply Fin.ext; simp [ch, hd, tok, Cert.KernelIdeal.Fox.lane, bg, key] <;> omega)), val_main_v91_apply, (show idx_main_v91 (ix3 b i (ch (hd g e) d)) = ix4 b i (hd g e) d from by funext a; fin_cases a <;> first | rfl | (apply Fin.ext; simp [ch, hd, tok, Cert.KernelIdeal.Fox.lane, bg, key] <;> omega)), val_main_v90_apply, (show idx_main_v90 (ix4 b i (hd g e) d) = ix4 b (hd g e) i d from by funext a; fin_cases a <;> first | rfl | (apply Fin.ext; simp [ch, hd, tok, Cert.KernelIdeal.Fox.lane, bg, key] <;> omega))]
  exact v87_at R T b (hd g e) i d

theorem v98_at (R : Reads x0 x1 x2 x3 x4 s) (T : Top x0 x1 x3 s) (g : Fin 8) (b : Fin 2) (i : Fin 2048) (e : Fin 2) (d : Fin 64) : (val_main_v98 (F := Ideal) x0 x1 x2 x3 x4) (ix3 g (tok b i) (lane e d)) = ((s.dk b (hd g e) i d : ℝ) : EReal) := by
  rw [val_main_v98_apply, (show idx_main_v98 (ix3 g (tok b i) (lane e d)) = ix3 (tok b i) g (lane e d) from by funext a; fin_cases a <;> first | rfl | (apply Fin.ext; simp [ch, hd, tok, Cert.KernelIdeal.Fox.lane, bg, key] <;> omega)), val_main_v97_apply, (show idx_main_v97 (ix3 (tok b i) g (lane e d)) = ix3 b i (ch (hd g e) d) from by funext a; fin_cases a <;> first | rfl | (apply Fin.ext; simp [ch, hd, tok, Cert.KernelIdeal.Fox.lane, bg, key] <;> omega)), val_main_v89_apply, (show idx_main_v89 (ix3 b i (ch (hd g e) d)) = ix4 b i (hd g e) d from by funext a; fin_cases a <;> first | rfl | (apply Fin.ext; simp [ch, hd, tok, Cert.KernelIdeal.Fox.lane, bg, key] <;> omega)), val_main_v88_apply, (show idx_main_v88 (ix4 b i (hd g e) d) = ix4 b (hd g e) i d from by funext a; fin_cases a <;> first | rfl | (apply Fin.ext; simp [ch, hd, tok, Cert.KernelIdeal.Fox.lane, bg, key] <;> omega))]
  exact v86_at R T b (hd g e) i d

theorem v100_at (R : Reads x0 x1 x2 x3 x4 s) (T : Top x0 x1 x3 s) (g : Fin 8) (b : Fin 2) (i : Fin 2048) (e : Fin 2) (d : Fin 64) : (val_main_v100 (F := Ideal) x0 x1 x3 x4) (ix3 g (tok b i) (lane e d)) = ((s.dv b (hd g e) i d : ℝ) : EReal) := by
  rw [val_main_v100_apply, (show idx_main_v100 (ix3 g (tok b i) (lane e d)) = ix3 (tok b i) g (lane e d) from by funext a; fin_cases a <;> first | rfl | (apply Fin.ext; simp [ch, hd, tok, Cert.KernelIdeal.Fox.lane, bg, key] <;> omega)), val_main_v99_apply, (show idx_main_v99 (ix3 (tok b i) g (lane e d)) = ix3 b i (ch (hd g e) d) from by funext a; fin_cases a <;> first | rfl | (apply Fin.ext; simp [ch, hd, tok, Cert.KernelIdeal.Fox.lane, bg, key] <;> omega)), val_main_v94_apply, (show idx_main_v94 (ix3 b i (ch (hd g e) d)) = ix4 b i (hd g e) d from by funext a; fin_cases a <;> first | rfl | (apply Fin.ext; simp [ch, hd, tok, Cert.KernelIdeal.Fox.lane, bg, key] <;> omega)), val_main_v93_apply, (show idx_main_v93 (ix4 b i (hd g e) d) = ix4 b (hd g e) i d from by funext a; fin_cases a <;> first | rfl | (apply Fin.ext; simp [ch, hd, tok, Cert.KernelIdeal.Fox.lane, bg, key] <;> omega)), val_main_v61_apply, (show idx_main_v61 (ix4 b (hd g e) i d) = ix4 b (hd g e) d i from by funext a; fin_cases a <;> first | rfl | (apply Fin.ext; simp [ch, hd, tok, Cert.KernelIdeal.Fox.lane, bg, key] <;> omega))]
  exact v60_at R T b (hd g e) d i

theorem v105_at (R : Reads x0 x1 x2 x3 x4 s) (T : Top x0 x1 x3 s) (g : Fin 8) (b : Fin 2) (i : Fin 2048) (e : Fin 2) (d : Fin 64) : (val_main_v105 (F := Ideal) x0 x1 x2 x3 x4) (ix3 g (tok b i) (lane e d)) = ((s.dk b (hd g e) i d : ℝ) : EReal) := by
  rw [val_main_v105_apply]
  exact v98_at R T g b i e d

theorem v106_at (R : Reads x0 x1 x2 x3 x4 s) (T : Top x0 x1 x3 s) (g : Fin 8) (b : Fin 2) (i : Fin 2048) (e : Fin 2) (d : Fin 64) : (val_main_v106 (F := Ideal) x0 x1 x3 x4) (ix3 g (tok b i) (lane e d)) = ((s.dv b (hd g e) i d : ℝ) : EReal) := by
  rw [val_main_v106_apply]
  exact v100_at R T g b i e d

theorem v103_at (R : Reads x0 x1 x2 x3 x4 s) (T : Top x0 x1 x3 s) (b : Fin 2) (g : Fin 8) (j e : Fin 2) (c : Fin 1024) : (val_main_v103 (F := Ideal) x0 x1 x2 x3 x4) (ix4 (bg b g) j e c) = ((s.df b (hd g e) (key j c) : ℝ) : EReal) := by
  rw [val_main_v103_apply, (show idx_main_v103 (ix4 (bg b g) j e c) = ix5 b g j e c from by funext a; fin_cases a <;> first | rfl | (apply Fin.ext; simp [ch, hd, tok, Cert.KernelIdeal.Fox.lane, bg, key] <;> omega)), val_main_v102_apply, (show idx_main_v102 (ix5 b g j e c) = ix5 b j c g e from by funext a; fin_cases a <;> first | rfl | (apply Fin.ext; simp [ch, hd, tok, Cert.KernelIdeal.Fox.lane, bg, key] <;> omega)), val_main_v101_apply, (show idx_main_v101 (ix5 b j c g e) = ix3 b (key j c) (hd g e) from by funext a; fin_cases a <;> first | rfl | (apply Fin.ext; simp [ch, hd, tok, Cert.KernelIdeal.Fox.lane, bg, key] <;> omega)), val_main_v92_apply, (show idx_main_v92 (ix3 b (key j c) (hd g e)) = ix3 b (hd g e) (key j c) from by funext a; fin_cases a <;> first | rfl | (apply Fin.ext; simp [ch, hd, tok, Cert.KernelIdeal.Fox.lane, bg, key] <;> omega))]
  exact v83_at R T b (hd g e) (key j c)

theorem v56_at (R : Reads x0 x1 x2 x3 x4 s) (T : Top x0 x1 x3 s) (b : Fin 2) (h : Fin 16) (i : Fin 2048) (d : Fin 64) : (val_main_v56 (F := Ideal) x0 x1 x2 x3) (ix3 b i (ch h d)) = ((s.out b h i d : ℝ) : EReal) := by
  rw [val_main_v56_apply, (show idx_main_v56 (ix3 b i (ch h d)) = ix4 b i h d from by funext a; fin_cases a <;> first | rfl | (apply Fin.ext; simp [ch, hd, tok, Cert.KernelIdeal.Fox.lane, bg, key] <;> omega)), val_main_v55_apply, (show idx_main_v55 (ix4 b i h d) = ix4 b h i d from by funext a; fin_cases a <;> first | rfl | (apply Fin.ext; simp [ch, hd, tok, Cert.KernelIdeal.Fox.lane, bg, key] <;> omega))]
  exact v54_at R T b h i d

end Cert.ReferenceIdeal.Attn
-- ==== Proof.Fox.RefPad.lean ====
/- The row statistic the saved forward pass hands over, and the padded gradient of the gate. -/
module

public import proofs.«01_k».proof.Proof.Fox.RefValue

@[expose] public section

set_option maxRecDepth 16384

noncomputable section

namespace Cert.ReferenceIdeal.Attn

open Cert.ReferenceIdeal Cert.ReferenceIdeal.Gen Cert.ReferenceIdeal.Read Cert.Attn
open Idealize.ShloMosaic Idealize.ShloMosaic.TcCoe
open Cert.KernelIdeal.Fox (ofBits_neg_inf_f32 row)

variable {x0 x1 x2 : (⟨S2x2048x1024, .bf16⟩ : BufTy).Contents (Elt Ideal)} {x3 : (⟨S2x2048x16, .f32⟩ : BufTy).Contents (Elt Ideal)} {x4 : (⟨S2x2048x1024, .bf16⟩ : BufTy).Contents (Elt Ideal)} {s : Step}

theorem v33_eq : (val_main_v33 (F := Ideal) x0 x1 x3) = (val_main_v26 (F := Ideal) x0 x1 x3) := by
  funext i
  rw [val_main_v33_apply, show val_main_v32 (F := Ideal) i = (⊥ : EReal) from ofBits_neg_inf_f32]
  exact max_eq_right bot_le

/-- A row's maximum and the logarithm of its sum of exponentials above it. -/
def lseOf (y : FVec Ideal S2x16x2048 .f32) (z : FVec Ideal S2x16x2048x2048 .f32) : FVec Ideal S2x16x2048 .f32 :=
  addf y (Host.log (Host.reduceAdd (Host.exp (subf z (broadcastInDim S2x16x2048x2048 ![0, 1, 2, 3] bcast_S2x16x2048x1_S2x16x2048x2048_0_1_2_3 (broadcastInDim S2x16x2048x1 ![0, 1, 2] bcast_S2x16x2048_S2x16x2048x1_0_1_2 y)))) (constant S_ .f32 0x00000000#32) reducesTo_S2x16x2048x2048_S2x16x2048_d3 h_S_))

theorem lseOf_eq : lseOf (val_main_v26 (F := Ideal) x0 x1 x3) (val_main_v25_0 (F := Ideal) x0 x1 x3) = addf (val_main_v26 (F := Ideal) x0 x1 x3) (Host.log (val_main_v47 (F := Ideal) x0 x1 x3)) := by
  unfold lseOf val_main_v47 val_main_v46 val_main_v45 val_main_v44 val_main_v43 val_main_cst_9
  rw [v33_eq]

theorem log_real {z : ℝ} (h : 0 < z) : Ideal.log ((z : ℝ) : EReal) = ((Real.log z : ℝ) : EReal) := by
  rw [Ideal.log_coe, if_neg (not_le.mpr h)]

theorem addf_log_apply (y z : FVec Ideal S2x16x2048 .f32) (i : S2x16x2048.Idx) : addf y (Host.log z) i = y i + Ideal.log (z i) := rfl

theorem lse_at (R : Reads x0 x1 x2 x3 x4 s) (T : Top x0 x1 x3 s) (b : Fin 2) (h : Fin 16) (i : Fin 2048) : lseOf (val_main_v26 (F := Ideal) x0 x1 x3) (val_main_v25_0 (F := Ideal) x0 x1 x3) (ix3 b h i) = ((s.lse b h i : ℝ) : EReal) := by
  rw [lseOf_eq, addf_log_apply, T b h i, v47_at R T b h i, log_real (s.Z_pos b h i), ← EReal.coe_add]
  rfl

theorem v104_at (R : Reads x0 x1 x2 x3 x4 s) (T : Top x0 x1 x3 s) (b : Fin 2) (g : Fin 8) (j e : Fin 2) (c : Fin 1024) : (val_main_v104 (F := Ideal) x0 x1 x2 x3 x4) (ix4 (bg b g) j (row e) c) = ((s.df b (hd g e) (key j c) : ℝ) : EReal) := by
  refine Eq.trans ?_ (v103_at R T b g j e c)
  unfold val_main_v104
  generalize (val_main_v103 (F := Ideal) x0 x1 x2 x3 x4) = y
  rw [pad_apply, dif_pos]
  · refine congrArg y ?_
    funext a
    fin_cases a <;> first | rfl | (apply Fin.ext; simp [row, Shape.Idx.norm])
  · intro a
    have he := e.isLt
    fin_cases a <;> (simp [row, Shape.Idx.norm] <;> omega)

theorem v104_zero (b : Fin 2) (g : Fin 8) (j : Fin 2) (n : Fin 8) (c : Fin 1024) (h0 : n ≠ row 0) (h1 : n ≠ row 1) : (val_main_v104 (F := Ideal) x0 x1 x2 x3 x4) (ix4 (bg b g) j n c) = 0 := by
  unfold val_main_v104
  generalize (val_main_v103 (F := Ideal) x0 x1 x2 x3 x4) = y
  rw [pad_apply, dif_neg]
  · show (((0#32 : BitVec 32).toInt : ℝ) : EReal) = 0
    simp
  · intro h
    have h2 := (h 2).2.2
    simp at h2
    obtain e | e : n.val = 0 ∨ n.val = 1 := by omega
    · exact h0 (Fin.ext e)
    · exact h1 (Fin.ext e)

end Cert.ReferenceIdeal.Attn
-- ==== Proof.Fox.HostValue.lean ====
/- What the attention backward's call is handed, as the reference's own stages. -/
module

public import proofs.«01_k».proof.Proof.Fox.RefPad
public import proofs.«01_k».proof.Proof.Gen.KernelIdeal.Frame
public import Idealize.ShloMosaic.Lib.Pipeline.ValueKit
public import Idealize.ShloMosaic.Lib.Claim
public import Idealize.ShloMosaic.Lib.StableHlo.RunRead

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic Idealize.SL.Sem
open Cert.ReferenceIdeal.Attn Cert.Attn

variable (m : (ℓ : Loc nD τ sig) → Buf (Elt Ideal) ℓ) (c : Dev nD)

/-- The index of a slab among the queries', the keys' and the values'. -/
def slab (n : Fin 3) (g : Fin 8) : Fin 24 := ⟨n.val * 8 + g.val, by omega⟩

theorem slabs_at (x : FVec Ideal S2x2048x1024 .bf16) (g : Fin 8) (b : Fin 2) (i : Fin 2048) (e : Fin 2) (d : Fin 64) :
    (transpose S8x4096x128 [1, 0, 2] (shapeCast S4096x8x128 x shapeCasts_S2x2048x1024_S4096x8x128) transposes_S4096x8x128_S8x4096x128_1_0_2) (ix3 g (tok b i) (lane e d)) = x (ix3 b i (ch (hd g e) d)) := by
  pointwise
  exact congrArg x (by funext a; fin_cases a <;> first | rfl | (apply Fin.ext; simp [tok, lane, ch, hd, bg, key, row] <;> omega))

set_option maxHeartbeats 1000000 in
theorem cat_0 (x y z : FVec Ideal S8x4096x128 .bf16) (g : Fin 8) (r : Fin 4096) (l : Fin 128) :
    (concatenate S24x4096x128 0 [⟨S8x4096x128, x⟩, ⟨S8x4096x128, y⟩, ⟨S8x4096x128, z⟩] concatenates_S8x4096x128_S8x4096x128_S8x4096x128_S24x4096x128_d0) (ix3 (slab 0 g) r l) = x (ix3 g r l) := by
  rw [concatenate_cons_apply]
  rw [concatenateAt_cons, dif_pos (by simp [slab] <;> omega)]
  exact congrArg x (by funext a; fin_cases a <;> first | rfl | (apply Fin.ext; simp [slab, Shape.Idx.norm] <;> omega))

set_option maxHeartbeats 1000000 in
theorem cat_1 (x y z : FVec Ideal S8x4096x128 .bf16) (g : Fin 8) (r : Fin 4096) (l : Fin 128) :
    (concatenate S24x4096x128 0 [⟨S8x4096x128, x⟩, ⟨S8x4096x128, y⟩, ⟨S8x4096x128, z⟩] concatenates_S8x4096x128_S8x4096x128_S8x4096x128_S24x4096x128_d0) (ix3 (slab 1 g) r l) = y (ix3 g r l) := by
  rw [concatenate_cons_apply]
  rw [concatenateAt_cons, dif_neg (by simp [slab] <;> omega)]
  rw [concatenateAt_cons, dif_pos (by simp [slab] <;> omega)]
  exact congrArg y (by funext a; fin_cases a <;> first | rfl | (apply Fin.ext; simp [slab, Shape.Idx.norm] <;> omega))

set_option maxHeartbeats 1000000 in
theorem cat_2 (x y z : FVec Ideal S8x4096x128 .bf16) (g : Fin 8) (r : Fin 4096) (l : Fin 128) :
    (concatenate S24x4096x128 0 [⟨S8x4096x128, x⟩, ⟨S8x4096x128, y⟩, ⟨S8x4096x128, z⟩] concatenates_S8x4096x128_S8x4096x128_S8x4096x128_S24x4096x128_d0) (ix3 (slab 2 g) r l) = z (ix3 g r l) := by
  rw [concatenate_cons_apply]
  rw [concatenateAt_cons, dif_neg (by simp [slab] <;> omega)]
  rw [concatenateAt_cons, dif_neg (by simp [slab] <;> omega)]
  rw [concatenateAt_singleton]
  exact congrArg z (by funext a; fin_cases a <;> first | rfl | (apply Fin.ext; simp [slab, Shape.Idx.norm] <;> omega))

theorem cat_congr {x x' y y' z z' : FVec Ideal S8x4096x128 .bf16} (hx : x = x') (hy : y = y') (hz : z = z') :
    concatenate S24x4096x128 0 [⟨S8x4096x128, x⟩, ⟨S8x4096x128, y⟩, ⟨S8x4096x128, z⟩] concatenates_S8x4096x128_S8x4096x128_S8x4096x128_S24x4096x128_d0 = concatenate S24x4096x128 0 [⟨S8x4096x128, x'⟩, ⟨S8x4096x128, y'⟩, ⟨S8x4096x128, z'⟩] concatenates_S8x4096x128_S8x4096x128_S8x4096x128_S24x4096x128_d0 := by
  subst hx hy hz; rfl

theorem upto_0 : (StableHlo.upto (List.flatten [hostOps0, hostOps0_1, hostOps0_2, hostOps0_3, hostOps0_4, hostOps0_5, hostOps0_6]) (fun b => m (c, b)) 92) main_v72 = transpose S8x4096x128 [1, 0, 2] (shapeCast S4096x8x128 (m ((c.tc : Thread nD τ).loc main_arg0)) shapeCasts_S2x2048x1024_S4096x8x128) transposes_S4096x8x128_S8x4096x128_1_0_2 := by
  simp only [StableHlo.upto, hostOps0, hostOps0_1, hostOps0_2, hostOps0_3, hostOps0_4, hostOps0_5, hostOps0_6, List.flatten_cons, List.flatten_nil, List.append_nil, List.cons_append, List.nil_append, List.take_succ_cons, List.take_zero]
  entry_read
  rfl

theorem upto_1 : (StableHlo.upto (List.flatten [hostOps0, hostOps0_1, hostOps0_2, hostOps0_3, hostOps0_4, hostOps0_5, hostOps0_6]) (fun b => m (c, b)) 92) main_v74 = transpose S8x4096x128 [1, 0, 2] (shapeCast S4096x8x128 (m ((c.tc : Thread nD τ).loc main_arg1)) shapeCasts_S2x2048x1024_S4096x8x128) transposes_S4096x8x128_S8x4096x128_1_0_2 := by
  simp only [StableHlo.upto, hostOps0, hostOps0_1, hostOps0_2, hostOps0_3, hostOps0_4, hostOps0_5, hostOps0_6, List.flatten_cons, List.flatten_nil, List.append_nil, List.cons_append, List.nil_append, List.take_succ_cons, List.take_zero]
  entry_read
  rfl

theorem upto_2 : (StableHlo.upto (List.flatten [hostOps0, hostOps0_1, hostOps0_2, hostOps0_3, hostOps0_4, hostOps0_5, hostOps0_6]) (fun b => m (c, b)) 92) main_v76 = transpose S8x4096x128 [1, 0, 2] (shapeCast S4096x8x128 (m ((c.tc : Thread nD τ).loc main_arg2)) shapeCasts_S2x2048x1024_S4096x8x128) transposes_S4096x8x128_S8x4096x128_1_0_2 := by
  simp only [StableHlo.upto, hostOps0, hostOps0_1, hostOps0_2, hostOps0_3, hostOps0_4, hostOps0_5, hostOps0_6, List.flatten_cons, List.flatten_nil, List.append_nil, List.cons_append, List.nil_append, List.take_succ_cons, List.take_zero]
  entry_read
  rfl

theorem V_v77 :
    V m c main_v77 = concatenate S24x4096x128 0 [⟨S8x4096x128, (transpose S8x4096x128 [1, 0, 2] (shapeCast S4096x8x128 (m ((c.tc : Thread nD τ).loc main_arg0)) shapeCasts_S2x2048x1024_S4096x8x128) transposes_S4096x8x128_S8x4096x128_1_0_2)⟩, ⟨S8x4096x128, (transpose S8x4096x128 [1, 0, 2] (shapeCast S4096x8x128 (m ((c.tc : Thread nD τ).loc main_arg1)) shapeCasts_S2x2048x1024_S4096x8x128) transposes_S4096x8x128_S8x4096x128_1_0_2)⟩, ⟨S8x4096x128, (transpose S8x4096x128 [1, 0, 2] (shapeCast S4096x8x128 (m ((c.tc : Thread nD τ).loc main_arg2)) shapeCasts_S2x2048x1024_S4096x8x128) transposes_S4096x8x128_S8x4096x128_1_0_2)⟩] concatenates_S8x4096x128_S8x4096x128_S8x4096x128_S24x4096x128_d0 := by
  refine (StableHlo.after_last_write (i := 92) [main_v78, main_v79, main_v80, main_v81, main_v82, main_v83, main_v84, main_c, main_call2_v0, main_v85, main_v86, main_v87, main_v88, main_v89, main_v90, main_v91] rfl rfl (by decide) _).trans ?_
  refine (StableHlo.nary_result ..).trans ?_
  exact cat_congr (upto_0 m c) (upto_1 m c) (upto_2 m c)

theorem V_v77_0 (g : Fin 8) (b : Fin 2) (i : Fin 2048) (e : Fin 2) (d : Fin 64) :
    V m c main_v77 (ix3 (slab 0 g) (tok b i) (lane e d)) = (m ((c.tc : Thread nD τ).loc main_arg0)) (ix3 b i (ch (hd g e) d)) := by
  rw [V_v77, cat_0]
  exact slabs_at (m ((c.tc : Thread nD τ).loc main_arg0)) g b i e d

theorem V_v77_1 (g : Fin 8) (b : Fin 2) (i : Fin 2048) (e : Fin 2) (d : Fin 64) :
    V m c main_v77 (ix3 (slab 1 g) (tok b i) (lane e d)) = (m ((c.tc : Thread nD τ).loc main_arg1)) (ix3 b i (ch (hd g e) d)) := by
  rw [V_v77, cat_1]
  exact slabs_at (m ((c.tc : Thread nD τ).loc main_arg1)) g b i e d

theorem V_v77_2 (g : Fin 8) (b : Fin 2) (i : Fin 2048) (e : Fin 2) (d : Fin 64) :
    V m c main_v77 (ix3 (slab 2 g) (tok b i) (lane e d)) = (m ((c.tc : Thread nD τ).loc main_arg2)) (ix3 b i (ch (hd g e) d)) := by
  rw [V_v77, cat_2]
  exact slabs_at (m ((c.tc : Thread nD τ).loc main_arg2)) g b i e d

theorem V_v81_at (h : Fin 16) (b : Fin 2) (i : Fin 2048) (n : Fin 128) :
    V m c main_v81 (ix3 h (tok b i) n) = (m ((c.tc : Thread nD τ).loc main_arg3)) (ix3 b i h) := by
  simp only [V, hostOps0, hostOps0_1, hostOps0_2, hostOps0_3, hostOps0_4, hostOps0_5, hostOps0_6, List.flatten_cons, List.flatten_nil, List.append_nil, List.cons_append, List.nil_append]
  entry_read
  pointwise
  exact congrArg (m ((c.tc : Thread nD τ).loc main_arg3)) (by funext a; fin_cases a <;> first | rfl | (apply Fin.ext; simp [tok, lane, ch, hd, bg, key, row] <;> omega))

theorem V_v85 :
    V m c main_v85 = pad S16x2x8x1024 ![0, 0, 0, 0] ![0, 0, 6, 0] ![0, 0, 0, 0] (shapeCast S16x2x2x1024 (transpose S2x8x2x2x1024 [0, 3, 1, 4, 2] (shapeCast S2x2x1024x8x2 (shapeCast S4096x16 ((m ((c.tc : Thread nD τ).loc main_arg3)) : FVec Ideal S2x2048x16 .f32) shapeCasts_S2x2048x16_S4096x16) shapeCasts_S4096x16_S2x2x1024x8x2) transposes_S2x2x1024x8x2_S2x8x2x2x1024_0_3_1_4_2) shapeCasts_S2x8x2x2x1024_S16x2x2x1024) (sitofp (F := Ideal) .f32 (constantI S_ 32 0#32)) pads_S16x2x2x1024_S16x2x8x1024_000_000_060_000 h_S_ := by
  simp only [V, hostOps0, hostOps0_1, hostOps0_2, hostOps0_3, hostOps0_4, hostOps0_5, hostOps0_6, List.flatten_cons, List.flatten_nil, List.append_nil, List.cons_append, List.nil_append]
  entry_read
  rfl

theorem rows_at (x : FVec Ideal S2x2048x16 .f32) (b : Fin 2) (g : Fin 8) (j e : Fin 2) (k : Fin 1024) :
    (shapeCast S16x2x2x1024 (transpose S2x8x2x2x1024 [0, 3, 1, 4, 2] (shapeCast S2x2x1024x8x2 (shapeCast S4096x16 x shapeCasts_S2x2048x16_S4096x16) shapeCasts_S4096x16_S2x2x1024x8x2) transposes_S2x2x1024x8x2_S2x8x2x2x1024_0_3_1_4_2) shapeCasts_S2x8x2x2x1024_S16x2x2x1024) (ix4 (bg b g) j e k) = x (ix3 b (key j k) (hd g e)) := by
  pointwise
  exact congrArg x (by funext a; fin_cases a <;> first | rfl | (apply Fin.ext; simp [tok, lane, ch, hd, bg, key, row] <;> omega))

theorem pad_at (y : FVec Ideal S16x2x2x1024 .f32) (n : Fin 16) (j e : Fin 2) (k : Fin 1024) :
    (pad S16x2x8x1024 ![0, 0, 0, 0] ![0, 0, 6, 0] ![0, 0, 0, 0] y (sitofp .f32 (constantI S_ 32 0#32)) pads_S16x2x2x1024_S16x2x8x1024_000_000_060_000 h_S_) (ix4 n j (row e) k) = y (ix4 n j e k) := by
  rw [pad_apply, dif_pos]
  · refine congrArg y ?_
    funext a
    fin_cases a <;> first | rfl | (apply Fin.ext; simp [row, Shape.Idx.norm])
  · intro a
    have he := e.isLt
    fin_cases a <;> (simp [row, Shape.Idx.norm] <;> omega)

theorem V_v85_at (b : Fin 2) (g : Fin 8) (j e : Fin 2) (k : Fin 1024) :
    V m c main_v85 (ix4 (bg b g) j (row e) k) = (m ((c.tc : Thread nD τ).loc main_arg3)) (ix3 b (key j k) (hd g e)) := by
  rw [V_v85, pad_at]
  exact rows_at (m ((c.tc : Thread nD τ).loc main_arg3)) b g j e k

/-- The gradient of the output, by slabs. -/
theorem V_v89_at (g : Fin 8) (b : Fin 2) (i : Fin 2048) (e : Fin 2) (d : Fin 64) :
    V m c main_v89 (ix3 g (tok b i) (lane e d)) = (m ((c.tc : Thread nD τ).loc main_arg4)) (ix3 b i (ch (hd g e) d)) := by
  simp only [V, hostOps0, hostOps0_1, hostOps0_2, hostOps0_3, hostOps0_4, hostOps0_5, hostOps0_6, List.flatten_cons, List.flatten_nil, List.append_nil, List.cons_append, List.nil_append]
  entry_read
  pointwise
  exact congrArg (m ((c.tc : Thread nD τ).loc main_arg4)) (by funext a; fin_cases a <;> first | rfl | (apply Fin.ext; simp [tok, lane, ch, hd, bg, key, row] <;> omega))

theorem V_v87 :
    V m c main_v87 = transpose S8x4096x128 [1, 0, 2] (shapeCast S4096x8x128 (Cert.ReferenceIdeal.Read.val_main_v56 (F := Ideal) (m ((c.tc : Thread nD τ).loc main_arg0)) (m ((c.tc : Thread nD τ).loc main_arg1)) (m ((c.tc : Thread nD τ).loc main_arg2)) (m ((c.tc : Thread nD τ).loc main_arg3))) shapeCasts_S2x2048x1024_S4096x8x128) transposes_S4096x8x128_S8x4096x128_1_0_2 := by
  simp only [V, hostOps0, hostOps0_1, hostOps0_2, hostOps0_3, hostOps0_4, hostOps0_5, hostOps0_6, List.flatten_cons, List.flatten_nil, List.append_nil, List.cons_append, List.nil_append]
  entry_read
  rfl

theorem V_v87_at (g : Fin 8) (b : Fin 2) (i : Fin 2048) (e : Fin 2) (d : Fin 64) :
    V m c main_v87 (ix3 g (tok b i) (lane e d)) = Cert.ReferenceIdeal.Read.val_main_v56 (F := Ideal) (m ((c.tc : Thread nD τ).loc main_arg0)) (m ((c.tc : Thread nD τ).loc main_arg1)) (m ((c.tc : Thread nD τ).loc main_arg2)) (m ((c.tc : Thread nD τ).loc main_arg3)) (ix3 b i (ch (hd g e) d)) := by
  rw [V_v87]
  generalize (Cert.ReferenceIdeal.Read.val_main_v56 (F := Ideal) (m ((c.tc : Thread nD τ).loc main_arg0)) (m ((c.tc : Thread nD τ).loc main_arg1)) (m ((c.tc : Thread nD τ).loc main_arg2)) (m ((c.tc : Thread nD τ).loc main_arg3))) = y
  pointwise
  exact congrArg y (by funext a; fin_cases a <;> first | rfl | (apply Fin.ext; simp [tok, lane, ch, hd, bg, key, row] <;> omega))

theorem V_v91 :
    V m c main_v91 = broadcastInDim S16x4096x128 ![0, 1, 2] bcast_S16x4096x1_S16x4096x128_0_1_2 (broadcastInDim S16x4096x1 ![0, 1] bcast_S16x4096_S16x4096x1_0_1 (shapeCast S16x4096 (transpose S16x2x2048 [1, 0, 2] (lseOf (Cert.ReferenceIdeal.Read.val_main_v26 (F := Ideal) (m ((c.tc : Thread nD τ).loc main_arg0)) (m ((c.tc : Thread nD τ).loc main_arg1)) (m ((c.tc : Thread nD τ).loc main_arg3))) (Cert.ReferenceIdeal.Read.val_main_v25_0 (F := Ideal) (m ((c.tc : Thread nD τ).loc main_arg0)) (m ((c.tc : Thread nD τ).loc main_arg1)) (m ((c.tc : Thread nD τ).loc main_arg3)))) transposes_S2x16x2048_S16x2x2048_1_0_2) shapeCasts_S16x2x2048_S16x4096)) := by
  simp only [V, hostOps0, hostOps0_1, hostOps0_2, hostOps0_3, hostOps0_4, hostOps0_5, hostOps0_6, List.flatten_cons, List.flatten_nil, List.append_nil, List.cons_append, List.nil_append]
  entry_read
  rfl

theorem V_v91_at (h : Fin 16) (b : Fin 2) (i : Fin 2048) (n : Fin 128) :
    V m c main_v91 (ix3 h (tok b i) n) = (lseOf (Cert.ReferenceIdeal.Read.val_main_v26 (F := Ideal) (m ((c.tc : Thread nD τ).loc main_arg0)) (m ((c.tc : Thread nD τ).loc main_arg1)) (m ((c.tc : Thread nD τ).loc main_arg3))) (Cert.ReferenceIdeal.Read.val_main_v25_0 (F := Ideal) (m ((c.tc : Thread nD τ).loc main_arg0)) (m ((c.tc : Thread nD τ).loc main_arg1)) (m ((c.tc : Thread nD τ).loc main_arg3)))) (ix3 b h i) := by
  rw [V_v91]
  generalize (lseOf (Cert.ReferenceIdeal.Read.val_main_v26 (F := Ideal) (m ((c.tc : Thread nD τ).loc main_arg0)) (m ((c.tc : Thread nD τ).loc main_arg1)) (m ((c.tc : Thread nD τ).loc main_arg3))) (Cert.ReferenceIdeal.Read.val_main_v25_0 (F := Ideal) (m ((c.tc : Thread nD τ).loc main_arg0)) (m ((c.tc : Thread nD τ).loc main_arg1)) (m ((c.tc : Thread nD τ).loc main_arg3)))) = y
  pointwise
  exact congrArg y (by funext a; fin_cases a <;> first | rfl | (apply Fin.ext; simp [tok, lane, ch, hd, bg, key, row] <;> omega))

end Cert.KernelIdeal.Fox
-- ==== Proof.Fox.Sums.lean ====
/- One grid point's blocks as parts of the whole sequence: the body's tiles are the weights and the logits' gradients there, and
the two grid points of a slab together give the whole sums. -/
module

public import proofs.«01_k».proof.Proof.Fox.RefPad

@[expose] public section

noncomputable section

namespace Cert.KernelIdeal.Fox

open Cert.ReferenceIdeal.Attn Cert.Attn

variable (s : Step) (b : Fin 2) (g : Fin 8)

/-- Lane `n` of slab `g` among the channels. -/
def wide (g : Fin 8) (n : Fin 128) : Fin 1024 := ⟨g.val * 128 + n.val, by omega⟩

theorem wide_lane (g : Fin 8) (e : Fin 2) (d : Fin 64) : wide g (lane e d) = ch (hd g e) d := by
  apply Fin.ext
  simp [wide, lane, ch, hd]
  omega

/-- What the body reads for batch entry `b`, slab `g` and block `j` of the keys. -/
def slabOf (j : Fin 2) : Slab where
  q i n := s.q b i (wide g n)
  k c n := s.k b (blk j c) (wide g n)
  v c n := s.v b (blk j c) (wide g n)
  fq e i := s.g b i (hd g e)
  fk e c := s.g b (blk j c) (hd g e)
  w i n := s.w b i (wide g n)
  l e i := s.lse b (hd g e) i
  dl e i := s.dl b (hd g e) i

/-- A sum over the sequence, by blocks. -/
theorem sum_blk (f : Fin 2048 → ℝ) : ∑ i, f i = ∑ r, f (blk 0 r) + ∑ r, f (blk 1 r) := by
  have h := Fin.sum_univ_add (a := 1024) (b := 1024) (fun i => f (Fin.cast rfl i))
  refine (show ∑ i, f i = _ from h).trans (congrArg₂ (· + ·) ?_ ?_)
  · refine Finset.sum_congr rfl fun r _ => congrArg f (Fin.ext ?_)
    simp [blk]
  · refine Finset.sum_congr rfl fun r _ => congrArg f (Fin.ext ?_)
    simp [blk]
    omega

theorem blk_le (R : Fin 2) (r c : Fin 1024) : blk R c ≤ blk R r ↔ c ≤ r := by
  show R.val * 1024 + c.val ≤ R.val * 1024 + r.val ↔ c.val ≤ r.val
  omega

theorem blk_le_next (r c : Fin 1024) : blk 0 c ≤ blk 1 r := by
  have := c.isLt
  show 0 * 1024 + c.val ≤ 1 * 1024 + r.val
  omega

theorem blk_not_le (r c : Fin 1024) : ¬blk 1 c ≤ blk 0 r := by
  have := r.isLt
  show ¬1 * 1024 + c.val ≤ 0 * 1024 + r.val
  omega

theorem logit_eq (j R e : Fin 2) (r c : Fin 1024) :
    (∑ d, (slabOf s b g j).Q R e r d * (1 / 8) * (slabOf s b g j).K e c d) + (slabOf s b g j).Fq R e r - (slabOf s b g j).fk e c
      = s.logit b (hd g e) (blk R r) (blk j c) := by
  unfold Step.logit Slab.Q Slab.K Slab.Fq slabOf
  simp only [wide_lane]
  rw [Finset.sum_mul]
  congr 2
  exact Finset.sum_congr rfl fun d _ => by ring

theorem pu_eq (j R e : Fin 2) (r c : Fin 1024) (h : blk j c ≤ blk R r) :
    (slabOf s b g j).pu R e r c = s.prob b (hd g e) (blk R r) (blk j c) := by
  rw [s.prob_eq _ _ _ _ h, ← logit_eq]
  rfl

theorem pd_eq (j e : Fin 2) (r c : Fin 1024) :
    (slabOf s b g j).pd j e r c = s.prob b (hd g e) (blk j r) (blk j c) := by
  by_cases h : c ≤ r
  · exact (if_pos h).trans (pu_eq s b g j j e r c ((blk_le j r c).mpr h))
  · exact (if_neg h).trans (s.prob_later _ _ _ _ (mt (blk_le j r c).mp h)).symm

theorem dp_eq (j R e : Fin 2) (r c : Fin 1024) :
    ∑ d, (slabOf s b g j).W R e r d * (slabOf s b g j).V e c d = s.dp b (hd g e) (blk R r) (blk j c) := by
  unfold Step.dp Slab.W Slab.V slabOf
  simp only [wide_lane]

theorem su_eq (j R e : Fin 2) (r c : Fin 1024) (h : blk j c ≤ blk R r) :
    (slabOf s b g j).su R e r c = s.ds b (hd g e) (blk R r) (blk j c) := by
  unfold Slab.su dS Step.ds
  rw [pu_eq s b g j R e r c h, dp_eq]
  rfl

theorem sd_eq (j e : Fin 2) (r c : Fin 1024) :
    (slabOf s b g j).sd j e r c = s.ds b (hd g e) (blk j r) (blk j c) := by
  unfold Slab.sd dS Step.ds
  rw [pd_eq s b g j e r c, dp_eq]
  rfl

/-- The part of a query's gradient that the keys of block `j` give. -/
def part (j R e : Fin 2) (r : Fin 1024) (d : Fin 64) : ℝ :=
  ∑ c, s.ds b (hd g e) (blk R r) (blk j c) * (1 / 8) * s.k b (blk j c) (ch (hd g e) d)

theorem dq_split (R e : Fin 2) (r : Fin 1024) (d : Fin 64) :
    s.dq b (hd g e) (blk R r) d = part s b g 0 R e r d + part s b g 1 R e r d := by
  unfold Step.dq part
  exact sum_blk _

theorem part_later (e : Fin 2) (r : Fin 1024) (d : Fin 64) : part s b g 1 0 e r d = 0 := by
  unfold part
  refine Finset.sum_eq_zero fun c _ => ?_
  rw [s.ds_later _ _ _ _ (blk_not_le r c), zero_mul, zero_mul]

theorem part_d (j e : Fin 2) (r : Fin 1024) (d : Fin 64) :
    (∑ c, (slabOf s b g j).sd j e r c * (slabOf s b g j).K e c d) * (1 / 8) = part s b g j j e r d := by
  unfold part
  rw [Finset.sum_mul]
  refine Finset.sum_congr rfl fun c _ => ?_
  rw [sd_eq]
  unfold Slab.K slabOf
  simp only [wide_lane]
  ring

theorem part_u (e : Fin 2) (r : Fin 1024) (d : Fin 64) :
    (∑ c, (slabOf s b g 0).su 1 e r c * (slabOf s b g 0).K e c d) * (1 / 8) = part s b g 0 1 e r d := by
  unfold part
  rw [Finset.sum_mul]
  refine Finset.sum_congr rfl fun c _ => ?_
  rw [su_eq s b g 0 1 e r c (blk_le_next r c)]
  unfold Slab.K slabOf
  simp only [wide_lane]
  ring

theorem dq_low (e : Fin 2) (r : Fin 1024) (d : Fin 64) :
    0 + (∑ c, (slabOf s b g 0).sd 0 e r c * (slabOf s b g 0).K e c d) * (1 / 8) = s.dq b (hd g e) (blk 0 r) d := by
  rw [part_d, dq_split, part_later, zero_add, add_zero]

theorem dq_high (e : Fin 2) (r : Fin 1024) (d : Fin 64) :
    (0 + (∑ c, (slabOf s b g 0).su 1 e r c * (slabOf s b g 0).K e c d) * (1 / 8))
      + (∑ c, (slabOf s b g 1).sd 1 e r c * (slabOf s b g 1).K e c d) * (1 / 8) = s.dq b (hd g e) (blk 1 r) d := by
  rw [part_d, part_u, dq_split, zero_add]

theorem dk_low (e : Fin 2) (c : Fin 1024) (d : Fin 64) :
    0 + ∑ r, (slabOf s b g 0).QT 0 e d r * (slabOf s b g 0).sd 0 e r c + ∑ r, (slabOf s b g 0).QT 1 e d r * (slabOf s b g 0).su 1 e r c
      = s.dk b (hd g e) (blk 0 c) d := by
  unfold Step.dk
  rw [sum_blk, zero_add]
  congr 1
  · refine Finset.sum_congr rfl fun r _ => ?_
    rw [sd_eq]
    unfold Slab.QT slabOf
    simp only [wide_lane]
    ring
  · refine Finset.sum_congr rfl fun r _ => ?_
    rw [su_eq s b g 0 1 e r c (blk_le_next r c)]
    unfold Slab.QT slabOf
    simp only [wide_lane]
    ring

theorem dk_high (e : Fin 2) (c : Fin 1024) (d : Fin 64) :
    0 + ∑ r, (slabOf s b g 1).QT 1 e d r * (slabOf s b g 1).sd 1 e r c = s.dk b (hd g e) (blk 1 c) d := by
  unfold Step.dk
  rw [sum_blk]
  congr 1
  · refine (Finset.sum_eq_zero fun r _ => ?_).symm
    rw [s.ds_later _ _ _ _ (blk_not_le r c), zero_mul, zero_mul]
  · refine Finset.sum_congr rfl fun r _ => ?_
    rw [sd_eq]
    unfold Slab.QT slabOf
    simp only [wide_lane]
    ring

theorem dv_low (e : Fin 2) (c : Fin 1024) (d : Fin 64) :
    0 + ∑ r, (slabOf s b g 0).WT 0 e d r * (slabOf s b g 0).pd 0 e r c + ∑ r, (slabOf s b g 0).WT 1 e d r * (slabOf s b g 0).pu 1 e r c
      = s.dv b (hd g e) (blk 0 c) d := by
  unfold Step.dv
  rw [sum_blk, zero_add]
  congr 1
  · refine Finset.sum_congr rfl fun r _ => ?_
    rw [pd_eq]
    unfold Slab.WT slabOf
    simp only [wide_lane]
  · refine Finset.sum_congr rfl fun r _ => ?_
    rw [pu_eq s b g 0 1 e r c (blk_le_next r c)]
    unfold Slab.WT slabOf
    simp only [wide_lane]

theorem dv_high (e : Fin 2) (c : Fin 1024) (d : Fin 64) :
    0 + ∑ r, (slabOf s b g 1).WT 1 e d r * (slabOf s b g 1).pd 1 e r c = s.dv b (hd g e) (blk 1 c) d := by
  unfold Step.dv
  rw [sum_blk]
  congr 1
  · refine (Finset.sum_eq_zero fun r _ => ?_).symm
    rw [s.prob_later _ _ _ _ (blk_not_le r c), mul_zero]
  · refine Finset.sum_congr rfl fun r _ => ?_
    rw [pd_eq]
    unfold Slab.WT slabOf
    simp only [wide_lane]

theorem df_low (e : Fin 2) (c : Fin 1024) :
    0 - ∑ r, (slabOf s b g 0).sd 0 e r c - ∑ r, (slabOf s b g 0).su 1 e r c = s.df b (hd g e) (blk 0 c) := by
  unfold Step.df
  rw [sum_blk, zero_sub, ← neg_add']
  congr 2
  · exact Finset.sum_congr rfl fun r _ => sd_eq ..
  · exact Finset.sum_congr rfl fun r _ => su_eq s b g 0 1 e r c (blk_le_next r c)

theorem df_high (e : Fin 2) (c : Fin 1024) :
    0 - ∑ r, (slabOf s b g 1).sd 1 e r c = s.df b (hd g e) (blk 1 c) := by
  unfold Step.df
  rw [sum_blk, zero_sub]
  congr 1
  refine (Finset.sum_congr rfl fun r _ => sd_eq s b g 1 e r c).trans ?_
  rw [Finset.sum_eq_zero (f := fun r => s.ds b (hd g e) (blk 0 r) (blk 1 c)) fun r _ => s.ds_later _ _ _ _ (blk_not_le r c), zero_add]

end Cert.KernelIdeal.Fox
-- ==== Proof.Fox.Blocks.lean ====
/- What one grid point is handed, as the step's arrays. -/
module

public import proofs.«01_k».proof.Proof.Fox.HostValue
public import proofs.«01_k».proof.Proof.Fox.Sums

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic Idealize.SL.Sem
open Cert.ReferenceIdeal.Attn Cert.Attn

/-- The batch entry, the slab and the block of keys of a grid point. -/
def bT (t : Fin cfg0.N) : Fin 2 := ⟨t.val / 16, by have h : t.val < 32 := t.isLt; omega⟩
def gT (t : Fin cfg0.N) : Fin 8 := ⟨t.val / 2 % 8, by omega⟩
def jT (t : Fin cfg0.N) : Fin 2 := ⟨t.val % 2, by omega⟩

variable (m : (ℓ : Loc nD τ sig) → Buf (Elt Ideal) ℓ) (c : Dev nD)

theorem idx_0 : ∀ t : Fin cfg0.N, win0_0.index t 0 = t.val / 2 % 8 ∧ win0_0.index t 1 = t.val / 16 ∧ win0_0.index t 2 = 0 :=
  (by decide +kernel : ∀ t : Fin grid0.N, win0_0.index t 0 = t.val / 2 % 8 ∧ win0_0.index t 1 = t.val / 16 ∧ win0_0.index t 2 = 0)

theorem gen_0 (W : (b : Ref sig .tc) → Buf (Elt Ideal) ((c : Thread nD τ).loc b)) (t : Fin cfg0.N) (i : Fin 2048) (n : Fin 128) :
    (((cfg0.win 0).blk t).view.read (Elt Ideal) (W (Pipeline.arrRef spec0 0)) : Vec Ideal S1x2048x128 .bf16) (ix3 0 i n) = W main_v77 (ix3 (slab 0 (gT t)) (tok (bT t) i) n) := by
  have hi := idx_0 t
  rw [View.read_apply]
  refine congrArg (W main_v77) ?_
  funext a
  apply Fin.ext
  match a with
  | ⟨0, _⟩ =>
    show win0_0.index t 0 * 1 + 1 * ((0 : Fin 1)).val = ((slab 0 (gT t))).val
    rw [hi.1]
    simp [slab, tok, hd, bg, blk, bT, gT, jT] <;> omega
  | ⟨1, _⟩ =>
    show win0_0.index t 1 * 2048 + 1 * (i).val = ((tok (bT t) i)).val
    rw [hi.2.1]
    simp [slab, tok, hd, bg, blk, bT, gT, jT] <;> omega
  | ⟨2, _⟩ =>
    show win0_0.index t 2 * 128 + 1 * (n).val = (n).val
    rw [hi.2.2]
    simp [slab, tok, hd, bg, blk, bT, gT, jT] <;> omega

theorem in_0 (t : Fin cfg0.N) (i : Fin 2048) (n : Fin 128) :
    (iblk m c 0 t : Vec Ideal S1x2048x128 .bf16) (ix3 0 i n) = V m c main_v77 (ix3 (slab 0 (gT t)) (tok (bT t) i) n) :=
  gen_0 c (V m c) t i n

theorem idx_1 : ∀ t : Fin cfg0.N, win0_1.index t 0 = 8 + t.val / 2 % 8 ∧ win0_1.index t 1 = t.val / 16 * 2 + t.val % 2 ∧ win0_1.index t 2 = 0 :=
  (by decide +kernel : ∀ t : Fin grid0.N, win0_1.index t 0 = 8 + t.val / 2 % 8 ∧ win0_1.index t 1 = t.val / 16 * 2 + t.val % 2 ∧ win0_1.index t 2 = 0)

theorem gen_1 (W : (b : Ref sig .tc) → Buf (Elt Ideal) ((c : Thread nD τ).loc b)) (t : Fin cfg0.N) (k : Fin 1024) (n : Fin 128) :
    (((cfg0.win 1).blk t).view.read (Elt Ideal) (W (Pipeline.arrRef spec0 1)) : Vec Ideal S1x1024x128 .bf16) (ix3 0 k n) = W main_v77 (ix3 (slab 1 (gT t)) (tok (bT t) (blk (jT t) k)) n) := by
  have hi := idx_1 t
  rw [View.read_apply]
  refine congrArg (W main_v77) ?_
  funext a
  apply Fin.ext
  match a with
  | ⟨0, _⟩ =>
    show win0_1.index t 0 * 1 + 1 * ((0 : Fin 1)).val = ((slab 1 (gT t))).val
    rw [hi.1]
    simp [slab, tok, hd, bg, blk, bT, gT, jT] <;> omega
  | ⟨1, _⟩ =>
    show win0_1.index t 1 * 1024 + 1 * (k).val = ((tok (bT t) (blk (jT t) k))).val
    rw [hi.2.1]
    simp [slab, tok, hd, bg, blk, bT, gT, jT] <;> omega
  | ⟨2, _⟩ =>
    show win0_1.index t 2 * 128 + 1 * (n).val = (n).val
    rw [hi.2.2]
    simp [slab, tok, hd, bg, blk, bT, gT, jT] <;> omega

theorem in_1 (t : Fin cfg0.N) (k : Fin 1024) (n : Fin 128) :
    (iblk m c 1 t : Vec Ideal S1x1024x128 .bf16) (ix3 0 k n) = V m c main_v77 (ix3 (slab 1 (gT t)) (tok (bT t) (blk (jT t) k)) n) :=
  gen_1 c (V m c) t k n

theorem idx_2 : ∀ t : Fin cfg0.N, win0_2.index t 0 = 16 + t.val / 2 % 8 ∧ win0_2.index t 1 = t.val / 16 * 2 + t.val % 2 ∧ win0_2.index t 2 = 0 :=
  (by decide +kernel : ∀ t : Fin grid0.N, win0_2.index t 0 = 16 + t.val / 2 % 8 ∧ win0_2.index t 1 = t.val / 16 * 2 + t.val % 2 ∧ win0_2.index t 2 = 0)

theorem gen_2 (W : (b : Ref sig .tc) → Buf (Elt Ideal) ((c : Thread nD τ).loc b)) (t : Fin cfg0.N) (k : Fin 1024) (n : Fin 128) :
    (((cfg0.win 2).blk t).view.read (Elt Ideal) (W (Pipeline.arrRef spec0 2)) : Vec Ideal S1x1024x128 .bf16) (ix3 0 k n) = W main_v77 (ix3 (slab 2 (gT t)) (tok (bT t) (blk (jT t) k)) n) := by
  have hi := idx_2 t
  rw [View.read_apply]
  refine congrArg (W main_v77) ?_
  funext a
  apply Fin.ext
  match a with
  | ⟨0, _⟩ =>
    show win0_2.index t 0 * 1 + 1 * ((0 : Fin 1)).val = ((slab 2 (gT t))).val
    rw [hi.1]
    simp [slab, tok, hd, bg, blk, bT, gT, jT] <;> omega
  | ⟨1, _⟩ =>
    show win0_2.index t 1 * 1024 + 1 * (k).val = ((tok (bT t) (blk (jT t) k))).val
    rw [hi.2.1]
    simp [slab, tok, hd, bg, blk, bT, gT, jT] <;> omega
  | ⟨2, _⟩ =>
    show win0_2.index t 2 * 128 + 1 * (n).val = (n).val
    rw [hi.2.2]
    simp [slab, tok, hd, bg, blk, bT, gT, jT] <;> omega

theorem in_2 (t : Fin cfg0.N) (k : Fin 1024) (n : Fin 128) :
    (iblk m c 2 t : Vec Ideal S1x1024x128 .bf16) (ix3 0 k n) = V m c main_v77 (ix3 (slab 2 (gT t)) (tok (bT t) (blk (jT t) k)) n) :=
  gen_2 c (V m c) t k n

theorem idx_3 : ∀ t : Fin cfg0.N, win0_3.index t 0 = t.val / 2 % 8 ∧ win0_3.index t 1 = t.val / 16 ∧ win0_3.index t 2 = 0 :=
  (by decide +kernel : ∀ t : Fin grid0.N, win0_3.index t 0 = t.val / 2 % 8 ∧ win0_3.index t 1 = t.val / 16 ∧ win0_3.index t 2 = 0)

theorem gen_3 (W : (b : Ref sig .tc) → Buf (Elt Ideal) ((c : Thread nD τ).loc b)) (t : Fin cfg0.N) (e : Fin 2) (i : Fin 2048) (n : Fin 128) :
    (((cfg0.win 3).blk t).view.read (Elt Ideal) (W (Pipeline.arrRef spec0 3)) : Vec Ideal S2x2048x128 .f32) (ix3 e i n) = W main_v81 (ix3 (hd (gT t) e) (tok (bT t) i) n) := by
  have hi := idx_3 t
  rw [View.read_apply]
  refine congrArg (W main_v81) ?_
  funext a
  apply Fin.ext
  match a with
  | ⟨0, _⟩ =>
    show win0_3.index t 0 * 2 + 1 * (e).val = ((hd (gT t) e)).val
    rw [hi.1]
    simp [slab, tok, hd, bg, blk, bT, gT, jT] <;> omega
  | ⟨1, _⟩ =>
    show win0_3.index t 1 * 2048 + 1 * (i).val = ((tok (bT t) i)).val
    rw [hi.2.1]
    simp [slab, tok, hd, bg, blk, bT, gT, jT] <;> omega
  | ⟨2, _⟩ =>
    show win0_3.index t 2 * 128 + 1 * (n).val = (n).val
    rw [hi.2.2]
    simp [slab, tok, hd, bg, blk, bT, gT, jT] <;> omega

theorem in_3 (t : Fin cfg0.N) (e : Fin 2) (i : Fin 2048) (n : Fin 128) :
    (iblk m c 3 t : Vec Ideal S2x2048x128 .f32) (ix3 e i n) = V m c main_v81 (ix3 (hd (gT t) e) (tok (bT t) i) n) :=
  gen_3 c (V m c) t e i n

theorem idx_4 : ∀ t : Fin cfg0.N, win0_4.index t 0 = t.val / 16 * 8 + t.val / 2 % 8 ∧ win0_4.index t 1 = t.val % 2 ∧ win0_4.index t 2 = 0 ∧ win0_4.index t 3 = 0 :=
  (by decide +kernel : ∀ t : Fin grid0.N, win0_4.index t 0 = t.val / 16 * 8 + t.val / 2 % 8 ∧ win0_4.index t 1 = t.val % 2 ∧ win0_4.index t 2 = 0 ∧ win0_4.index t 3 = 0)

theorem gen_4 (W : (b : Ref sig .tc) → Buf (Elt Ideal) ((c : Thread nD τ).loc b)) (t : Fin cfg0.N) (r : Fin 8) (k : Fin 1024) :
    (((cfg0.win 4).blk t).view.read (Elt Ideal) (W (Pipeline.arrRef spec0 4)) : Vec Ideal S1x1x8x1024 .f32) (ix4 0 0 r k) = W main_v85 (ix4 (bg (bT t) (gT t)) (jT t) r k) := by
  have hi := idx_4 t
  rw [View.read_apply]
  refine congrArg (W main_v85) ?_
  funext a
  apply Fin.ext
  match a with
  | ⟨0, _⟩ =>
    show win0_4.index t 0 * 1 + 1 * ((0 : Fin 1)).val = ((bg (bT t) (gT t))).val
    rw [hi.1]
    simp [slab, tok, hd, bg, blk, bT, gT, jT] <;> omega
  | ⟨1, _⟩ =>
    show win0_4.index t 1 * 1 + 1 * ((0 : Fin 1)).val = ((jT t)).val
    rw [hi.2.1]
    simp [slab, tok, hd, bg, blk, bT, gT, jT] <;> omega
  | ⟨2, _⟩ =>
    show win0_4.index t 2 * 8 + 1 * (r).val = (r).val
    rw [hi.2.2.1]
    simp [slab, tok, hd, bg, blk, bT, gT, jT] <;> omega
  | ⟨3, _⟩ =>
    show win0_4.index t 3 * 1024 + 1 * (k).val = (k).val
    rw [hi.2.2.2]
    simp [slab, tok, hd, bg, blk, bT, gT, jT] <;> omega

theorem in_4 (t : Fin cfg0.N) (r : Fin 8) (k : Fin 1024) :
    (iblk m c 4 t : Vec Ideal S1x1x8x1024 .f32) (ix4 0 0 r k) = V m c main_v85 (ix4 (bg (bT t) (gT t)) (jT t) r k) :=
  gen_4 c (V m c) t r k

theorem idx_5 : ∀ t : Fin cfg0.N, win0_5.index t 0 = t.val / 2 % 8 ∧ win0_5.index t 1 = t.val / 16 ∧ win0_5.index t 2 = 0 :=
  (by decide +kernel : ∀ t : Fin grid0.N, win0_5.index t 0 = t.val / 2 % 8 ∧ win0_5.index t 1 = t.val / 16 ∧ win0_5.index t 2 = 0)

theorem gen_5 (W : (b : Ref sig .tc) → Buf (Elt Ideal) ((c : Thread nD τ).loc b)) (t : Fin cfg0.N) (i : Fin 2048) (n : Fin 128) :
    (((cfg0.win 5).blk t).view.read (Elt Ideal) (W (Pipeline.arrRef spec0 5)) : Vec Ideal S1x2048x128 .f32) (ix3 0 i n) = W main_v87 (ix3 (gT t) (tok (bT t) i) n) := by
  have hi := idx_5 t
  rw [View.read_apply]
  refine congrArg (W main_v87) ?_
  funext a
  apply Fin.ext
  match a with
  | ⟨0, _⟩ =>
    show win0_5.index t 0 * 1 + 1 * ((0 : Fin 1)).val = ((gT t)).val
    rw [hi.1]
    simp [slab, tok, hd, bg, blk, bT, gT, jT] <;> omega
  | ⟨1, _⟩ =>
    show win0_5.index t 1 * 2048 + 1 * (i).val = ((tok (bT t) i)).val
    rw [hi.2.1]
    simp [slab, tok, hd, bg, blk, bT, gT, jT] <;> omega
  | ⟨2, _⟩ =>
    show win0_5.index t 2 * 128 + 1 * (n).val = (n).val
    rw [hi.2.2]
    simp [slab, tok, hd, bg, blk, bT, gT, jT] <;> omega

theorem in_5 (t : Fin cfg0.N) (i : Fin 2048) (n : Fin 128) :
    (iblk m c 5 t : Vec Ideal S1x2048x128 .f32) (ix3 0 i n) = V m c main_v87 (ix3 (gT t) (tok (bT t) i) n) :=
  gen_5 c (V m c) t i n

theorem idx_6 : ∀ t : Fin cfg0.N, win0_6.index t 0 = t.val / 2 % 8 ∧ win0_6.index t 1 = t.val / 16 ∧ win0_6.index t 2 = 0 :=
  (by decide +kernel : ∀ t : Fin grid0.N, win0_6.index t 0 = t.val / 2 % 8 ∧ win0_6.index t 1 = t.val / 16 ∧ win0_6.index t 2 = 0)

theorem gen_6 (W : (b : Ref sig .tc) → Buf (Elt Ideal) ((c : Thread nD τ).loc b)) (t : Fin cfg0.N) (i : Fin 2048) (n : Fin 128) :
    (((cfg0.win 6).blk t).view.read (Elt Ideal) (W (Pipeline.arrRef spec0 6)) : Vec Ideal S1x2048x128 .bf16) (ix3 0 i n) = W main_v89 (ix3 (gT t) (tok (bT t) i) n) := by
  have hi := idx_6 t
  rw [View.read_apply]
  refine congrArg (W main_v89) ?_
  funext a
  apply Fin.ext
  match a with
  | ⟨0, _⟩ =>
    show win0_6.index t 0 * 1 + 1 * ((0 : Fin 1)).val = ((gT t)).val
    rw [hi.1]
    simp [slab, tok, hd, bg, blk, bT, gT, jT] <;> omega
  | ⟨1, _⟩ =>
    show win0_6.index t 1 * 2048 + 1 * (i).val = ((tok (bT t) i)).val
    rw [hi.2.1]
    simp [slab, tok, hd, bg, blk, bT, gT, jT] <;> omega
  | ⟨2, _⟩ =>
    show win0_6.index t 2 * 128 + 1 * (n).val = (n).val
    rw [hi.2.2]
    simp [slab, tok, hd, bg, blk, bT, gT, jT] <;> omega

theorem in_6 (t : Fin cfg0.N) (i : Fin 2048) (n : Fin 128) :
    (iblk m c 6 t : Vec Ideal S1x2048x128 .bf16) (ix3 0 i n) = V m c main_v89 (ix3 (gT t) (tok (bT t) i) n) :=
  gen_6 c (V m c) t i n

theorem idx_7 : ∀ t : Fin cfg0.N, win0_7.index t 0 = t.val / 2 % 8 ∧ win0_7.index t 1 = t.val / 16 ∧ win0_7.index t 2 = 0 :=
  (by decide +kernel : ∀ t : Fin grid0.N, win0_7.index t 0 = t.val / 2 % 8 ∧ win0_7.index t 1 = t.val / 16 ∧ win0_7.index t 2 = 0)

theorem gen_7 (W : (b : Ref sig .tc) → Buf (Elt Ideal) ((c : Thread nD τ).loc b)) (t : Fin cfg0.N) (e : Fin 2) (i : Fin 2048) (n : Fin 128) :
    (((cfg0.win 7).blk t).view.read (Elt Ideal) (W (Pipeline.arrRef spec0 7)) : Vec Ideal S2x2048x128 .f32) (ix3 e i n) = W main_v91 (ix3 (hd (gT t) e) (tok (bT t) i) n) := by
  have hi := idx_7 t
  rw [View.read_apply]
  refine congrArg (W main_v91) ?_
  funext a
  apply Fin.ext
  match a with
  | ⟨0, _⟩ =>
    show win0_7.index t 0 * 2 + 1 * (e).val = ((hd (gT t) e)).val
    rw [hi.1]
    simp [slab, tok, hd, bg, blk, bT, gT, jT] <;> omega
  | ⟨1, _⟩ =>
    show win0_7.index t 1 * 2048 + 1 * (i).val = ((tok (bT t) i)).val
    rw [hi.2.1]
    simp [slab, tok, hd, bg, blk, bT, gT, jT] <;> omega
  | ⟨2, _⟩ =>
    show win0_7.index t 2 * 128 + 1 * (n).val = (n).val
    rw [hi.2.2]
    simp [slab, tok, hd, bg, blk, bT, gT, jT] <;> omega

theorem in_7 (t : Fin cfg0.N) (e : Fin 2) (i : Fin 2048) (n : Fin 128) :
    (iblk m c 7 t : Vec Ideal S2x2048x128 .f32) (ix3 e i n) = V m c main_v91 (ix3 (hd (gT t) e) (tok (bT t) i) n) :=
  gen_7 c (V m c) t e i n

variable {s : Step} {m c}

theorem x0_at (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (t : Fin cfg0.N) (i : Fin 2048) (n : Fin 128) : (iblk m c 0 t : Vec Ideal S1x2048x128 .bf16) (ix3 0 i n) = (((slabOf s (bT t) (gT t) (jT t)).q i n : ℝ) : EReal) := by
  obtain ⟨e, d, rfl⟩ := exists_lane n
  rw [in_0, V_v77_0, R.q, ← wide_lane]
  rfl

theorem x1_at (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (t : Fin cfg0.N) (i : Fin 1024) (n : Fin 128) : (iblk m c 1 t : Vec Ideal S1x1024x128 .bf16) (ix3 0 i n) = (((slabOf s (bT t) (gT t) (jT t)).k i n : ℝ) : EReal) := by
  obtain ⟨e, d, rfl⟩ := exists_lane n
  rw [in_1, V_v77_1, R.k, ← wide_lane]
  rfl

theorem x2_at (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (t : Fin cfg0.N) (i : Fin 1024) (n : Fin 128) : (iblk m c 2 t : Vec Ideal S1x1024x128 .bf16) (ix3 0 i n) = (((slabOf s (bT t) (gT t) (jT t)).v i n : ℝ) : EReal) := by
  obtain ⟨e, d, rfl⟩ := exists_lane n
  rw [in_2, V_v77_2, R.v, ← wide_lane]
  rfl

theorem x3_at (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (t : Fin cfg0.N) (e : Fin 2) (i : Fin 2048) (n : Fin 128) : (iblk m c 3 t : Vec Ideal S2x2048x128 .f32) (ix3 e i n) = (((slabOf s (bT t) (gT t) (jT t)).fq e i : ℝ) : EReal) := by
  rw [in_3, V_v81_at, R.g]
  rfl

theorem x4_at (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (t : Fin cfg0.N) (e : Fin 2) (k : Fin 1024) : (iblk m c 4 t : Vec Ideal S1x1x8x1024 .f32) (ix4 0 0 (row e) k) = (((slabOf s (bT t) (gT t) (jT t)).fk e k : ℝ) : EReal) := by
  rw [in_4, V_v85_at, R.g]
  rfl

/-- The output of the forward pass, by slabs. -/
def outOf (s : Step) (b : Fin 2) (g : Fin 8) (i : Fin 2048) (n : Fin 128) : ℝ :=
  s.out b (hd g ⟨n.val / 64, by omega⟩) i ⟨n.val % 64, by omega⟩

theorem outOf_lane (s : Step) (b : Fin 2) (g : Fin 8) (i : Fin 2048) (e : Fin 2) (d : Fin 64) : outOf s b g i (lane e d) = s.out b (hd g e) i d := by
  unfold outOf
  congr 2
  · exact Fin.ext (by simp [lane] <;> omega)
  · simp [lane] <;> omega

theorem x5_at (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (T : Top (m ((c.tc : Thread nD τ).loc main_arg0)) (m ((c.tc : Thread nD τ).loc main_arg1)) (m ((c.tc : Thread nD τ).loc main_arg3)) s) (t : Fin cfg0.N) (i : Fin 2048) (n : Fin 128) : (iblk m c 5 t : Vec Ideal S1x2048x128 .f32) (ix3 0 i n) = ((outOf s (bT t) (gT t) i n : ℝ) : EReal) := by
  obtain ⟨e, d, rfl⟩ := exists_lane n
  rw [in_5, V_v87_at, outOf_lane]
  exact v56_at R T _ _ _ _

theorem x6_at (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (t : Fin cfg0.N) (i : Fin 2048) (n : Fin 128) : (iblk m c 6 t : Vec Ideal S1x2048x128 .bf16) (ix3 0 i n) = (((slabOf s (bT t) (gT t) (jT t)).w i n : ℝ) : EReal) := by
  obtain ⟨e, d, rfl⟩ := exists_lane n
  rw [in_6, V_v89_at, R.w, ← wide_lane]
  rfl

theorem x7_at (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (T : Top (m ((c.tc : Thread nD τ).loc main_arg0)) (m ((c.tc : Thread nD τ).loc main_arg1)) (m ((c.tc : Thread nD τ).loc main_arg3)) s) (t : Fin cfg0.N) (e : Fin 2) (i : Fin 2048) (n : Fin 128) : (iblk m c 7 t : Vec Ideal S2x2048x128 .f32) (ix3 e i n) = (((slabOf s (bT t) (gT t) (jT t)).l e i : ℝ) : EReal) := by
  rw [in_7, V_v91_at]
  exact lse_at R T _ _ _

theorem dl_at (s : Step) (b : Fin 2) (g : Fin 8) (j : Fin 2) (e : Fin 2) (i : Fin 2048) :
    (slabOf s b g j).dl e i = ∑ d, (slabOf s b g j).w i (lane e d) * outOf s b g i (lane e d) := by
  refine (s.dl_eq b (hd g e) i).trans (Finset.sum_congr rfl fun d _ => ?_)
  rw [outOf_lane, ← wide_lane]
  rfl

end Cert.KernelIdeal.Fox
-- ==== Proof.Fox.Trip.lean ====
/- What one trip of the attention backward's loop over later blocks of queries yields and writes, as real arithmetic. -/
module

public import proofs.«01_k».proof.Proof.Fox.Tile

@[expose] public section

-- rectangles of production extents
set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What one trip of the loop over later blocks of queries yields, each accumulator taking up the block, and what it leaves
in the gradient of the queries: the rows of the later block take up the block of keys, the others are as they were. -/
theorem trip_value (𝒱 : Variants) (c : Dev nD) (bd : Option 𝒱.V) (i : grid0.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S2x2048x128 .f32) (harg6 : arg6.IsWhole) (arg7 : Memref sig .tc .vmem S1x1x8x1024 .f32) (harg7 : arg7.IsWhole) (arg8 : Memref sig .tc .vmem S1x2048x128 .f32) (harg8 : arg8.IsWhole) (arg9 : Memref sig .tc .vmem S1x2048x128 .bf16) (harg9 : arg9.IsWhole) (arg10 : Memref sig .tc .vmem S2x2048x128 .f32) (harg10 : arg10.IsWhole) (arg11 : Memref sig .tc .vmem S1x2048x128 .f32) (harg11 : arg11.IsWhole) (arg12 : Memref sig .tc .vmem S1x1024x128 .bf16) (harg12 : arg12.IsWhole) (arg13 : Memref sig .tc .vmem S1x1024x128 .bf16) (harg13 : arg13.IsWhole) (arg14 : Memref sig .tc .vmem S1x1x8x1024 .f32) (harg14 : arg14.IsWhole) (arg15 : Memref sig .tc .vmem S2x2048x128 .f32) (harg15 : arg15.IsWhole) (arg16 : Memref sig .tc .vmem S2x128x1024 .bf16) (harg16 : arg16.IsWhole) (arg17 : Memref sig .tc .vmem S2x128x1024 .bf16) (harg17 : arg17.IsWhole) (v8 : FVec Ideal S1024x64 .bf16) (v10 : FVec Ideal S1024x64 .bf16) (v12 : FVec Ideal S1x1024 .f32) (v14 : FVec Ideal S1024x64 .bf16) (v16 : FVec Ideal S1024x64 .bf16) (v18 : FVec Ideal S1x1024 .f32) (v140 : BitVec 32) (cst_80 : Ideal .bf16) (X_arg3 : BufTy.Contents (Elt Ideal) arg3.view.ty) (X_arg6 : BufTy.Contents (Elt Ideal) arg6.view.ty) (X_arg9 : BufTy.Contents (Elt Ideal) arg9.view.ty) (X_arg10 : BufTy.Contents (Elt Ideal) arg10.view.ty) (X_arg15 : BufTy.Contents (Elt Ideal) arg15.view.ty) (X_arg16 : BufTy.Contents (Elt Ideal) arg16.view.ty) (X_arg17 : BufTy.Contents (Elt Ideal) arg17.view.ty) (k : Fin (k0_t1_loop i).trips)
    (s : Slab) (hcst : cst_80 = (((1 : ℝ) / 8 : ℝ) : EReal))
    (hv8 : ∀ c d, v8 (ix2 c d) = ((s.K 0 c d : ℝ) : EReal)) (hv10 : ∀ c d, v10 (ix2 c d) = ((s.V 0 c d : ℝ) : EReal)) (hv12 : ∀ c, v12 (ix2 0 c) = ((s.fk 0 c : ℝ) : EReal))
    (hv14 : ∀ c d, v14 (ix2 c d) = ((s.K 1 c d : ℝ) : EReal)) (hv16 : ∀ c d, v16 (ix2 c d) = ((s.V 1 c d : ℝ) : EReal)) (hv18 : ∀ c, v18 (ix2 0 c) = ((s.fk 1 c : ℝ) : EReal))
    (h3 : ∀ i n, arg3.view.read (Elt Ideal) X_arg3 (ix3 0 i n) = ((s.q i n : ℝ) : EReal)) (h6 : ∀ h i n, arg6.view.read (Elt Ideal) X_arg6 (ix3 h i n) = ((s.fq h i : ℝ) : EReal))
    (h9 : ∀ i n, arg9.view.read (Elt Ideal) X_arg9 (ix3 0 i n) = ((s.w i n : ℝ) : EReal)) (h10 : ∀ h i n, arg10.view.read (Elt Ideal) X_arg10 (ix3 h i n) = ((s.l h i : ℝ) : EReal))
    (h15 : ∀ h i n, arg15.view.read (Elt Ideal) X_arg15 (ix3 h i n) = ((s.dl h i : ℝ) : EReal))
    (h16 : ∀ R n r, arg16.view.read (Elt Ideal) X_arg16 (ix3 R n r) = ((s.q (blk R r) n * (1 / 8) : ℝ) : EReal)) (h17 : ∀ R n r, arg17.view.read (Elt Ideal) X_arg17 (ix3 R n r) = ((s.w (blk R r) n : ℝ) : EReal))
    (hi : (i 2).val = 0) (f_arg11 : BufTy.Contents (Elt Ideal) arg11.view.ty)
    (acc : FVec Ideal S64x1024 .f32 × FVec Ideal S64x1024 .f32 × FVec Ideal S1x1024 .f32 × FVec Ideal S64x1024 .f32 × FVec Ideal S64x1024 .f32 × FVec Ideal S1x1024 .f32)
    (ak av : Fin 2 → Fin 64 → Fin 1024 → ℝ) (af : Fin 2 → Fin 1024 → ℝ) (D : Fin 2 → Fin 2 → Fin 1024 → Fin 64 → ℝ)
    (hk0 : ∀ d c, acc.1 (ix2 d c) = ((ak 0 d c : ℝ) : EReal)) (hv0 : ∀ d c, acc.2.1 (ix2 d c) = ((av 0 d c : ℝ) : EReal)) (hf0 : ∀ c, acc.2.2.1 (ix2 0 c) = ((af 0 c : ℝ) : EReal))
    (hk1 : ∀ d c, acc.2.2.2.1 (ix2 d c) = ((ak 1 d c : ℝ) : EReal)) (hv1 : ∀ d c, acc.2.2.2.2.1 (ix2 d c) = ((av 1 d c : ℝ) : EReal)) (hf1 : ∀ c, acc.2.2.2.2.2 (ix2 0 c) = ((af 1 c : ℝ) : EReal))
    (h11 : ∀ R h r d, arg11.view.read (Elt Ideal) f_arg11 (ix3 0 (blk R r) (lane h d)) = ((D R h r d : ℝ) : EReal)) :
    (let R := (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v8 v10 v12 v14 v16 v18 v140 cst_80 X_arg3 X_arg6 X_arg9 X_arg10 X_arg15 X_arg16 X_arg17 k).1 acc f_arg11
    (∀ d c, (R.1) (ix2 d c) = ((ak 0 d c + ∑ r, s.QT 1 0 d r * s.su 1 0 r c : ℝ) : EReal)) ∧
    (∀ d c, (R.2.1) (ix2 d c) = ((av 0 d c + ∑ r, s.WT 1 0 d r * s.pu 1 0 r c : ℝ) : EReal)) ∧
    (∀ c, (R.2.2.1) (ix2 0 c) = ((af 0 c - ∑ r, s.su 1 0 r c : ℝ) : EReal)) ∧
    (∀ d c, (R.2.2.2.1) (ix2 d c) = ((ak 1 d c + ∑ r, s.QT 1 1 d r * s.su 1 1 r c : ℝ) : EReal)) ∧
    (∀ d c, (R.2.2.2.2.1) (ix2 d c) = ((av 1 d c + ∑ r, s.WT 1 1 d r * s.pu 1 1 r c : ℝ) : EReal)) ∧
    (∀ c, (R.2.2.2.2.2) (ix2 0 c) = ((af 1 c - ∑ r, s.su 1 1 r c : ℝ) : EReal))) ∧
    (∀ h r d, arg11.view.read (Elt Ideal) (arg11.view.writes (Elt Ideal) f_arg11 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v8 v10 v12 v14 v16 v18 v140 cst_80 X_arg3 X_arg6 X_arg9 X_arg10 X_arg15 X_arg16 X_arg17 k).2.1 acc f_arg11)) (ix3 0 (blk 0 r) (lane h d)) = ((D 0 h r d : ℝ) : EReal)) ∧
    (∀ h r d, arg11.view.read (Elt Ideal) (arg11.view.writes (Elt Ideal) f_arg11 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v8 v10 v12 v14 v16 v18 v140 cst_80 X_arg3 X_arg6 X_arg9 X_arg10 X_arg15 X_arg16 X_arg17 k).2.1 acc f_arg11)) (ix3 0 (blk 1 r) (lane h d)) = ((D 1 h r d + (∑ c, s.su 1 h r c * s.K h c d) * (1 / 8) : ℝ) : EReal)) := by
  have hk : k.val = 0 := by have e := trips_first i hi; have := k.isLt; omega
  have o7 : k0_off7 i k = ![0, 1024 * (1 : Fin 2).val, 64 * (0 : Fin 2).val] := by rw [k0_off7_eq, hi, hk]; rfl
  have o8 : k0_off8 i k = ![(0 : Fin 2).val, 1024 * (1 : Fin 2).val, 0] := by rw [k0_off8_eq, hi, hk]; rfl
  have o9 : k0_off9 i k = ![(1 : Fin 2).val, 64 * (0 : Fin 2).val, 0] := by rw [k0_off9_eq, hi, hk]; rfl
  have o10 : k0_off10 i k = ![0, 1024 * (1 : Fin 2).val, 64 * (1 : Fin 2).val] := by rw [k0_off10_eq, hi, hk]; rfl
  have o11 : k0_off11 i k = ![(1 : Fin 2).val, 1024 * (1 : Fin 2).val, 0] := by rw [k0_off11_eq, hi, hk]; rfl
  have o12 : k0_off12 i k = ![(1 : Fin 2).val, 64 * (1 : Fin 2).val, 0] := by rw [k0_off12_eq, hi, hk]; rfl
  unfold trip_k0_t1
  dsimp only
  have q0 := fun r d => (ld64 arg3.view _ (k0_off7_inb i k) X_arg3 1 0 o7 r d).trans (h3 _ _)
  have q1 := fun r d => (ld64 arg3.view _ (k0_off10_inb i k) X_arg3 1 1 o10 r d).trans (h3 _ _)
  have w0 := fun r d => (ld64 arg9.view _ (k0_off7_inb i k) X_arg9 1 0 o7 r d).trans (h9 _ _)
  have w1 := fun r d => (ld64 arg9.view _ (k0_off10_inb i k) X_arg9 1 1 o10 r d).trans (h9 _ _)
  have f0 := fun r n => (ld128 arg6.view _ (k0_off8_inb i k) X_arg6 1 0 o8 r n).trans (h6 _ _ _)
  have f1 := fun r n => (ld128 arg6.view _ (k0_off11_inb i k) X_arg6 1 1 o11 r n).trans (h6 _ _ _)
  have l0 := fun r n => (ld128 arg10.view _ (k0_off8_inb i k) X_arg10 1 0 o8 r n).trans (h10 _ _ _)
  have l1 := fun r n => (ld128 arg10.view _ (k0_off11_inb i k) X_arg10 1 1 o11 r n).trans (h10 _ _ _)
  have d0 := fun r n => (ld128 arg15.view _ (k0_off8_inb i k) X_arg15 1 0 o8 r n).trans (h15 _ _ _)
  have d1 := fun r n => (ld128 arg15.view _ (k0_off11_inb i k) X_arg15 1 1 o11 r n).trans (h15 _ _ _)
  have t0 := fun d r => (ldT arg16.view _ (k0_off9_inb i k) X_arg16 1 0 o9 d r).trans (h16 _ _ _)
  have t1 := fun d r => (ldT arg16.view _ (k0_off12_inb i k) X_arg16 1 1 o12 d r).trans (h16 _ _ _)
  have u0 := fun d r => (ldT arg17.view _ (k0_off9_inb i k) X_arg17 1 0 o9 d r).trans (h17 _ _ _)
  have u1 := fun d r => (ldT arg17.view _ (k0_off12_inb i k) X_arg17 1 1 o12 d r).trans (h17 _ _ _)
  have r_6 : ∀ r c, trip_k0_t1.sl.r_6 (F := Ideal) i arg3 arg6 arg10 v14 v18 cst_80 X_arg3 X_arg6 X_arg10 k (ix2 r c) = ((s.pu 1 1 r c : ℝ) : EReal) :=
    fun r c => by unfold trip_k0_t1.sl.r_6; exact pay38_val _ hcst _ _ _ _ _ (s.K 1) (s.fk 1) (s.Q 1 1) (s.Fq 1 1) (s.Ls 1 1) hv14 hv18 q1 f1 l1 r c
  have r_7 : ∀ r c, trip_k0_t1.sl.r_7 (F := Ideal) i arg9 v16 X_arg9 k (ix2 r c) = ((∑ d, s.W 1 1 r d * s.V 1 c d : ℝ) : EReal) :=
    fun r c => by unfold trip_k0_t1.sl.r_7; exact pay39_val _ _ (s.V 1) (s.W 1 1) hv16 w1 r c
  have ds0 : ∀ r c, trip_k0_t1.sl.r_1 (F := Ideal) i arg3 arg6 arg9 arg10 arg15 v8 v10 v12 cst_80 X_arg3 X_arg6 X_arg9 X_arg10 X_arg15 k (ix2 r c) = ((s.su 1 0 r c : ℝ) : EReal) :=
    fun r c => by unfold trip_k0_t1.sl.r_1; refine (pay32_at _ _ _ _ _ _ _ _ _ _).trans ?_; exact pay31_val _ hcst _ _ _ _ _ _ _ _ (s.K 0) (s.V 0) (s.fk 0) (s.W 1 0) (s.Q 1 0) (s.Fq 1 0) (s.Ls 1 0) (s.Dl 1 0) hv8 hv10 hv12 w0 q0 f0 l0 d0 r c
  refine ⟨⟨?_, ?_, ?_, ?_, ?_, ?_⟩, ?_, ?_⟩
  · intro d c; unfold trip_k0_t1.sl.r_4
    exact pay35_val _ _ _ (ak 0) (s.su 1 0) (s.QT 1 0) hk0 ds0 (fun d r => by unfold trip_k0_t1.sl.r_3; exact (pay34_at _ d r).trans (t0 d r)) d c
  · intro d c; unfold trip_k0_t1.sl.r_2
    exact pay33_val _ hcst _ _ _ _ _ _ _ (s.K 0) (s.fk 0) (av 0) (s.Q 1 0) (s.Fq 1 0) (s.Ls 1 0) (s.WT 1 0) hv8 hv12 hv0 q0 f0 l0 u0 d c
  · intro c; unfold trip_k0_t1.sl.r_5
    refine pay37_val _ _ (af 0) (s.su 1 0) hf0 (fun r c => ?_) c
    unfold trip_k0_t1.sl.r
    exact pay31_val _ hcst _ _ _ _ _ _ _ _ (s.K 0) (s.V 0) (s.fk 0) (s.W 1 0) (s.Q 1 0) (s.Fq 1 0) (s.Ls 1 0) (s.Dl 1 0) hv8 hv10 hv12 w0 q0 f0 l0 d0 r c
  · intro d c
    exact pay4_val _ _ _ _ _ (ak 1) (s.pu 1 1) _ (s.Dl 1 1) (s.QT 1 1) hk1 r_6 r_7 d1 t1 d c
  · intro d c
    exact pay3_val _ _ _ (av 1) (s.pu 1 1) (s.WT 1 1) hv1 r_6 u1 d c
  · intro c
    exact pay6_val _ _ _ _ (af 1) (s.pu 1 1) _ (s.Dl 1 1) hf1 r_6 r_7 d1 c
  · intro h r d
    refine (st64_row _ _ _ _ 1 1 o10 _ _ 0 (by decide) r _).trans ?_
    refine (st64_row _ _ _ _ 1 0 o7 _ _ 0 (by decide) r _).trans ?_
    exact h11 _ _ _ _
  · intro h r d
    match h with
    | 0 =>
      refine (st64_lane _ _ _ _ 1 1 o10 _ _ 0 (by decide) _ d).trans ?_
      refine (st64_hit _ _ _ _ 1 0 o7 _ _ r d).trans ?_
      exact pay36_val _ _ _ (s.K 0) (s.su 1 0) (D 1 0) hv8 ds0 (fun r d => (ld64 arg11.view _ (k0_off7_inb i k) f_arg11 1 0 o7 r d).trans (h11 _ _ _ _)) r d
    | 1 =>
      refine (st64_hit _ _ _ _ 1 1 o10 _ _ r d).trans ?_
      refine pay5_val _ _ _ _ _ (s.K 1) (s.pu 1 1) _ (s.Dl 1 1) (D 1 1) hv14 r_6 r_7 d1 (fun r d => ?_) r d
      unfold trip_k0_t1.sl.v265
      refine (ld64 arg11.view _ (k0_off10_inb i k) _ 1 1 o10 r d).trans ?_
      exact h11 _ _ _ _

end Cert.KernelIdeal.Fox
-- ==== Proof.Fox.Loop.lean ====
/- What one trip of the attention backward's loop over later blocks of queries yields and writes, as real arithmetic. -/
module

public import proofs.«01_k».proof.Proof.Fox.Trip

@[expose] public section

-- rectangles of production extents
set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The loop over later blocks of queries, at the first block of keys: it runs once, so what it yields and writes is what
its trip does. -/
theorem loop_value (𝒱 : Variants) (c : Dev nD) (bd : Option 𝒱.V) (i : grid0.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S2x2048x128 .f32) (harg6 : arg6.IsWhole) (arg7 : Memref sig .tc .vmem S1x1x8x1024 .f32) (harg7 : arg7.IsWhole) (arg8 : Memref sig .tc .vmem S1x2048x128 .f32) (harg8 : arg8.IsWhole) (arg9 : Memref sig .tc .vmem S1x2048x128 .bf16) (harg9 : arg9.IsWhole) (arg10 : Memref sig .tc .vmem S2x2048x128 .f32) (harg10 : arg10.IsWhole) (arg11 : Memref sig .tc .vmem S1x2048x128 .f32) (harg11 : arg11.IsWhole) (arg12 : Memref sig .tc .vmem S1x1024x128 .bf16) (harg12 : arg12.IsWhole) (arg13 : Memref sig .tc .vmem S1x1024x128 .bf16) (harg13 : arg13.IsWhole) (arg14 : Memref sig .tc .vmem S1x1x8x1024 .f32) (harg14 : arg14.IsWhole) (arg15 : Memref sig .tc .vmem S2x2048x128 .f32) (harg15 : arg15.IsWhole) (arg16 : Memref sig .tc .vmem S2x128x1024 .bf16) (harg16 : arg16.IsWhole) (arg17 : Memref sig .tc .vmem S2x128x1024 .bf16) (harg17 : arg17.IsWhole) (v8 : FVec Ideal S1024x64 .bf16) (v10 : FVec Ideal S1024x64 .bf16) (v12 : FVec Ideal S1x1024 .f32) (v14 : FVec Ideal S1024x64 .bf16) (v16 : FVec Ideal S1024x64 .bf16) (v18 : FVec Ideal S1x1024 .f32) (v140 : BitVec 32) (cst_80 : Ideal .bf16) (X_arg3 : BufTy.Contents (Elt Ideal) arg3.view.ty) (X_arg6 : BufTy.Contents (Elt Ideal) arg6.view.ty) (X_arg9 : BufTy.Contents (Elt Ideal) arg9.view.ty) (X_arg10 : BufTy.Contents (Elt Ideal) arg10.view.ty) (X_arg15 : BufTy.Contents (Elt Ideal) arg15.view.ty) (X_arg16 : BufTy.Contents (Elt Ideal) arg16.view.ty) (X_arg17 : BufTy.Contents (Elt Ideal) arg17.view.ty)
    (s : Slab) (hcst : cst_80 = (((1 : ℝ) / 8 : ℝ) : EReal))
    (hv8 : ∀ c d, v8 (ix2 c d) = ((s.K 0 c d : ℝ) : EReal)) (hv10 : ∀ c d, v10 (ix2 c d) = ((s.V 0 c d : ℝ) : EReal)) (hv12 : ∀ c, v12 (ix2 0 c) = ((s.fk 0 c : ℝ) : EReal))
    (hv14 : ∀ c d, v14 (ix2 c d) = ((s.K 1 c d : ℝ) : EReal)) (hv16 : ∀ c d, v16 (ix2 c d) = ((s.V 1 c d : ℝ) : EReal)) (hv18 : ∀ c, v18 (ix2 0 c) = ((s.fk 1 c : ℝ) : EReal))
    (h3 : ∀ i n, arg3.view.read (Elt Ideal) X_arg3 (ix3 0 i n) = ((s.q i n : ℝ) : EReal)) (h6 : ∀ h i n, arg6.view.read (Elt Ideal) X_arg6 (ix3 h i n) = ((s.fq h i : ℝ) : EReal))
    (h9 : ∀ i n, arg9.view.read (Elt Ideal) X_arg9 (ix3 0 i n) = ((s.w i n : ℝ) : EReal)) (h10 : ∀ h i n, arg10.view.read (Elt Ideal) X_arg10 (ix3 h i n) = ((s.l h i : ℝ) : EReal))
    (h15 : ∀ h i n, arg15.view.read (Elt Ideal) X_arg15 (ix3 h i n) = ((s.dl h i : ℝ) : EReal))
    (h16 : ∀ R n r, arg16.view.read (Elt Ideal) X_arg16 (ix3 R n r) = ((s.q (blk R r) n * (1 / 8) : ℝ) : EReal)) (h17 : ∀ R n r, arg17.view.read (Elt Ideal) X_arg17 (ix3 R n r) = ((s.w (blk R r) n : ℝ) : EReal))
    (hi : (i 2).val = 0) (f_arg11 : BufTy.Contents (Elt Ideal) arg11.view.ty)
    (acc : FVec Ideal S64x1024 .f32 × FVec Ideal S64x1024 .f32 × FVec Ideal S1x1024 .f32 × FVec Ideal S64x1024 .f32 × FVec Ideal S64x1024 .f32 × FVec Ideal S1x1024 .f32)
    (ak av : Fin 2 → Fin 64 → Fin 1024 → ℝ) (af : Fin 2 → Fin 1024 → ℝ) (D : Fin 2 → Fin 2 → Fin 1024 → Fin 64 → ℝ)
    (hk0 : ∀ d c, acc.1 (ix2 d c) = ((ak 0 d c : ℝ) : EReal)) (hv0 : ∀ d c, acc.2.1 (ix2 d c) = ((av 0 d c : ℝ) : EReal)) (hf0 : ∀ c, acc.2.2.1 (ix2 0 c) = ((af 0 c : ℝ) : EReal))
    (hk1 : ∀ d c, acc.2.2.2.1 (ix2 d c) = ((ak 1 d c : ℝ) : EReal)) (hv1 : ∀ d c, acc.2.2.2.2.1 (ix2 d c) = ((av 1 d c : ℝ) : EReal)) (hf1 : ∀ c, acc.2.2.2.2.2 (ix2 0 c) = ((af 1 c : ℝ) : EReal))
    (h11 : ∀ R h r d, arg11.view.read (Elt Ideal) f_arg11 (ix3 0 (blk R r) (lane h d)) = ((D R h r d : ℝ) : EReal)) :
    (let R := (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v8 v10 v12 v14 v16 v18 v140 cst_80 X_arg3 X_arg6 X_arg9 X_arg10 X_arg15 X_arg16 X_arg17 f_arg11 acc 1).1
    (∀ d c, (R.1) (ix2 d c) = ((ak 0 d c + ∑ r, s.QT 1 0 d r * s.su 1 0 r c : ℝ) : EReal)) ∧
    (∀ d c, (R.2.1) (ix2 d c) = ((av 0 d c + ∑ r, s.WT 1 0 d r * s.pu 1 0 r c : ℝ) : EReal)) ∧
    (∀ c, (R.2.2.1) (ix2 0 c) = ((af 0 c - ∑ r, s.su 1 0 r c : ℝ) : EReal)) ∧
    (∀ d c, (R.2.2.2.1) (ix2 d c) = ((ak 1 d c + ∑ r, s.QT 1 1 d r * s.su 1 1 r c : ℝ) : EReal)) ∧
    (∀ d c, (R.2.2.2.2.1) (ix2 d c) = ((av 1 d c + ∑ r, s.WT 1 1 d r * s.pu 1 1 r c : ℝ) : EReal)) ∧
    (∀ c, (R.2.2.2.2.2) (ix2 0 c) = ((af 1 c - ∑ r, s.su 1 1 r c : ℝ) : EReal))) ∧
    (∀ h r d, arg11.view.read (Elt Ideal) (arg11.view.writes (Elt Ideal) f_arg11 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v8 v10 v12 v14 v16 v18 v140 cst_80 X_arg3 X_arg6 X_arg9 X_arg10 X_arg15 X_arg16 X_arg17 f_arg11 acc 1).2) (ix3 0 (blk 0 r) (lane h d)) = ((D 0 h r d : ℝ) : EReal)) ∧
    (∀ h r d, arg11.view.read (Elt Ideal) (arg11.view.writes (Elt Ideal) f_arg11 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v8 v10 v12 v14 v16 v18 v140 cst_80 X_arg3 X_arg6 X_arg9 X_arg10 X_arg15 X_arg16 X_arg17 f_arg11 acc 1).2) (ix3 0 (blk 1 r) (lane h d)) = ((D 1 h r d + (∑ c, s.su 1 h r c * s.K h c d) * (1 / 8) : ℝ) : EReal)) := by
  have h0 : 0 < (k0_t1_loop i).trips := by rw [trips_first i hi]; exact Nat.one_pos
  have T := trip_value 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v8 v10 v12 v14 v16 v18 v140 cst_80 X_arg3 X_arg6 X_arg9 X_arg10 X_arg15 X_arg16 X_arg17 ⟨0, h0⟩ s hcst hv8 hv10 hv12 hv14 hv16 hv18 h3 h6 h9 h10 h15 h16 h17 hi f_arg11 acc ak av af D hk0 hv0 hf0 hk1 hv1 hf1 h11
  have e := st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v8 v10 v12 v14 v16 v18 v140 cst_80 X_arg3 X_arg6 X_arg9 X_arg10 X_arg15 X_arg16 X_arg17 f_arg11 acc ⟨0, h0⟩
  rw [st_k0_t1_zero] at e
  refine ⟨?_, ?_, ?_⟩
  · rw [show (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v8 v10 v12 v14 v16 v18 v140 cst_80 X_arg3 X_arg6 X_arg9 X_arg10 X_arg15 X_arg16 X_arg17 f_arg11 acc 1) = _ from e]
    exact T.1
  · rw [show (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v8 v10 v12 v14 v16 v18 v140 cst_80 X_arg3 X_arg6 X_arg9 X_arg10 X_arg15 X_arg16 X_arg17 f_arg11 acc 1) = _ from e]
    intro h r d
    dsimp only
    rw [st_k0_t1.eq_1, List.append_nil]
    exact T.2.1 h r d
  · rw [show (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v8 v10 v12 v14 v16 v18 v140 cst_80 X_arg3 X_arg6 X_arg9 X_arg10 X_arg15 X_arg16 X_arg17 f_arg11 acc 1) = _ from e]
    intro h r d
    dsimp only
    rw [st_k0_t1.eq_1, List.append_nil]
    exact T.2.2 h r d

end Cert.KernelIdeal.Fox
-- ==== Proof.Fox.ValueA.lean ====
/- What the attention backward's body writes at the first block of keys of a pair of heads, as real arithmetic. -/
module

public import proofs.«01_k».proof.Proof.Fox.Loop
public import proofs.«01_k».proof.Proof.Fox.Cover

@[expose] public section

-- rectangles of production extents
set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 4000000 in
/-- The body at the first block of keys of a pair of heads: the gradients it writes take up both blocks of queries, and the
scratch buffers hold the products of the output with its gradient and the transposed slabs. -/
theorem runA_value (c : Dev nD) (i : grid0.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S2x2048x128 .f32) (harg6 : arg6.IsWhole) (arg7 : Memref sig .tc .vmem S1x1x8x1024 .f32) (harg7 : arg7.IsWhole) (arg8 : Memref sig .tc .vmem S1x2048x128 .f32) (harg8 : arg8.IsWhole) (arg9 : Memref sig .tc .vmem S1x2048x128 .bf16) (harg9 : arg9.IsWhole) (arg10 : Memref sig .tc .vmem S2x2048x128 .f32) (harg10 : arg10.IsWhole) (arg11 : Memref sig .tc .vmem S1x2048x128 .f32) (harg11 : arg11.IsWhole) (arg12 : Memref sig .tc .vmem S1x1024x128 .bf16) (harg12 : arg12.IsWhole) (arg13 : Memref sig .tc .vmem S1x1024x128 .bf16) (harg13 : arg13.IsWhole) (arg14 : Memref sig .tc .vmem S1x1x8x1024 .f32) (harg14 : arg14.IsWhole) (arg15 : Memref sig .tc .vmem S2x2048x128 .f32) (harg15 : arg15.IsWhole) (arg16 : Memref sig .tc .vmem S2x128x1024 .bf16) (harg16 : arg16.IsWhole) (arg17 : Memref sig .tc .vmem S2x128x1024 .bf16) (harg17 : arg17.IsWhole) (hc0 : cond0_0 i)
    (x0 : Vec Ideal S1x2048x128 .bf16) (x1 : Vec Ideal S1x1024x128 .bf16) (x2 : Vec Ideal S1x1024x128 .bf16) (x3 : Vec Ideal S2x2048x128 .f32) (x4 : Vec Ideal S1x1x8x1024 .f32) (x5 : Vec Ideal S1x2048x128 .f32) (x6 : Vec Ideal S1x2048x128 .bf16) (x7 : Vec Ideal S2x2048x128 .f32)
    (s : Slab) (hx0 : ∀ i n, x0 (ix3 0 i n) = ((s.q i n : ℝ) : EReal)) (hx1 : ∀ c n, x1 (ix3 0 c n) = ((s.k c n : ℝ) : EReal)) (hx2 : ∀ c n, x2 (ix3 0 c n) = ((s.v c n : ℝ) : EReal))
    (hx3 : ∀ h i n, x3 (ix3 h i n) = ((s.fq h i : ℝ) : EReal)) (hx4 : ∀ h c, x4 (ix4 0 0 (row h) c) = ((s.fk h c : ℝ) : EReal))
    (hx6 : ∀ i n, x6 (ix3 0 i n) = ((s.w i n : ℝ) : EReal)) (hx7 : ∀ h i n, x7 (ix3 h i n) = ((s.l h i : ℝ) : EReal))
    (o : Fin 2048 → Fin 128 → ℝ) (hx5 : ∀ i n, x5 (ix3 0 i n) = ((o i n : ℝ) : EReal)) (hdl : ∀ h i, s.dl h i = ∑ d, s.w i (lane h d) * o i (lane h d))
    (hi : (i 2).val = 0) :
    (∀ h r d, arg11.view.read (Elt Ideal) (arg11.view.writes (Elt Ideal) arg11.view.junk (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1) (ix3 0 (blk 0 r) (lane h d)) = ((0 + (∑ c, s.sd 0 h r c * s.K h c d) * (1 / 8) : ℝ) : EReal)) ∧
    (∀ h r d, arg11.view.read (Elt Ideal) (arg11.view.writes (Elt Ideal) arg11.view.junk (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1) (ix3 0 (blk 1 r) (lane h d)) = ((0 + (∑ c, s.su 1 h r c * s.K h c d) * (1 / 8) : ℝ) : EReal)) ∧
    (∀ h c' d, arg12.view.read (Elt Ideal) (arg12.view.writes (Elt Ideal) arg12.view.junk (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.1) (ix3 0 c' (lane h d)) = ((0 + ∑ r, s.QT 0 h d r * s.sd 0 h r c' + ∑ r, s.QT 1 h d r * s.su 1 h r c' : ℝ) : EReal)) ∧
    (∀ h c' d, arg13.view.read (Elt Ideal) (arg13.view.writes (Elt Ideal) arg13.view.junk (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.1) (ix3 0 c' (lane h d)) = ((0 + ∑ r, s.WT 0 h d r * s.pd 0 h r c' + ∑ r, s.WT 1 h d r * s.pu 1 h r c' : ℝ) : EReal)) ∧
    (∀ h c', arg14.view.read (Elt Ideal) (arg14.view.writes (Elt Ideal) arg14.view.junk (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.1) (ix4 0 0 (row h) c') = ((0 - ∑ r, s.sd 0 h r c' - ∑ r, s.su 1 h r c' : ℝ) : EReal)) ∧
    (∀ n c', n ≠ row 0 → n ≠ row 1 → arg14.view.read (Elt Ideal) (arg14.view.writes (Elt Ideal) arg14.view.junk (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.1) (ix4 0 0 n c') = 0) ∧
    (∀ h i' n, arg15.view.read (Elt Ideal) (arg15.view.writes (Elt Ideal) arg15.view.junk (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.1) (ix3 h i' n) = ((s.dl h i' : ℝ) : EReal)) ∧
    (∀ R n r, arg16.view.read (Elt Ideal) (arg16.view.writes (Elt Ideal) arg16.view.junk (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.1) (ix3 R n r) = ((s.q (blk R r) n * (1 / 8) : ℝ) : EReal)) ∧
    (∀ R n r, arg17.view.read (Elt Ideal) (arg17.view.writes (Elt Ideal) arg17.view.junk (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.2.1) (ix3 R n r) = ((s.w (blk R r) n : ℝ) : EReal)) := by
  have n1 : Scf.trips (Scalar.addi (BitVec.ofNat 32 (i 2).val) 1#32) (Scalar.addi (Scalar.addi (BitVec.ofNat 32 (i 2).val) 1#32) (Scalar.muli (Scalar.divsi (Scalar.subi (2#32) (Scalar.addi (BitVec.ofNat 32 (i 2).val) 1#32)) 1#32) 1#32)) 1#32 = 1 := trips_first i hi
  have n2 : Scf.trips (Scalar.addi (Scalar.addi (BitVec.ofNat 32 (i 2).val) 1#32) (Scalar.muli (Scalar.divsi (Scalar.subi (2#32) (Scalar.addi (BitVec.ofNat 32 (i 2).val) 1#32)) 1#32) 1#32)) (Scalar.addi (Scalar.addi (BitVec.ofNat 32 (i 2).val) 1#32) (Scalar.subi (2#32) (Scalar.addi (BitVec.ofNat 32 (i 2).val) 1#32))) 1#32 = 0 := trips_rest i
  have o1 : k0_off1 i = ![0, 1024 * (0 : Fin 2).val, 64 * (0 : Fin 2).val] := by rw [k0_off1_eq, hi]; rfl
  have o2 : k0_off2 i = ![(0 : Fin 2).val, 1024 * (0 : Fin 2).val, 0] := by rw [k0_off2_eq, hi]; rfl
  have o3 : k0_off3 i = ![(0 : Fin 2).val, 64 * (0 : Fin 2).val, 0] := by rw [k0_off3_eq, hi]; rfl
  have o4 : k0_off4 i = ![0, 1024 * (0 : Fin 2).val, 64 * (1 : Fin 2).val] := by rw [k0_off4_eq, hi]; rfl
  have o5 : k0_off5 i = ![(1 : Fin 2).val, 1024 * (0 : Fin 2).val, 0] := by rw [k0_off5_eq, hi]; rfl
  have o6 : k0_off6 i = ![(0 : Fin 2).val, 64 * (1 : Fin 2).val, 0] := by rw [k0_off6_eq, hi]; rfl
  have h3 : ∀ i n, arg3.view.read (Elt Ideal) (harg3.unread x0) (ix3 0 i n) = ((s.q i n : ℝ) : EReal) := fun i n => (congrFun (harg3.read_unread x0) _).trans (hx0 i n)
  have h4 : ∀ i n, arg4.view.read (Elt Ideal) (harg4.unread x1) (ix3 0 i n) = ((s.k i n : ℝ) : EReal) := fun i n => (congrFun (harg4.read_unread x1) _).trans (hx1 i n)
  have h5 : ∀ i n, arg5.view.read (Elt Ideal) (harg5.unread x2) (ix3 0 i n) = ((s.v i n : ℝ) : EReal) := fun i n => (congrFun (harg5.read_unread x2) _).trans (hx2 i n)
  have h6 : ∀ h i n, arg6.view.read (Elt Ideal) (harg6.unread x3) (ix3 h i n) = ((s.fq h i : ℝ) : EReal) := fun h i n => (congrFun (harg6.read_unread x3) _).trans (hx3 h i n)
  have h7 : ∀ h c, arg7.view.read (Elt Ideal) (harg7.unread x4) (ix4 0 0 (row h) c) = ((s.fk h c : ℝ) : EReal) := fun h c => (congrFun (harg7.read_unread x4) _).trans (hx4 h c)
  have h9 : ∀ i n, arg9.view.read (Elt Ideal) (harg9.unread x6) (ix3 0 i n) = ((s.w i n : ℝ) : EReal) := fun i n => (congrFun (harg9.read_unread x6) _).trans (hx6 i n)
  have h10 : ∀ h i n, arg10.view.read (Elt Ideal) (harg10.unread x7) (ix3 h i n) = ((s.l h i : ℝ) : EReal) := fun h i n => (congrFun (harg10.read_unread x7) _).trans (hx7 h i n)
  have h8 : ∀ i n, arg8.view.read (Elt Ideal) (harg8.unread x5) (ix3 0 i n) = ((o i n : ℝ) : EReal) := fun i n => (congrFun (harg8.read_unread x5) _).trans (hx5 i n)
  have wS := fun (R : Fin 2) (off) (inb) (ho : off = ![0, 1024 * R.val, 0]) r n => (ldS arg9.view off inb (harg9.unread x6) R ho r n).trans (h9 _ _)
  have oS := fun (R : Fin 2) (off) (inb) (ho : off = ![0, 1024 * R.val, 0]) r n => (ldS arg8.view off inb (harg8.unread x5) R ho r n).trans (h8 _ _)
  have qS := fun (R : Fin 2) (off) (inb) (ho : off = ![0, 1024 * R.val, 0]) r n => (ldS arg3.view off inb (harg3.unread x0) R ho r n).trans (h3 _ _)
  have e00 : ∀ r, runA.sl.r_1 (F := Ideal) c arg8 harg8 arg9 harg9 x5 x6 (ix2 r 0) = ((s.dl 0 (blk 0 r) : ℝ) : EReal) := fun r => by
    unfold runA.sl.r_1
    refine (pay22_at _ _ r).trans ?_
    refine (Finset.sum_congr rfl fun d _ => congrArg₂ (· * ·) (wS 0 _ _ rfl r (lane 0 d)) (oS 0 _ _ rfl r (lane 0 d))).trans ?_
    simp only [← EReal.coe_mul, coe_sum, hdl]
  have e01 : ∀ r, runA.sl.r (F := Ideal) c arg8 harg8 arg9 harg9 x5 x6 (ix2 r 0) = ((s.dl 1 (blk 0 r) : ℝ) : EReal) := fun r => by
    unfold runA.sl.r
    refine (pay19_at _ _ r).trans ?_
    refine (Finset.sum_congr rfl fun d _ => congrArg₂ (· * ·) (wS 0 _ _ rfl r (lane 1 d)) (oS 0 _ _ rfl r (lane 1 d))).trans ?_
    simp only [← EReal.coe_mul, coe_sum, hdl]
  have e10 : ∀ r, runA.sl.r_2 (F := Ideal) c arg8 harg8 arg9 harg9 x5 x6 (ix2 r 0) = ((s.dl 0 (blk 1 r) : ℝ) : EReal) := fun r => by
    unfold runA.sl.r_2
    refine (pay26_at _ _ r).trans ?_
    refine (Finset.sum_congr rfl fun d _ => congrArg₂ (· * ·) (wS 1 _ _ rfl r (lane 0 d)) (oS 1 _ _ rfl r (lane 0 d))).trans ?_
    simp only [← EReal.coe_mul, coe_sum, hdl]
  have e11 : ∀ r, runA.sl.r_3 (F := Ideal) c arg8 harg8 arg9 harg9 x5 x6 (ix2 r 0) = ((s.dl 1 (blk 1 r) : ℝ) : EReal) := fun r => by
    unfold runA.sl.r_3
    refine (pay27_at _ _ r).trans ?_
    refine (Finset.sum_congr rfl fun d _ => congrArg₂ (· * ·) (wS 1 _ _ rfl r (lane 1 d)) (oS 1 _ _ rfl r (lane 1 d))).trans ?_
    simp only [← EReal.coe_mul, coe_sum, hdl]
  have h15 : ∀ h i n, arg15.view.read (Elt Ideal) (arg15.view.writes (Elt Ideal) arg15.view.junk (runA.sl.HS0_4 (F := Ideal) c arg8 harg8 arg9 harg9 x5 x6)) (ix3 h i n) = ((s.dl h i : ℝ) : EReal) := fun h i n => by
    obtain ⟨R, r, rfl⟩ := exists_blk i
    unfold runA.sl.HS0_4
    match R, h with
    | 0, 0 =>
      refine (st128_miss _ _ _ _ 1 1 rfl _ _ 0 0 (by decide) r n).trans ?_
      refine (st128_miss _ _ _ _ 1 0 rfl _ _ 0 0 (by decide) r n).trans ?_
      refine (st128_miss _ _ _ _ 0 1 rfl _ _ 0 0 (by decide) r n).trans ?_
      refine (st128_hit _ _ _ _ 0 0 rfl _ _ r n).trans ?_
      exact (pay23_at _ r n).trans (e00 r)
    | 0, 1 =>
      refine (st128_miss _ _ _ _ 1 1 rfl _ _ 0 1 (by decide) r n).trans ?_
      refine (st128_miss _ _ _ _ 1 0 rfl _ _ 0 1 (by decide) r n).trans ?_
      refine (st128_hit _ _ _ _ 0 1 rfl _ _ r n).trans ?_
      exact (pay24_at _ r n).trans (e01 r)
    | 1, 0 =>
      refine (st128_miss _ _ _ _ 1 1 rfl _ _ 1 0 (by decide) r n).trans ?_
      refine (st128_hit _ _ _ _ 1 0 rfl _ _ r n).trans ?_
      exact (pay51_at _ r n).trans (e10 r)
    | 1, 1 =>
      refine (st128_hit _ _ _ _ 1 1 rfl _ _ r n).trans ?_
      exact (pay52_at _ r n).trans (e11 r)
  have h16 : ∀ R n r, arg16.view.read (Elt Ideal) (arg16.view.writes (Elt Ideal) arg16.view.junk (runA.sl.HS1_2 (F := Ideal) c arg3 harg3 x0)) (ix3 R n r) = ((s.q (blk R r) n * (1 / 8) : ℝ) : EReal) := fun R n r => by
    unfold runA.sl.HS1_2
    match R with
    | 0 =>
      refine (stT_miss _ _ _ _ 1 rfl _ _ 0 (by decide) n r).trans ?_
      refine (stT_hit _ _ _ _ 0 rfl _ _ n r).trans ?_
      refine (pay20_at _ _ n r).trans ?_
      unfold runA.sl.cst
      exact (congrArg₂ (· * ·) (qS 0 _ _ rfl r n) eighth_bf16).trans (EReal.coe_mul _ _).symm
    | 1 =>
      refine (stT_hit _ _ _ _ 1 rfl _ _ n r).trans ?_
      refine (pay28_at _ _ n r).trans ?_
      unfold runA.sl.cst
      exact (congrArg₂ (· * ·) (qS 1 _ _ rfl r n) eighth_bf16).trans (EReal.coe_mul _ _).symm
  have h17 : ∀ R n r, arg17.view.read (Elt Ideal) (arg17.view.writes (Elt Ideal) arg17.view.junk (runA.sl.HS2_2 (F := Ideal) c arg9 harg9 x6)) (ix3 R n r) = ((s.w (blk R r) n : ℝ) : EReal) := fun R n r => by
    unfold runA.sl.HS2_2
    match R with
    | 0 =>
      refine (stT_miss _ _ _ _ 1 rfl _ _ 0 (by decide) n r).trans ?_
      refine (stT_hit _ _ _ _ 0 rfl _ _ n r).trans ?_
      exact (pay21_at _ n r).trans (wS 0 _ _ rfl r n)
    | 1 =>
      refine (stT_hit _ _ _ _ 1 rfl _ _ n r).trans ?_
      refine (pay50_at _ n r).trans ?_
      unfold runA.sl.r_4
      exact (pay29_at _ r n).trans (wS 1 _ _ rfl r n)
  have q0 := fun r d => (ld64 arg3.view _ (k0_off1_inb i) (harg3.unread x0) 0 0 o1 r d).trans (h3 _ _)
  have q1 := fun r d => (ld64 arg3.view _ (k0_off4_inb i) (harg3.unread x0) 0 1 o4 r d).trans (h3 _ _)
  have w0 := fun r d => (ld64 arg9.view _ (k0_off1_inb i) (harg9.unread x6) 0 0 o1 r d).trans (h9 _ _)
  have w1 := fun r d => (ld64 arg9.view _ (k0_off4_inb i) (harg9.unread x6) 0 1 o4 r d).trans (h9 _ _)
  have f0 := fun r n => (ld128 arg6.view _ (k0_off2_inb i) (harg6.unread x3) 0 0 o2 r n).trans (h6 _ _ _)
  have f1 := fun r n => (ld128 arg6.view _ (k0_off5_inb i) (harg6.unread x3) 0 1 o5 r n).trans (h6 _ _ _)
  have l0 := fun r n => (ld128 arg10.view _ (k0_off2_inb i) (harg10.unread x7) 0 0 o2 r n).trans (h10 _ _ _)
  have l1 := fun r n => (ld128 arg10.view _ (k0_off5_inb i) (harg10.unread x7) 0 1 o5 r n).trans (h10 _ _ _)
  have d0 := fun r n => (ld128 arg15.view _ (k0_off2_inb i) (arg15.view.writes (Elt Ideal) arg15.view.junk (runA.sl.HS0_4 (F := Ideal) c arg8 harg8 arg9 harg9 x5 x6)) 0 0 o2 r n).trans (h15 _ _ _)
  have d1 := fun r n => (ld128 arg15.view _ (k0_off5_inb i) (arg15.view.writes (Elt Ideal) arg15.view.junk (runA.sl.HS0_4 (F := Ideal) c arg8 harg8 arg9 harg9 x5 x6)) 0 1 o5 r n).trans (h15 _ _ _)
  have t0 := fun d r => (ldT arg16.view _ (k0_off3_inb i) (arg16.view.writes (Elt Ideal) arg16.view.junk (runA.sl.HS1_2 (F := Ideal) c arg3 harg3 x0)) 0 0 o3 d r).trans (h16 _ _ _)
  have t1 := fun d r => (ldT arg16.view _ (k0_off6_inb i) (arg16.view.writes (Elt Ideal) arg16.view.junk (runA.sl.HS1_2 (F := Ideal) c arg3 harg3 x0)) 0 1 o6 d r).trans (h16 _ _ _)
  have u0 := fun d r => (ldT arg17.view _ (k0_off3_inb i) (arg17.view.writes (Elt Ideal) arg17.view.junk (runA.sl.HS2_2 (F := Ideal) c arg9 harg9 x6)) 0 0 o3 d r).trans (h17 _ _ _)
  have u1 := fun d r => (ldT arg17.view _ (k0_off6_inb i) (arg17.view.writes (Elt Ideal) arg17.view.junk (runA.sl.HS2_2 (F := Ideal) c arg9 harg9 x6)) 0 1 o6 d r).trans (h17 _ _ _)
  have k0 : ∀ c' d, runA.sl.r_5 (F := Ideal) c arg4 harg4 x1 (ix2 c' d) = ((s.K 0 c' d : ℝ) : EReal) := fun c' d => by
    unfold runA.sl.r_5
    exact (pay54_at _ c' d).trans ((ldK arg4.view _ _ _ 0 rfl c' d).trans (h4 _ _))
  have v0 : ∀ c' d, runA.sl.r_6 (F := Ideal) c arg5 harg5 x2 (ix2 c' d) = ((s.V 0 c' d : ℝ) : EReal) := fun c' d => by
    unfold runA.sl.r_6
    exact (pay55_at _ c' d).trans ((ldK arg5.view _ _ _ 0 rfl c' d).trans (h5 _ _))
  have g0 : ∀ c', runA.sl.r_7 (F := Ideal) c arg7 harg7 x4 (ix2 0 c') = ((s.fk 0 c' : ℝ) : EReal) := fun c' => by
    unfold runA.sl.r_7
    exact (pay56_at _ c').trans ((ldF arg7.view _ _ _ 0 rfl c').trans (h7 _ _))
  have k1 : ∀ c' d, runA.sl.r_8 (F := Ideal) c arg4 harg4 x1 (ix2 c' d) = ((s.K 1 c' d : ℝ) : EReal) := fun c' d => by
    unfold runA.sl.r_8
    exact (pay57_at _ c' d).trans ((ldK arg4.view _ _ _ 1 rfl c' d).trans (h4 _ _))
  have v1 : ∀ c' d, runA.sl.r_9 (F := Ideal) c arg5 harg5 x2 (ix2 c' d) = ((s.V 1 c' d : ℝ) : EReal) := fun c' d => by
    unfold runA.sl.r_9
    exact (pay58_at _ c' d).trans ((ldK arg5.view _ _ _ 1 rfl c' d).trans (h5 _ _))
  have g1 : ∀ c', runA.sl.r_10 (F := Ideal) c arg7 harg7 x4 (ix2 0 c') = ((s.fk 1 c' : ℝ) : EReal) := fun c' => by
    unfold runA.sl.r_10
    exact (pay59_at _ c').trans ((ldF arg7.view _ _ _ 1 rfl c').trans (h7 _ _))
  have hm : ∀ r c, IntOp.cmpi .sge (runA.sl.v0 (ix2 r c)) (runA.sl.v1 (ix2 r c)) = if c ≤ r then 1#1 else 0#1 := mask_val
  have s0 : ∀ r c', runA.sl.r_11 (F := Ideal) c i arg3 harg3 arg4 harg4 arg5 harg5 arg6 harg6 arg7 harg7 arg8 harg8 arg9 harg9 arg10 harg10 arg15 x0 x1 x2 x3 x4 x5 x6 x7 (ix2 r c') = ((s.sd 0 0 r c' : ℝ) : EReal) := fun r c' => by
    unfold runA.sl.r_11
    exact pay64_val _ _ hm _ _ _ _ _ _ _ _ (s.K 0) (s.V 0) (s.fk 0) (s.W 0 0) (s.Q 0 0) (s.Fq 0 0) (s.Ls 0 0) (s.Dl 0 0) k0 v0 g0 w0 q0 f0 l0 (by unfold runA.sl.v51; exact d0) r c'
  have b0 : ∀ r c', runA.sl.r_12 (F := Ideal) c i arg3 harg3 arg4 harg4 arg5 harg5 arg6 harg6 arg7 harg7 arg8 harg8 arg9 harg9 arg10 harg10 arg15 x0 x1 x2 x3 x4 x5 x6 x7 (ix2 r c') = ((s.sd 0 0 r c' : ℝ) : EReal) := fun r c' => by
    unfold runA.sl.r_12
    exact (pay65_at _ _ _ _ _ _ _ _ _ _ _).trans (pay64_val _ _ hm _ _ _ _ _ _ _ _ (s.K 0) (s.V 0) (s.fk 0) (s.W 0 0) (s.Q 0 0) (s.Fq 0 0) (s.Ls 0 0) (s.Dl 0 0) k0 v0 g0 w0 q0 f0 l0 (by unfold runA.sl.v51; exact d0) r c')
  have dv0 : ∀ d c', runA.sl.r_13 (F := Ideal) c i arg3 harg3 arg4 harg4 arg6 harg6 arg7 harg7 arg9 harg9 arg10 harg10 arg17 x0 x1 x3 x4 x6 x7 (ix2 d c') = ((0 + ∑ r, s.WT 0 0 d r * s.pd 0 0 r c' : ℝ) : EReal) := fun d c' => by
    unfold runA.sl.r_13
    exact pay66_val _ _ hm _ _ _ _ _ _ _ (s.K 0) (s.fk 0) (fun _ _ => 0) (s.Q 0 0) (s.Fq 0 0) (s.Ls 0 0) (s.WT 0 0) k0 g0 (fun d c => (pay62_at _).trans EReal.coe_zero.symm) q0 f0 l0 u0 d c'
  have dk0 : ∀ d c', runA.sl.r_14 (F := Ideal) c i arg3 harg3 arg4 harg4 arg5 harg5 arg6 harg6 arg7 harg7 arg8 harg8 arg9 harg9 arg10 harg10 arg15 arg16 x0 x1 x2 x3 x4 x5 x6 x7 (ix2 d c') = ((0 + ∑ r, s.QT 0 0 d r * s.sd 0 0 r c' : ℝ) : EReal) := fun d c' => by
    unfold runA.sl.r_14
    exact pay67_val _ _ _ (fun _ _ => 0) (s.sd 0 0) (s.QT 0 0) (fun d c => (pay61_at _).trans EReal.coe_zero.symm) b0 t0 d c'
  have df0 : ∀ c', runA.sl.r_15 (F := Ideal) c i arg3 harg3 arg4 harg4 arg5 harg5 arg6 harg6 arg7 harg7 arg8 harg8 arg9 harg9 arg10 harg10 arg15 x0 x1 x2 x3 x4 x5 x6 x7 (ix2 0 c') = ((0 - ∑ r, s.sd 0 0 r c' : ℝ) : EReal) := fun c' => by
    unfold runA.sl.r_15
    exact pay69_val _ _ (fun _ => 0) (s.sd 0 0) (fun c => (pay60_at _).trans EReal.coe_zero.symm) s0 c'
  have wt : ∀ r d, runA.sl.r_16 (F := Ideal) c i arg9 harg9 x6 (ix2 r d) = ((s.W 0 1 r d : ℝ) : EReal) := fun r d => by
    unfold runA.sl.r_16
    exact (pay70_at _ r d).trans (w1 r d)
  have lt : ∀ r n, runA.sl.r_18 (F := Ideal) c i arg10 harg10 x7 (ix2 r n) = ((s.Ls 0 1 r : ℝ) : EReal) := fun r n => by
    unfold runA.sl.r_18
    exact (pay72_at _ r n).trans (l1 r n)
  have p1 : ∀ r c', Ideal.exp (runA.sl.r_17 (F := Ideal) c i arg3 harg3 arg4 harg4 arg6 harg6 arg7 harg7 x0 x1 x3 x4 (ix2 r c') - ((s.Ls 0 1 r : ℝ) : EReal)) = ((s.pd 0 1 r c' : ℝ) : EReal) := fun r c' => by
    unfold runA.sl.r_17
    exact pay71_val _ _ hm _ _ _ _ (s.K 1) (s.Q 0 1) (s.fk 1) (s.Fq 0 1) (s.Ls 0 1) k1 g1 q1 f1 r c'
  have dv1 : ∀ d c', runA.sl.r_19 (F := Ideal) c i arg3 harg3 arg4 harg4 arg6 harg6 arg7 harg7 arg9 harg9 arg10 harg10 arg17 x0 x1 x3 x4 x6 x7 (ix2 d c') = ((0 + ∑ r, s.WT 0 1 d r * s.pd 0 1 r c' : ℝ) : EReal) := fun d c' => by
    unfold runA.sl.r_19
    exact pay76_val _ (s.Ls 0 1) (s.pd 0 1) _ p1 lt _ (fun _ _ => 0) (fun d c => (pay62_at _).trans EReal.coe_zero.symm) _ (s.WT 0 1) u1 d c'
  have dk1 : ∀ d c', runA.sl.r_20 (F := Ideal) c i arg3 harg3 arg4 harg4 arg5 harg5 arg6 harg6 arg7 harg7 arg8 harg8 arg9 harg9 arg10 harg10 arg15 arg16 x0 x1 x2 x3 x4 x5 x6 x7 (ix2 d c') = ((0 + ∑ r, s.QT 0 1 d r * s.sd 0 1 r c' : ℝ) : EReal) := fun d c' => by
    unfold runA.sl.r_20
    exact pay77_val _ (s.Ls 0 1) (s.pd 0 1) _ p1 lt _ _ (s.V 1) (s.W 0 1) v1 wt _ (s.Dl 0 1) (by unfold runA.sl.v109; exact d1) _ (fun _ _ => 0) (fun d c => (pay61_at _).trans EReal.coe_zero.symm) _ (s.QT 0 1) t1 d c'
  have df1 : ∀ c', runA.sl.r_21 (F := Ideal) c i arg3 harg3 arg4 harg4 arg5 harg5 arg6 harg6 arg7 harg7 arg8 harg8 arg9 harg9 arg10 harg10 arg15 x0 x1 x2 x3 x4 x5 x6 x7 (ix2 0 c') = ((0 - ∑ r, s.sd 0 1 r c' : ℝ) : EReal) := fun c' => by
    unfold runA.sl.r_21
    exact pay79_val _ (s.Ls 0 1) (s.pd 0 1) _ p1 lt _ _ (s.V 1) (s.W 0 1) v1 wt _ (s.Dl 0 1) (by unfold runA.sl.v109; exact d1) _ (fun _ => 0) (fun c => (pay60_at _).trans EReal.coe_zero.symm) c'
  have z11 : ∀ y, arg11.view.read (Elt Ideal) (arg11.view.writes (Elt Ideal) arg11.view.junk (runA.sl.H8_1 (F := Ideal))) y = ((0 : ℝ) : EReal) := fun y => by
    unfold runA.sl.H8_1
    exact (st_whole _ _ (by decide) _ _ _ _ _).trans ((pay17_at _).trans EReal.coe_zero.symm)
  have h11 : ∀ R h r d, arg11.view.read (Elt Ideal) (arg11.view.writes (Elt Ideal) arg11.view.junk (⟨Rect.unit (k0_off4 i) ![1, 1024, 64] (k0_off4_inb i), k0_pay78 (runA.sl.r_8 (F := Ideal) c arg4 harg4 x1) (runA.sl.r_9 (F := Ideal) c arg5 harg5 x2) (runA.sl.r_16 (F := Ideal) c i arg9 harg9 x6) (runA.sl.r_17 (F := Ideal) c i arg3 harg3 arg4 harg4 arg6 harg6 arg7 harg7 x0 x1 x3 x4) (runA.sl.r_18 (F := Ideal) c i arg10 harg10 x7) (runA.sl.v109 (F := Ideal) c i arg8 harg8 arg9 harg9 arg15 x5 x6) (runA.sl.v127 (F := Ideal) c i arg3 harg3 arg4 harg4 arg5 harg5 arg6 harg6 arg7 harg7 arg8 harg8 arg9 harg9 arg10 harg10 arg11 arg15 x0 x1 x2 x3 x4 x5 x6 x7)⟩ :: runA.sl.H8_2 (F := Ideal) c i arg3 harg3 arg4 harg4 arg5 harg5 arg6 harg6 arg7 harg7 arg8 harg8 arg9 harg9 arg10 harg10 arg11 arg15 x0 x1 x2 x3 x4 x5 x6 x7)) (ix3 0 (blk R r) (lane h d)) = (((if R = 0 then 0 + (∑ c, s.sd 0 h r c * s.K h c d) * (1 / 8) else 0) : ℝ) : EReal) := fun R h r d => by
    match R, h with
    | 1, h =>
      refine (st64_row _ _ _ _ 0 1 o4 _ _ 1 (by decide) r _).trans ?_
      unfold runA.sl.H8_2
      refine (st64_row _ _ _ _ 0 0 o1 _ _ 1 (by decide) r _).trans ?_
      exact (z11 _).trans (by rw [if_neg (by decide)])
    | 0, 0 =>
      rw [if_pos rfl]
      refine (st64_lane _ _ _ _ 0 1 o4 _ _ 0 (by decide) _ d).trans ?_
      unfold runA.sl.H8_2
      refine (st64_hit _ _ _ _ 0 0 o1 _ _ r d).trans ?_
      exact pay68_val _ _ _ (s.K 0) (s.sd 0 0) (fun _ _ => 0) k0 b0 (fun r d => (ld64 arg11.view _ (k0_off1_inb i) _ 0 0 o1 r d).trans (z11 _)) r d
    | 0, 1 =>
      rw [if_pos rfl]
      refine (st64_hit _ _ _ _ 0 1 o4 _ _ r d).trans ?_
      refine pay78_val _ (s.Ls 0 1) (s.pd 0 1) _ p1 lt _ _ (s.V 1) (s.W 0 1) v1 wt _ (s.Dl 0 1) (by unfold runA.sl.v109; exact d1) _ (s.K 1) k1 _ (fun _ _ => 0) (fun r d => ?_) r d
      unfold runA.sl.v127
      refine (ld64 arg11.view _ (k0_off4_inb i) _ 0 1 o4 r d).trans ?_
      unfold runA.sl.H8_2
      exact (st64_lane _ _ _ _ 0 0 o1 _ _ 1 (by decide) _ d).trans (z11 _)
  have L := loop_value Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (runA.sl.r_5 (F := Ideal) c arg4 harg4 x1) (runA.sl.r_6 (F := Ideal) c arg5 harg5 x2) (runA.sl.r_7 (F := Ideal) c arg7 harg7 x4) (runA.sl.r_8 (F := Ideal) c arg4 harg4 x1) (runA.sl.r_9 (F := Ideal) c arg5 harg5 x2) (runA.sl.r_10 (F := Ideal) c arg7 harg7 x4) (runA.sl.v140 i) (runA.sl.cst (F := Ideal)) (harg3.unread x0) (harg6.unread x3) (harg9.unread x6) (harg10.unread x7) (arg15.view.writes (Elt Ideal) arg15.view.junk (runA.sl.HS0_4 (F := Ideal) c arg8 harg8 arg9 harg9 x5 x6)) (arg16.view.writes (Elt Ideal) arg16.view.junk (runA.sl.HS1_2 (F := Ideal) c arg3 harg3 x0)) (arg17.view.writes (Elt Ideal) arg17.view.junk (runA.sl.HS2_2 (F := Ideal) c arg9 harg9 x6))
    s (show runA.sl.cst (F := Ideal) = _ by unfold runA.sl.cst; exact eighth_bf16) k0 v0 g0 k1 v1 g1 h3 h6 h9 h10 h15 h16 h17 hi (arg11.view.writes (Elt Ideal) arg11.view.junk (⟨Rect.unit (k0_off4 i) ![1, 1024, 64] (k0_off4_inb i), k0_pay78 (runA.sl.r_8 (F := Ideal) c arg4 harg4 x1) (runA.sl.r_9 (F := Ideal) c arg5 harg5 x2) (runA.sl.r_16 (F := Ideal) c i arg9 harg9 x6) (runA.sl.r_17 (F := Ideal) c i arg3 harg3 arg4 harg4 arg6 harg6 arg7 harg7 x0 x1 x3 x4) (runA.sl.r_18 (F := Ideal) c i arg10 harg10 x7) (runA.sl.v109 (F := Ideal) c i arg8 harg8 arg9 harg9 arg15 x5 x6) (runA.sl.v127 (F := Ideal) c i arg3 harg3 arg4 harg4 arg5 harg5 arg6 harg6 arg7 harg7 arg8 harg8 arg9 harg9 arg10 harg10 arg11 arg15 x0 x1 x2 x3 x4 x5 x6 x7)⟩ :: runA.sl.H8_2 (F := Ideal) c i arg3 harg3 arg4 harg4 arg5 harg5 arg6 harg6 arg7 harg7 arg8 harg8 arg9 harg9 arg10 harg10 arg11 arg15 x0 x1 x2 x3 x4 x5 x6 x7))
    (runA.sl.r_14 (F := Ideal) c i arg3 harg3 arg4 harg4 arg5 harg5 arg6 harg6 arg7 harg7 arg8 harg8 arg9 harg9 arg10 harg10 arg15 arg16 x0 x1 x2 x3 x4 x5 x6 x7, runA.sl.r_13 (F := Ideal) c i arg3 harg3 arg4 harg4 arg6 harg6 arg7 harg7 arg9 harg9 arg10 harg10 arg17 x0 x1 x3 x4 x6 x7, runA.sl.r_15 (F := Ideal) c i arg3 harg3 arg4 harg4 arg5 harg5 arg6 harg6 arg7 harg7 arg8 harg8 arg9 harg9 arg10 harg10 arg15 x0 x1 x2 x3 x4 x5 x6 x7, runA.sl.r_20 (F := Ideal) c i arg3 harg3 arg4 harg4 arg5 harg5 arg6 harg6 arg7 harg7 arg8 harg8 arg9 harg9 arg10 harg10 arg15 arg16 x0 x1 x2 x3 x4 x5 x6 x7, runA.sl.r_19 (F := Ideal) c i arg3 harg3 arg4 harg4 arg6 harg6 arg7 harg7 arg9 harg9 arg10 harg10 arg17 x0 x1 x3 x4 x6 x7, runA.sl.r_21 (F := Ideal) c i arg3 harg3 arg4 harg4 arg5 harg5 arg6 harg6 arg7 harg7 arg8 harg8 arg9 harg9 arg10 harg10 arg15 x0 x1 x2 x3 x4 x5 x6 x7)
    (fun h d c => 0 + ∑ r, s.QT 0 h d r * s.sd 0 h r c) (fun h d c => 0 + ∑ r, s.WT 0 h d r * s.pd 0 h r c) (fun h c => 0 - ∑ r, s.sd 0 h r c) (fun R h r d => if R = 0 then 0 + (∑ c, s.sd 0 h r c * s.K h c d) * (1 / 8) else 0)
    dk0 dv0 df0 dk1 dv1 df1 h11
  obtain ⟨⟨L1, L2, L3, L4, L5, L6⟩, M0, M1⟩ := L
  refine ⟨?_, ?_, ?_, ?_, ?_, ?_, ?_, ?_, ?_⟩
  all_goals
    unfold runA
    dsimp only
  all_goals try rw [n1, n2, st_k0_t2.eq_1]
  · intro h r d
    rw [List.nil_append, View.writes_append]
    exact (M0 h r d).trans (by rw [if_pos rfl])
  · intro h r d
    rw [List.nil_append, View.writes_append]
    exact (M1 h r d).trans (by rw [if_neg (by decide)])
  · intro h c' d
    refine (st_whole _ _ (by decide) _ _ _ _ _).trans ?_
    refine (pay15_at _ _ h c' d).trans ?_
    match h with
    | 0 => exact L1 d c'
    | 1 => exact L4 d c'
  · intro h c' d
    refine (st_whole _ _ (by decide) _ _ _ _ _).trans ?_
    refine (pay16_at _ _ h c' d).trans ?_
    match h with
    | 0 => exact L2 d c'
    | 1 => exact L5 d c'
  · intro h c'
    match h with
    | 0 =>
      refine (stF_miss _ _ _ _ 1 rfl _ _ (row 0) (by decide) c').trans ?_
      refine (stF_hit _ _ _ _ 0 rfl _ _ c').trans ?_
      exact (pay13_at _ c').trans (L3 c')
    | 1 =>
      refine (stF_hit _ _ _ _ 1 rfl _ _ c').trans ?_
      exact (pay14_at _ c').trans (L6 c')
  · intro n c' h0 h1
    refine (stF_miss _ _ _ _ 1 rfl _ _ n h1 c').trans ?_
    refine (stF_miss _ _ _ _ 0 rfl _ _ n h0 c').trans ?_
    unfold runA.sl.H11_1
    exact (st_whole _ _ (by decide) _ _ _ _ _).trans (pay53_at _)
  · exact h15
  · exact h16
  · exact h17

end Cert.KernelIdeal.Fox
-- ==== Proof.Fox.ValueB.lean ====
/- What the attention backward's body writes at the second block of keys of a pair of heads, as real arithmetic. -/
module

public import proofs.«01_k».proof.Proof.Fox.Loop
public import proofs.«01_k».proof.Proof.Fox.Cover

@[expose] public section

-- rectangles of production extents
set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 4000000 in
/-- The body at the second block of keys: the gradients it writes take up the second block of queries alone. -/
theorem runB_value (c : Dev nD) (i : grid0.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S2x2048x128 .f32) (harg6 : arg6.IsWhole) (arg7 : Memref sig .tc .vmem S1x1x8x1024 .f32) (harg7 : arg7.IsWhole) (arg8 : Memref sig .tc .vmem S1x2048x128 .f32) (harg8 : arg8.IsWhole) (arg9 : Memref sig .tc .vmem S1x2048x128 .bf16) (harg9 : arg9.IsWhole) (arg10 : Memref sig .tc .vmem S2x2048x128 .f32) (harg10 : arg10.IsWhole) (arg11 : Memref sig .tc .vmem S1x2048x128 .f32) (harg11 : arg11.IsWhole) (arg12 : Memref sig .tc .vmem S1x1024x128 .bf16) (harg12 : arg12.IsWhole) (arg13 : Memref sig .tc .vmem S1x1024x128 .bf16) (harg13 : arg13.IsWhole) (arg14 : Memref sig .tc .vmem S1x1x8x1024 .f32) (harg14 : arg14.IsWhole) (arg15 : Memref sig .tc .vmem S2x2048x128 .f32) (harg15 : arg15.IsWhole) (arg16 : Memref sig .tc .vmem S2x128x1024 .bf16) (harg16 : arg16.IsWhole) (arg17 : Memref sig .tc .vmem S2x128x1024 .bf16) (harg17 : arg17.IsWhole) (hc0 : ¬cond0_0 i)
    (x0 : Vec Ideal S1x2048x128 .bf16) (x1 : Vec Ideal S1x1024x128 .bf16) (x2 : Vec Ideal S1x1024x128 .bf16) (x3 : Vec Ideal S2x2048x128 .f32) (x4 : Vec Ideal S1x1x8x1024 .f32) (x5 : Vec Ideal S1x2048x128 .f32) (x6 : Vec Ideal S1x2048x128 .bf16) (x7 : Vec Ideal S2x2048x128 .f32) (x8 : Vec Ideal S1x2048x128 .f32) (xs0 : Vec Ideal S2x2048x128 .f32) (xs1 : Vec Ideal S2x128x1024 .bf16) (xs2 : Vec Ideal S2x128x1024 .bf16)
    (s : Slab) (hx0 : ∀ i n, x0 (ix3 0 i n) = ((s.q i n : ℝ) : EReal)) (hx1 : ∀ c n, x1 (ix3 0 c n) = ((s.k c n : ℝ) : EReal)) (hx2 : ∀ c n, x2 (ix3 0 c n) = ((s.v c n : ℝ) : EReal))
    (hx3 : ∀ h i n, x3 (ix3 h i n) = ((s.fq h i : ℝ) : EReal)) (hx4 : ∀ h c, x4 (ix4 0 0 (row h) c) = ((s.fk h c : ℝ) : EReal))
    (hx6 : ∀ i n, x6 (ix3 0 i n) = ((s.w i n : ℝ) : EReal)) (hx7 : ∀ h i n, x7 (ix3 h i n) = ((s.l h i : ℝ) : EReal))
    (hs0 : ∀ h i n, xs0 (ix3 h i n) = ((s.dl h i : ℝ) : EReal)) (hs1 : ∀ R n r, xs1 (ix3 R n r) = ((s.q (blk R r) n * (1 / 8) : ℝ) : EReal)) (hs2 : ∀ R n r, xs2 (ix3 R n r) = ((s.w (blk R r) n : ℝ) : EReal))
    (D : Fin 2 → Fin 2 → Fin 1024 → Fin 64 → ℝ) (hx8 : ∀ R h r d, x8 (ix3 0 (blk R r) (lane h d)) = ((D R h r d : ℝ) : EReal))
    (hi : (i 2).val = 1) :
    (∀ h r d, arg11.view.read (Elt Ideal) (arg11.view.writes (Elt Ideal) (harg11.unread x8) (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs1 xs2).1) (ix3 0 (blk 0 r) (lane h d)) = ((D 0 h r d : ℝ) : EReal)) ∧
    (∀ h r d, arg11.view.read (Elt Ideal) (arg11.view.writes (Elt Ideal) (harg11.unread x8) (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs1 xs2).1) (ix3 0 (blk 1 r) (lane h d)) = ((D 1 h r d + (∑ c, s.sd 1 h r c * s.K h c d) * (1 / 8) : ℝ) : EReal)) ∧
    (∀ h c' d, arg12.view.read (Elt Ideal) (arg12.view.writes (Elt Ideal) arg12.view.junk (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs1 xs2).2.1) (ix3 0 c' (lane h d)) = ((0 + ∑ r, s.QT 1 h d r * s.sd 1 h r c' : ℝ) : EReal)) ∧
    (∀ h c' d, arg13.view.read (Elt Ideal) (arg13.view.writes (Elt Ideal) arg13.view.junk (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs1 xs2).2.2.1) (ix3 0 c' (lane h d)) = ((0 + ∑ r, s.WT 1 h d r * s.pd 1 h r c' : ℝ) : EReal)) ∧
    (∀ h c', arg14.view.read (Elt Ideal) (arg14.view.writes (Elt Ideal) arg14.view.junk (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs1 xs2).2.2.2.1) (ix4 0 0 (row h) c') = ((0 - ∑ r, s.sd 1 h r c' : ℝ) : EReal)) ∧
    (∀ n c', n ≠ row 0 → n ≠ row 1 → arg14.view.read (Elt Ideal) (arg14.view.writes (Elt Ideal) arg14.view.junk (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs1 xs2).2.2.2.1) (ix4 0 0 n c') = 0) := by
  have n1 : Scf.trips (Scalar.addi (BitVec.ofNat 32 (i 2).val) 1#32) (Scalar.addi (Scalar.addi (BitVec.ofNat 32 (i 2).val) 1#32) (Scalar.muli (Scalar.divsi (Scalar.subi (2#32) (Scalar.addi (BitVec.ofNat 32 (i 2).val) 1#32)) 1#32) 1#32)) 1#32 = 0 := trips_second i hi
  have n2 : Scf.trips (Scalar.addi (Scalar.addi (BitVec.ofNat 32 (i 2).val) 1#32) (Scalar.muli (Scalar.divsi (Scalar.subi (2#32) (Scalar.addi (BitVec.ofNat 32 (i 2).val) 1#32)) 1#32) 1#32)) (Scalar.addi (Scalar.addi (BitVec.ofNat 32 (i 2).val) 1#32) (Scalar.subi (2#32) (Scalar.addi (BitVec.ofNat 32 (i 2).val) 1#32))) 1#32 = 0 := trips_rest i
  have o1 : k0_off1 i = ![0, 1024 * (1 : Fin 2).val, 64 * (0 : Fin 2).val] := by rw [k0_off1_eq, hi]; rfl
  have o2 : k0_off2 i = ![(0 : Fin 2).val, 1024 * (1 : Fin 2).val, 0] := by rw [k0_off2_eq, hi]; rfl
  have o3 : k0_off3 i = ![(1 : Fin 2).val, 64 * (0 : Fin 2).val, 0] := by rw [k0_off3_eq, hi]; rfl
  have o4 : k0_off4 i = ![0, 1024 * (1 : Fin 2).val, 64 * (1 : Fin 2).val] := by rw [k0_off4_eq, hi]; rfl
  have o5 : k0_off5 i = ![(1 : Fin 2).val, 1024 * (1 : Fin 2).val, 0] := by rw [k0_off5_eq, hi]; rfl
  have o6 : k0_off6 i = ![(1 : Fin 2).val, 64 * (1 : Fin 2).val, 0] := by rw [k0_off6_eq, hi]; rfl
  have h3 : ∀ i n, arg3.view.read (Elt Ideal) (harg3.unread x0) (ix3 0 i n) = ((s.q i n : ℝ) : EReal) := fun i n => (congrFun (harg3.read_unread x0) _).trans (hx0 i n)
  have h4 : ∀ i n, arg4.view.read (Elt Ideal) (harg4.unread x1) (ix3 0 i n) = ((s.k i n : ℝ) : EReal) := fun i n => (congrFun (harg4.read_unread x1) _).trans (hx1 i n)
  have h5 : ∀ i n, arg5.view.read (Elt Ideal) (harg5.unread x2) (ix3 0 i n) = ((s.v i n : ℝ) : EReal) := fun i n => (congrFun (harg5.read_unread x2) _).trans (hx2 i n)
  have h6 : ∀ h i n, arg6.view.read (Elt Ideal) (harg6.unread x3) (ix3 h i n) = ((s.fq h i : ℝ) : EReal) := fun h i n => (congrFun (harg6.read_unread x3) _).trans (hx3 h i n)
  have h7 : ∀ h c, arg7.view.read (Elt Ideal) (harg7.unread x4) (ix4 0 0 (row h) c) = ((s.fk h c : ℝ) : EReal) := fun h c => (congrFun (harg7.read_unread x4) _).trans (hx4 h c)
  have h9 : ∀ i n, arg9.view.read (Elt Ideal) (harg9.unread x6) (ix3 0 i n) = ((s.w i n : ℝ) : EReal) := fun i n => (congrFun (harg9.read_unread x6) _).trans (hx6 i n)
  have h10 : ∀ h i n, arg10.view.read (Elt Ideal) (harg10.unread x7) (ix3 h i n) = ((s.l h i : ℝ) : EReal) := fun h i n => (congrFun (harg10.read_unread x7) _).trans (hx7 h i n)
  have h15 : ∀ h i n, arg15.view.read (Elt Ideal) (harg15.unread xs0) (ix3 h i n) = ((s.dl h i : ℝ) : EReal) := fun h i n => (congrFun (harg15.read_unread xs0) _).trans (hs0 h i n)
  have h16 : ∀ R n r, arg16.view.read (Elt Ideal) (harg16.unread xs1) (ix3 R n r) = ((s.q (blk R r) n * (1 / 8) : ℝ) : EReal) := fun h i n => (congrFun (harg16.read_unread xs1) _).trans (hs1 h i n)
  have h17 : ∀ R n r, arg17.view.read (Elt Ideal) (harg17.unread xs2) (ix3 R n r) = ((s.w (blk R r) n : ℝ) : EReal) := fun h i n => (congrFun (harg17.read_unread xs2) _).trans (hs2 h i n)
  have h11 : ∀ R h r d, arg11.view.read (Elt Ideal) (harg11.unread x8) (ix3 0 (blk R r) (lane h d)) = ((D R h r d : ℝ) : EReal) := fun R h r d => (congrFun (harg11.read_unread x8) _).trans (hx8 R h r d)
  have q0 := fun r d => (ld64 arg3.view _ (k0_off1_inb i) (harg3.unread x0) 1 0 o1 r d).trans (h3 _ _)
  have q1 := fun r d => (ld64 arg3.view _ (k0_off4_inb i) (harg3.unread x0) 1 1 o4 r d).trans (h3 _ _)
  have w0 := fun r d => (ld64 arg9.view _ (k0_off1_inb i) (harg9.unread x6) 1 0 o1 r d).trans (h9 _ _)
  have w1 := fun r d => (ld64 arg9.view _ (k0_off4_inb i) (harg9.unread x6) 1 1 o4 r d).trans (h9 _ _)
  have f0 := fun r n => (ld128 arg6.view _ (k0_off2_inb i) (harg6.unread x3) 1 0 o2 r n).trans (h6 _ _ _)
  have f1 := fun r n => (ld128 arg6.view _ (k0_off5_inb i) (harg6.unread x3) 1 1 o5 r n).trans (h6 _ _ _)
  have l0 := fun r n => (ld128 arg10.view _ (k0_off2_inb i) (harg10.unread x7) 1 0 o2 r n).trans (h10 _ _ _)
  have l1 := fun r n => (ld128 arg10.view _ (k0_off5_inb i) (harg10.unread x7) 1 1 o5 r n).trans (h10 _ _ _)
  have d0 := fun r n => (ld128 arg15.view _ (k0_off2_inb i) (harg15.unread xs0) 1 0 o2 r n).trans (h15 _ _ _)
  have d1 := fun r n => (ld128 arg15.view _ (k0_off5_inb i) (harg15.unread xs0) 1 1 o5 r n).trans (h15 _ _ _)
  have t0 := fun d r => (ldT arg16.view _ (k0_off3_inb i) (harg16.unread xs1) 1 0 o3 d r).trans (h16 _ _ _)
  have t1 := fun d r => (ldT arg16.view _ (k0_off6_inb i) (harg16.unread xs1) 1 1 o6 d r).trans (h16 _ _ _)
  have u0 := fun d r => (ldT arg17.view _ (k0_off3_inb i) (harg17.unread xs2) 1 0 o3 d r).trans (h17 _ _ _)
  have u1 := fun d r => (ldT arg17.view _ (k0_off6_inb i) (harg17.unread xs2) 1 1 o6 d r).trans (h17 _ _ _)
  have k0 : ∀ c' d, runB.sl.r (F := Ideal) c arg4 harg4 x1 (ix2 c' d) = ((s.K 0 c' d : ℝ) : EReal) := fun c' d => by
    unfold runB.sl.r
    exact (pay54_at _ c' d).trans ((ldK arg4.view _ _ _ 0 rfl c' d).trans (h4 _ _))
  have v0 : ∀ c' d, runB.sl.r_1 (F := Ideal) c arg5 harg5 x2 (ix2 c' d) = ((s.V 0 c' d : ℝ) : EReal) := fun c' d => by
    unfold runB.sl.r_1
    exact (pay55_at _ c' d).trans ((ldK arg5.view _ _ _ 0 rfl c' d).trans (h5 _ _))
  have g0 : ∀ c', runB.sl.r_2 (F := Ideal) c arg7 harg7 x4 (ix2 0 c') = ((s.fk 0 c' : ℝ) : EReal) := fun c' => by
    unfold runB.sl.r_2
    exact (pay56_at _ c').trans ((ldF arg7.view _ _ _ 0 rfl c').trans (h7 _ _))
  have k1 : ∀ c' d, runB.sl.r_3 (F := Ideal) c arg4 harg4 x1 (ix2 c' d) = ((s.K 1 c' d : ℝ) : EReal) := fun c' d => by
    unfold runB.sl.r_3
    exact (pay57_at _ c' d).trans ((ldK arg4.view _ _ _ 1 rfl c' d).trans (h4 _ _))
  have v1 : ∀ c' d, runB.sl.r_4 (F := Ideal) c arg5 harg5 x2 (ix2 c' d) = ((s.V 1 c' d : ℝ) : EReal) := fun c' d => by
    unfold runB.sl.r_4
    exact (pay58_at _ c' d).trans ((ldK arg5.view _ _ _ 1 rfl c' d).trans (h5 _ _))
  have g1 : ∀ c', runB.sl.r_5 (F := Ideal) c arg7 harg7 x4 (ix2 0 c') = ((s.fk 1 c' : ℝ) : EReal) := fun c' => by
    unfold runB.sl.r_5
    exact (pay59_at _ c').trans ((ldF arg7.view _ _ _ 1 rfl c').trans (h7 _ _))
  have hm : ∀ r c, IntOp.cmpi .sge (runB.sl.v0 (ix2 r c)) (runB.sl.v1 (ix2 r c)) = if c ≤ r then 1#1 else 0#1 := mask_val
  have s0 : ∀ r c', runB.sl.r_6 (F := Ideal) c i arg3 harg3 arg4 harg4 arg5 harg5 arg6 harg6 arg7 harg7 arg9 harg9 arg10 harg10 arg15 harg15 x0 x1 x2 x3 x4 x6 x7 xs0 (ix2 r c') = ((s.sd 1 0 r c' : ℝ) : EReal) := fun r c' => by
    unfold runB.sl.r_6
    exact pay64_val _ _ hm _ _ _ _ _ _ _ _ (s.K 0) (s.V 0) (s.fk 0) (s.W 1 0) (s.Q 1 0) (s.Fq 1 0) (s.Ls 1 0) (s.Dl 1 0) k0 v0 g0 w0 q0 f0 l0 d0 r c'
  have b0 : ∀ r c', runB.sl.r_7 (F := Ideal) c i arg3 harg3 arg4 harg4 arg5 harg5 arg6 harg6 arg7 harg7 arg9 harg9 arg10 harg10 arg15 harg15 x0 x1 x2 x3 x4 x6 x7 xs0 (ix2 r c') = ((s.sd 1 0 r c' : ℝ) : EReal) := fun r c' => by
    unfold runB.sl.r_7
    exact (pay65_at _ _ _ _ _ _ _ _ _ _ _).trans (pay64_val _ _ hm _ _ _ _ _ _ _ _ (s.K 0) (s.V 0) (s.fk 0) (s.W 1 0) (s.Q 1 0) (s.Fq 1 0) (s.Ls 1 0) (s.Dl 1 0) k0 v0 g0 w0 q0 f0 l0 d0 r c')
  have dv0 : ∀ d c', runB.sl.r_8 (F := Ideal) c i arg3 harg3 arg4 harg4 arg6 harg6 arg7 harg7 arg10 harg10 arg17 harg17 x0 x1 x3 x4 x7 xs2 (ix2 d c') = ((0 + ∑ r, s.WT 1 0 d r * s.pd 1 0 r c' : ℝ) : EReal) := fun d c' => by
    unfold runB.sl.r_8
    exact pay66_val _ _ hm _ _ _ _ _ _ _ (s.K 0) (s.fk 0) (fun _ _ => 0) (s.Q 1 0) (s.Fq 1 0) (s.Ls 1 0) (s.WT 1 0) k0 g0 (fun d c => (pay62_at _).trans EReal.coe_zero.symm) q0 f0 l0 u0 d c'
  have dk0 : ∀ d c', runB.sl.r_9 (F := Ideal) c i arg3 harg3 arg4 harg4 arg5 harg5 arg6 harg6 arg7 harg7 arg9 harg9 arg10 harg10 arg15 harg15 arg16 harg16 x0 x1 x2 x3 x4 x6 x7 xs0 xs1 (ix2 d c') = ((0 + ∑ r, s.QT 1 0 d r * s.sd 1 0 r c' : ℝ) : EReal) := fun d c' => by
    unfold runB.sl.r_9
    exact pay67_val _ _ _ (fun _ _ => 0) (s.sd 1 0) (s.QT 1 0) (fun d c => (pay61_at _).trans EReal.coe_zero.symm) b0 t0 d c'
  have df0 : ∀ c', runB.sl.r_10 (F := Ideal) c i arg3 harg3 arg4 harg4 arg5 harg5 arg6 harg6 arg7 harg7 arg9 harg9 arg10 harg10 arg15 harg15 x0 x1 x2 x3 x4 x6 x7 xs0 (ix2 0 c') = ((0 - ∑ r, s.sd 1 0 r c' : ℝ) : EReal) := fun c' => by
    unfold runB.sl.r_10
    exact pay69_val _ _ (fun _ => 0) (s.sd 1 0) (fun c => (pay60_at _).trans EReal.coe_zero.symm) s0 c'
  have wt : ∀ r d, runB.sl.r_11 (F := Ideal) c i arg9 harg9 x6 (ix2 r d) = ((s.W 1 1 r d : ℝ) : EReal) := fun r d => by
    unfold runB.sl.r_11
    exact (pay70_at _ r d).trans (w1 r d)
  have lt : ∀ r n, runB.sl.r_13 (F := Ideal) c i arg10 harg10 x7 (ix2 r n) = ((s.Ls 1 1 r : ℝ) : EReal) := fun r n => by
    unfold runB.sl.r_13
    exact (pay72_at _ r n).trans (l1 r n)
  have p1 : ∀ r c', Ideal.exp (runB.sl.r_12 (F := Ideal) c i arg3 harg3 arg4 harg4 arg6 harg6 arg7 harg7 x0 x1 x3 x4 (ix2 r c') - ((s.Ls 1 1 r : ℝ) : EReal)) = ((s.pd 1 1 r c' : ℝ) : EReal) := fun r c' => by
    unfold runB.sl.r_12
    exact pay71_val _ _ hm _ _ _ _ (s.K 1) (s.Q 1 1) (s.fk 1) (s.Fq 1 1) (s.Ls 1 1) k1 g1 q1 f1 r c'
  have dv1 : ∀ d c', runB.sl.r_14 (F := Ideal) c i arg3 harg3 arg4 harg4 arg6 harg6 arg7 harg7 arg10 harg10 arg17 harg17 x0 x1 x3 x4 x7 xs2 (ix2 d c') = ((0 + ∑ r, s.WT 1 1 d r * s.pd 1 1 r c' : ℝ) : EReal) := fun d c' => by
    unfold runB.sl.r_14
    exact pay76_val _ (s.Ls 1 1) (s.pd 1 1) _ p1 lt _ (fun _ _ => 0) (fun d c => (pay62_at _).trans EReal.coe_zero.symm) _ (s.WT 1 1) u1 d c'
  have dk1 : ∀ d c', runB.sl.r_15 (F := Ideal) c i arg3 harg3 arg4 harg4 arg5 harg5 arg6 harg6 arg7 harg7 arg9 harg9 arg10 harg10 arg15 harg15 arg16 harg16 x0 x1 x2 x3 x4 x6 x7 xs0 xs1 (ix2 d c') = ((0 + ∑ r, s.QT 1 1 d r * s.sd 1 1 r c' : ℝ) : EReal) := fun d c' => by
    unfold runB.sl.r_15
    exact pay77_val _ (s.Ls 1 1) (s.pd 1 1) _ p1 lt _ _ (s.V 1) (s.W 1 1) v1 wt _ (s.Dl 1 1) d1 _ (fun _ _ => 0) (fun d c => (pay61_at _).trans EReal.coe_zero.symm) _ (s.QT 1 1) t1 d c'
  have df1 : ∀ c', runB.sl.r_16 (F := Ideal) c i arg3 harg3 arg4 harg4 arg5 harg5 arg6 harg6 arg7 harg7 arg9 harg9 arg10 harg10 arg15 harg15 x0 x1 x2 x3 x4 x6 x7 xs0 (ix2 0 c') = ((0 - ∑ r, s.sd 1 1 r c' : ℝ) : EReal) := fun c' => by
    unfold runB.sl.r_16
    exact pay79_val _ (s.Ls 1 1) (s.pd 1 1) _ p1 lt _ _ (s.V 1) (s.W 1 1) v1 wt _ (s.Dl 1 1) d1 _ (fun _ => 0) (fun c => (pay60_at _).trans EReal.coe_zero.symm) c'
  refine ⟨?_, ?_, ?_, ?_, ?_, ?_⟩
  all_goals
    unfold runB
    dsimp only
    rw [n1, n2, st_k0_t1.eq_1, st_k0_t2.eq_1]
  · intro h r d
    rw [List.nil_append, List.nil_append]
    refine (st64_row _ _ _ _ 1 1 o4 _ _ 0 (by decide) r _).trans ?_
    refine (st64_row _ _ _ _ 1 0 o1 _ _ 0 (by decide) r _).trans ?_
    exact h11 _ _ _ _
  · intro h r d
    rw [List.nil_append, List.nil_append]
    match h with
    | 0 =>
      refine (st64_lane _ _ _ _ 1 1 o4 _ _ 0 (by decide) _ d).trans ?_
      refine (st64_hit _ _ _ _ 1 0 o1 _ _ r d).trans ?_
      exact pay68_val _ _ _ (s.K 0) (s.sd 1 0) (D 1 0) k0 b0 (fun r d => (ld64 arg11.view _ (k0_off1_inb i) _ 1 0 o1 r d).trans (h11 _ _ _ _)) r d
    | 1 =>
      refine (st64_hit _ _ _ _ 1 1 o4 _ _ r d).trans ?_
      refine pay78_val _ (s.Ls 1 1) (s.pd 1 1) _ p1 lt _ _ (s.V 1) (s.W 1 1) v1 wt _ (s.Dl 1 1) d1 _ (s.K 1) k1 _ (D 1 1) (fun r d => ?_) r d
      unfold runB.sl.v127
      exact (ld64 arg11.view _ (k0_off4_inb i) _ 1 1 o4 r d).trans (h11 _ _ _ _)
  · intro h c' d
    refine (st_whole _ _ (by decide) _ _ _ _ _).trans ?_
    refine (pay15_at _ _ h c' d).trans ?_
    match h with
    | 0 => exact dk0 d c'
    | 1 => exact dk1 d c'
  · intro h c' d
    refine (st_whole _ _ (by decide) _ _ _ _ _).trans ?_
    refine (pay16_at _ _ h c' d).trans ?_
    match h with
    | 0 => exact dv0 d c'
    | 1 => exact dv1 d c'
  · intro h c'
    match h with
    | 0 =>
      refine (stF_miss _ _ _ _ 1 rfl _ _ (row 0) (by decide) c').trans ?_
      refine (stF_hit _ _ _ _ 0 rfl _ _ c').trans ?_
      exact (pay13_at _ c').trans (df0 c')
    | 1 =>
      refine (stF_hit _ _ _ _ 1 rfl _ _ c').trans ?_
      exact (pay14_at _ c').trans (df1 c')
  · intro n c' h0 h1
    refine (stF_miss _ _ _ _ 1 rfl _ _ n h1 c').trans ?_
    refine (stF_miss _ _ _ _ 0 rfl _ _ n h0 c').trans ?_
    unfold runB.sl.H11_1
    exact (st_whole _ _ (by decide) _ _ _ _ _).trans (pay53_at _)

end Cert.KernelIdeal.Fox
-- ==== Proof.Fox.Points.lean ====
/- What each grid point leaves, as the step's gradients. -/
module

public import proofs.«01_k».proof.Proof.Fox.Blocks
public import proofs.«01_k».proof.Proof.Fox.ValueA
public import proofs.«01_k».proof.Proof.Fox.ValueB
public import proofs.«01_k».proof.Proof.Fox.Frame

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic Idealize.SL.Sem
open Cert.ReferenceIdeal.Attn Cert.Attn

theorem coord2 (t : Fin cfg0.N) : (grid0.coords t 2).val = t.val % 2 :=
  (by decide +kernel : ∀ t : Fin grid0.N, (grid0.coords t 2).val = t.val % 2) t

variable {m : (ℓ : Loc nD τ sig) → Buf (Elt Ideal) ℓ} {c : Dev nD} {s : Step}

theorem x0_j (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (t : Fin cfg0.N) (j : Fin 2) (hj : jT t = j) (i : Fin 2048) (n : Fin 128) : (iblk m c 0 t : Vec Ideal S1x2048x128 .bf16) (ix3 0 i n) = (((slabOf s (bT t) (gT t) j).q i n : ℝ) : EReal) := by
  subst hj
  exact x0_at R t i n

theorem x1_j (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (t : Fin cfg0.N) (j : Fin 2) (hj : jT t = j) (i : Fin 1024) (n : Fin 128) : (iblk m c 1 t : Vec Ideal S1x1024x128 .bf16) (ix3 0 i n) = (((slabOf s (bT t) (gT t) j).k i n : ℝ) : EReal) := by
  subst hj
  exact x1_at R t i n

theorem x2_j (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (t : Fin cfg0.N) (j : Fin 2) (hj : jT t = j) (i : Fin 1024) (n : Fin 128) : (iblk m c 2 t : Vec Ideal S1x1024x128 .bf16) (ix3 0 i n) = (((slabOf s (bT t) (gT t) j).v i n : ℝ) : EReal) := by
  subst hj
  exact x2_at R t i n

theorem x3_j (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (t : Fin cfg0.N) (j : Fin 2) (hj : jT t = j) (e : Fin 2) (i : Fin 2048) (n : Fin 128) : (iblk m c 3 t : Vec Ideal S2x2048x128 .f32) (ix3 e i n) = (((slabOf s (bT t) (gT t) j).fq e i : ℝ) : EReal) := by
  subst hj
  exact x3_at R t e i n

theorem x4_j (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (t : Fin cfg0.N) (j : Fin 2) (hj : jT t = j) (e : Fin 2) (k : Fin 1024) : (iblk m c 4 t : Vec Ideal S1x1x8x1024 .f32) (ix4 0 0 (row e) k) = (((slabOf s (bT t) (gT t) j).fk e k : ℝ) : EReal) := by
  subst hj
  exact x4_at R t e k

theorem x6_j (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (t : Fin cfg0.N) (j : Fin 2) (hj : jT t = j) (i : Fin 2048) (n : Fin 128) : (iblk m c 6 t : Vec Ideal S1x2048x128 .bf16) (ix3 0 i n) = (((slabOf s (bT t) (gT t) j).w i n : ℝ) : EReal) := by
  subst hj
  exact x6_at R t i n

theorem x7_j (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (T : Top (m ((c.tc : Thread nD τ).loc main_arg0)) (m ((c.tc : Thread nD τ).loc main_arg1)) (m ((c.tc : Thread nD τ).loc main_arg3)) s) (t : Fin cfg0.N) (j : Fin 2) (hj : jT t = j) (e : Fin 2) (i : Fin 2048) (n : Fin 128) : (iblk m c 7 t : Vec Ideal S2x2048x128 .f32) (ix3 e i n) = (((slabOf s (bT t) (gT t) j).l e i : ℝ) : EReal) := by
  subst hj
  exact x7_at R T t e i n

set_option maxHeartbeats 1000000 in
/-- A first block of keys. -/
theorem point_A (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (T : Top (m ((c.tc : Thread nD τ).loc main_arg0)) (m ((c.tc : Thread nD τ).loc main_arg1)) (m ((c.tc : Thread nD τ).loc main_arg3)) s) (t : Fin cfg0.N) (h : t.val % 2 = 0) :
    (∀ e r d, dqA m c t h (ix3 0 (blk 0 r) (lane e d)) = ((s.dq (bT t) (hd (gT t) e) (blk 0 r) d : ℝ) : EReal)) ∧
    (∀ e r d, dqA m c t h (ix3 0 (blk 1 r) (lane e d)) = ((part s (bT t) (gT t) 0 1 e r d : ℝ) : EReal)) ∧
    (∀ e k d, dkA m c t h (ix3 0 k (lane e d)) = ((s.dk (bT t) (hd (gT t) e) (blk 0 k) d : ℝ) : EReal)) ∧
    (∀ e k d, dvA m c t h (ix3 0 k (lane e d)) = ((s.dv (bT t) (hd (gT t) e) (blk 0 k) d : ℝ) : EReal)) ∧
    (∀ e k, dfA m c t h (ix4 0 0 (row e) k) = ((s.df (bT t) (hd (gT t) e) (blk 0 k) : ℝ) : EReal)) ∧
    (∀ n k, n ≠ row 0 → n ≠ row 1 → dfA m c t h (ix4 0 0 n k) = 0) ∧
    (∀ e i n, deltaA m c t h (ix3 e i n) = (((slabOf s (bT t) (gT t) 0).dl e i : ℝ) : EReal)) ∧
    (∀ Q n r, qTA m c t h (ix3 Q n r) = (((slabOf s (bT t) (gT t) 0).q (blk Q r) n * (1 / 8) : ℝ) : EReal)) ∧
    (∀ Q n r, doTA m c t h (ix3 Q n r) = (((slabOf s (bT t) (gT t) 0).w (blk Q r) n : ℝ) : EReal)) := by
  have hj : jT t = 0 := Fin.ext h
  have V := runA_value c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h) (iblk m c 0 t) (iblk m c 1 t) (iblk m c 2 t) (iblk m c 3 t) (iblk m c 4 t) (iblk m c 5 t) (iblk m c 6 t) (iblk m c 7 t) (slabOf s (bT t) (gT t) 0)
    (x0_j R t 0 hj) (x1_j R t 0 hj) (x2_j R t 0 hj) (x3_j R t 0 hj) (x4_j R t 0 hj) (x6_j R t 0 hj) (x7_j R T t 0 hj) (outOf s (bT t) (gT t)) (x5_at R T t) (dl_at s (bT t) (gT t) 0) ((coord2 t).trans h)
  obtain ⟨a1, a2, a3, a4, a5, a6, a7, a8, a9⟩ := V
  refine ⟨?_, ?_, ?_, ?_, ?_, ?_, ?_, ?_, ?_⟩
  · intro e r d
    refine Eq.trans ?_ (congrArg Real.toEReal (dq_low s _ _ e r d))
    unfold dqA
    with_reducible exact a1 e r d
  · intro e r d
    refine Eq.trans ?_ (congrArg Real.toEReal ((zero_add _).trans (part_u s _ _ e r d)))
    unfold dqA
    with_reducible exact a2 e r d
  · intro e r d
    refine Eq.trans ?_ (congrArg Real.toEReal (dk_low s _ _ e r d))
    unfold dkA
    with_reducible exact a3 e r d
  · intro e r d
    refine Eq.trans ?_ (congrArg Real.toEReal (dv_low s _ _ e r d))
    unfold dvA
    with_reducible exact a4 e r d
  · intro e r
    refine Eq.trans ?_ (congrArg Real.toEReal (df_low s _ _ e r))
    unfold dfA
    with_reducible exact a5 e r
  · unfold dfA
    with_reducible exact a6
  · unfold deltaA
    with_reducible exact a7
  · unfold qTA
    with_reducible exact a8
  · unfold doTA
    with_reducible exact a9

theorem bT_prev (t : Fin cfg0.N) (h : ¬t.val % 2 = 0) : bT (prev t) = bT t := Fin.ext (by show (t.val - 1) / 16 = t.val / 16; omega)
theorem gT_prev (t : Fin cfg0.N) (h : ¬t.val % 2 = 0) : gT (prev t) = gT t := Fin.ext (by show (t.val - 1) / 2 % 8 = t.val / 2 % 8; omega)

/-- What the first block of keys gives the queries. -/
def firstPart (s : Step) (b : Fin 2) (g : Fin 8) (Q e : Fin 2) (r : Fin 1024) (d : Fin 64) : ℝ :=
  if Q = 0 then s.dq b (hd g e) (blk 0 r) d else part s b g 0 1 e r d
theorem firstPart_0 (s : Step) (b : Fin 2) (g : Fin 8) (e : Fin 2) (r : Fin 1024) (d : Fin 64) : firstPart s b g 0 e r d = s.dq b (hd g e) (blk 0 r) d := if_pos rfl
theorem firstPart_1 (s : Step) (b : Fin 2) (g : Fin 8) (e : Fin 2) (r : Fin 1024) (d : Fin 64) : firstPart s b g 1 e r d = part s b g 0 1 e r d := if_neg (by decide)

set_option maxHeartbeats 1000000 in
/-- A second block of keys. -/
theorem point_B (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (T : Top (m ((c.tc : Thread nD τ).loc main_arg0)) (m ((c.tc : Thread nD τ).loc main_arg1)) (m ((c.tc : Thread nD τ).loc main_arg3)) s) (t : Fin cfg0.N) (h : ¬t.val % 2 = 0) :
    (∀ e r d, dqB m c t h (ix3 0 (blk 0 r) (lane e d)) = ((s.dq (bT t) (hd (gT t) e) (blk 0 r) d : ℝ) : EReal)) ∧
    (∀ e r d, dqB m c t h (ix3 0 (blk 1 r) (lane e d)) = ((s.dq (bT t) (hd (gT t) e) (blk 1 r) d : ℝ) : EReal)) ∧
    (∀ e k d, dkB m c t h (ix3 0 k (lane e d)) = ((s.dk (bT t) (hd (gT t) e) (blk 1 k) d : ℝ) : EReal)) ∧
    (∀ e k d, dvB m c t h (ix3 0 k (lane e d)) = ((s.dv (bT t) (hd (gT t) e) (blk 1 k) d : ℝ) : EReal)) ∧
    (∀ e k, dfB m c t h (ix4 0 0 (row e) k) = ((s.df (bT t) (hd (gT t) e) (blk 1 k) : ℝ) : EReal)) ∧
    (∀ n k, n ≠ row 0 → n ≠ row 1 → dfB m c t h (ix4 0 0 n k) = 0) := by
  have h1 : t.val % 2 = 1 := by omega
  have hj : jT t = 1 := Fin.ext h1
  obtain ⟨p1, p2, -, -, -, -, p7, p8, p9⟩ := point_A R T (prev t) (prev_even h)
  rw [bT_prev t h, gT_prev t h] at p1 p2 p7 p8 p9
  have hD : ∀ Q e r d, dqA m c (prev t) (prev_even h) (ix3 0 (blk Q r) (lane e d)) = ((firstPart s (bT t) (gT t) Q e r d : ℝ) : EReal) := fun Q e r d => by
    match Q with
    | 0 => exact (p1 e r d).trans (congrArg Real.toEReal (firstPart_0 ..).symm)
    | 1 => exact (p2 e r d).trans (congrArg Real.toEReal (firstPart_1 ..).symm)
  have V := runB_value c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t)
    (dqA m c (prev t) (prev_even h)) (deltaA m c (prev t) (prev_even h)) (qTA m c (prev t) (prev_even h)) (doTA m c (prev t) (prev_even h)) (slabOf s (bT t) (gT t) 1)
    (x0_j R t 1 hj) (x1_j R t 1 hj) (x2_j R t 1 hj) (x3_j R t 1 hj) (x4_j R t 1 hj) (x6_j R t 1 hj) (x7_j R T t 1 hj) p7 p8 p9 (firstPart s (bT t) (gT t)) hD ((coord2 t).trans h1)
  obtain ⟨a1, a2, a3, a4, a5, a6⟩ := V
  refine ⟨?_, ?_, ?_, ?_, ?_, ?_⟩
  · intro e r d
    refine Eq.trans ?_ (congrArg Real.toEReal (firstPart_0 s _ _ e r d))
    unfold dqB
    with_reducible exact a1 e r d
  · intro e r d
    refine Eq.trans ?_ (congrArg Real.toEReal ((congrArg (· + _) ((firstPart_1 s _ _ e r d).trans ((part_u s _ _ e r d).symm.trans (zero_add _).symm))).trans (dq_high s _ _ e r d)))
    unfold dqB
    with_reducible exact a2 e r d
  · intro e r d
    refine Eq.trans ?_ (congrArg Real.toEReal (dk_high s _ _ e r d))
    unfold dkB
    with_reducible exact a3 e r d
  · intro e r d
    refine Eq.trans ?_ (congrArg Real.toEReal (dv_high s _ _ e r d))
    unfold dvB
    with_reducible exact a4 e r d
  · intro e r
    refine Eq.trans ?_ (congrArg Real.toEReal (df_high s _ _ e r))
    unfold dfB
    with_reducible exact a5 e r
  · unfold dfB
    with_reducible exact a6

theorem dq_at (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (T : Top (m ((c.tc : Thread nD τ).loc main_arg0)) (m ((c.tc : Thread nD τ).loc main_arg1)) (m ((c.tc : Thread nD τ).loc main_arg3)) s) (t : Fin cfg0.N) (h : ¬t.val % 2 = 0) (e : Fin 2) (i : Fin 2048) (d : Fin 64) :
    dqAt m c t (ix3 0 i (lane e d)) = ((s.dq (bT t) (hd (gT t) e) i d : ℝ) : EReal) := by
  rw [dqAt_B m c t h]
  obtain ⟨Q, r, rfl⟩ := exists_blk i
  match Q with
  | 0 => exact (point_B R T t h).1 e r d
  | 1 => exact (point_B R T t h).2.1 e r d

theorem dk_at (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (T : Top (m ((c.tc : Thread nD τ).loc main_arg0)) (m ((c.tc : Thread nD τ).loc main_arg1)) (m ((c.tc : Thread nD τ).loc main_arg3)) s) (t : Fin cfg0.N) (e : Fin 2) (k : Fin 1024) (d : Fin 64) :
    dkAt m c t (ix3 0 k (lane e d)) = ((s.dk (bT t) (hd (gT t) e) (blk (jT t) k) d : ℝ) : EReal) := by
  by_cases h : t.val % 2 = 0
  · rw [dkAt_A m c t h, show jT t = 0 from Fin.ext h]
    exact (point_A R T t h).2.2.1 e k d
  · rw [dkAt_B m c t h, show jT t = 1 from Fin.ext (show t.val % 2 = 1 by omega)]
    exact (point_B R T t h).2.2.1 e k d

theorem dv_at (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (T : Top (m ((c.tc : Thread nD τ).loc main_arg0)) (m ((c.tc : Thread nD τ).loc main_arg1)) (m ((c.tc : Thread nD τ).loc main_arg3)) s) (t : Fin cfg0.N) (e : Fin 2) (k : Fin 1024) (d : Fin 64) :
    dvAt m c t (ix3 0 k (lane e d)) = ((s.dv (bT t) (hd (gT t) e) (blk (jT t) k) d : ℝ) : EReal) := by
  by_cases h : t.val % 2 = 0
  · rw [dvAt_A m c t h, show jT t = 0 from Fin.ext h]
    exact (point_A R T t h).2.2.2.1 e k d
  · rw [dvAt_B m c t h, show jT t = 1 from Fin.ext (show t.val % 2 = 1 by omega)]
    exact (point_B R T t h).2.2.2.1 e k d

theorem df_at (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (T : Top (m ((c.tc : Thread nD τ).loc main_arg0)) (m ((c.tc : Thread nD τ).loc main_arg1)) (m ((c.tc : Thread nD τ).loc main_arg3)) s) (t : Fin cfg0.N) (e : Fin 2) (k : Fin 1024) :
    dfAt m c t (ix4 0 0 (row e) k) = ((s.df (bT t) (hd (gT t) e) (blk (jT t) k) : ℝ) : EReal) := by
  by_cases h : t.val % 2 = 0
  · rw [dfAt_A m c t h, show jT t = 0 from Fin.ext h]
    exact (point_A R T t h).2.2.2.2.1 e k
  · rw [dfAt_B m c t h, show jT t = 1 from Fin.ext (show t.val % 2 = 1 by omega)]
    exact (point_B R T t h).2.2.2.2.1 e k

theorem df_zero (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (T : Top (m ((c.tc : Thread nD τ).loc main_arg0)) (m ((c.tc : Thread nD τ).loc main_arg1)) (m ((c.tc : Thread nD τ).loc main_arg3)) s) (t : Fin cfg0.N) (n : Fin 8) (k : Fin 1024) (h0 : n ≠ row 0) (h1 : n ≠ row 1) :
    dfAt m c t (ix4 0 0 n k) = 0 := by
  by_cases h : t.val % 2 = 0
  · rw [dfAt_A m c t h]
    exact (point_A R T t h).2.2.2.2.2.1 n k h0 h1
  · rw [dfAt_B m c t h]
    exact (point_B R T t h).2.2.2.2.2 n k h0 h1

end Cert.KernelIdeal.Fox
-- ==== Proof.Fox.Final.lean ====
/- The result arrays after the run, from what each grid point leaves. -/
module

public import proofs.«01_k».proof.Proof.Fox.Points

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic Idealize.SL.Sem
open Idealize.ShloMosaic.Pipeline (Dat)
open Cert.ReferenceIdeal.Attn Cert.Attn

variable (m : (ℓ : Loc nD τ sig) → Buf (Elt Ideal) ℓ) (c : Dev nD)

theorem idx_8 : ∀ t : Fin cfg0.N, win0_8.index t 0 = t.val / 2 % 8 ∧ win0_8.index t 1 = t.val / 16 ∧ win0_8.index t 2 = 0 :=
  (by decide +kernel : ∀ t : Fin grid0.N, win0_8.index t 0 = t.val / 2 % 8 ∧ win0_8.index t 1 = t.val / 16 ∧ win0_8.index t 2 = 0)

theorem emb_8 (t : Fin cfg0.N) (i : Fin 2048) (n : Fin 128) : ((cfg0.win 8).blk t).view.emb (ix3 (0 : Fin 1) i n : S1x2048x128.Idx) = (ix3 (gT t) (tok (bT t) i) n : S8x4096x128.Idx) := by
  have hi := idx_8 t
  funext a
  apply Fin.ext
  match a with
  | ⟨0, _⟩ =>
    show win0_8.index t 0 * 1 + 1 * ((0 : Fin 1)).val = ((gT t)).val
    rw [hi.1]
    simp [tok, bg, blk, bT, gT, jT] <;> omega
  | ⟨1, _⟩ =>
    show win0_8.index t 1 * 2048 + 1 * (i).val = ((tok (bT t) i)).val
    rw [hi.2.1]
    simp [tok, bg, blk, bT, gT, jT] <;> omega
  | ⟨2, _⟩ =>
    show win0_8.index t 2 * 128 + 1 * (n).val = (n).val
    rw [hi.2.2]
    simp [tok, bg, blk, bT, gT, jT] <;> omega

theorem final_8 (G : Vec Ideal S8x4096x128 .f32) (hG : ∀ (t : Fin cfg0.N) (h : ¬t.val % 2 = 0) (i : Fin 2048) (n : Fin 128), dqAt m c t (ix3 (0 : Fin 1) i n : S1x2048x128.Idx) = G (ix3 (gT t) (tok (bT t) i) n : S8x4096x128.Idx)) :
    (dats m 0 c).arrAt 8 (cfgs 0).N = G := by
  refine (dats m 0 c).arrAt_eq_of_covers 8 G (by decide +kernel) fun t hf y => ?_
  blk_simp
  rw [after0_8]
  have hy : y = (ix3 (0 : Fin 1) (y 1) (y 2) : S1x2048x128.Idx) := by
    funext a
    match a with
    | ⟨0, _⟩ => exact Fin.ext (by have h1 : (y 0).val < 1 := (y 0).isLt; show (y 0).val = 0; omega)
    | ⟨1, _⟩ => rfl
    | ⟨2, _⟩ => rfl
  rw [hy]
  exact (hG t (fun h => by have := (flush0_8 t).mp hf; omega) (y 1) (y 2)).trans (congrArg G (emb_8 t (y 1) (y 2)).symm)

theorem idx_9 : ∀ t : Fin cfg0.N, win0_9.index t 0 = t.val / 2 % 8 ∧ win0_9.index t 1 = t.val / 16 * 2 + t.val % 2 ∧ win0_9.index t 2 = 0 :=
  (by decide +kernel : ∀ t : Fin grid0.N, win0_9.index t 0 = t.val / 2 % 8 ∧ win0_9.index t 1 = t.val / 16 * 2 + t.val % 2 ∧ win0_9.index t 2 = 0)

theorem emb_9 (t : Fin cfg0.N) (i : Fin 1024) (n : Fin 128) : ((cfg0.win 9).blk t).view.emb (ix3 (0 : Fin 1) i n : S1x1024x128.Idx) = (ix3 (gT t) (tok (bT t) (blk (jT t) i)) n : S8x4096x128.Idx) := by
  have hi := idx_9 t
  funext a
  apply Fin.ext
  match a with
  | ⟨0, _⟩ =>
    show win0_9.index t 0 * 1 + 1 * ((0 : Fin 1)).val = ((gT t)).val
    rw [hi.1]
    simp [tok, bg, blk, bT, gT, jT] <;> omega
  | ⟨1, _⟩ =>
    show win0_9.index t 1 * 1024 + 1 * (i).val = ((tok (bT t) (blk (jT t) i))).val
    rw [hi.2.1]
    simp [tok, bg, blk, bT, gT, jT] <;> omega
  | ⟨2, _⟩ =>
    show win0_9.index t 2 * 128 + 1 * (n).val = (n).val
    rw [hi.2.2]
    simp [tok, bg, blk, bT, gT, jT] <;> omega

theorem final_9 (G : Vec Ideal S8x4096x128 .bf16) (hG : ∀ (t : Fin cfg0.N) (i : Fin 1024) (n : Fin 128), dkAt m c t (ix3 (0 : Fin 1) i n : S1x1024x128.Idx) = G (ix3 (gT t) (tok (bT t) (blk (jT t) i)) n : S8x4096x128.Idx)) :
    (dats m 0 c).arrAt 9 (cfgs 0).N = G := by
  refine (dats m 0 c).arrAt_eq_of_covers 9 G (by decide +kernel) fun t hf y => ?_
  blk_simp
  rw [after0_9]
  have hy : y = (ix3 (0 : Fin 1) (y 1) (y 2) : S1x1024x128.Idx) := by
    funext a
    match a with
    | ⟨0, _⟩ => exact Fin.ext (by have h1 : (y 0).val < 1 := (y 0).isLt; show (y 0).val = 0; omega)
    | ⟨1, _⟩ => rfl
    | ⟨2, _⟩ => rfl
  rw [hy]
  exact (hG t (y 1) (y 2)).trans (congrArg G (emb_9 t (y 1) (y 2)).symm)

theorem idx_10 : ∀ t : Fin cfg0.N, win0_10.index t 0 = t.val / 2 % 8 ∧ win0_10.index t 1 = t.val / 16 * 2 + t.val % 2 ∧ win0_10.index t 2 = 0 :=
  (by decide +kernel : ∀ t : Fin grid0.N, win0_10.index t 0 = t.val / 2 % 8 ∧ win0_10.index t 1 = t.val / 16 * 2 + t.val % 2 ∧ win0_10.index t 2 = 0)

theorem emb_10 (t : Fin cfg0.N) (i : Fin 1024) (n : Fin 128) : ((cfg0.win 10).blk t).view.emb (ix3 (0 : Fin 1) i n : S1x1024x128.Idx) = (ix3 (gT t) (tok (bT t) (blk (jT t) i)) n : S8x4096x128.Idx) := by
  have hi := idx_10 t
  funext a
  apply Fin.ext
  match a with
  | ⟨0, _⟩ =>
    show win0_10.index t 0 * 1 + 1 * ((0 : Fin 1)).val = ((gT t)).val
    rw [hi.1]
    simp [tok, bg, blk, bT, gT, jT] <;> omega
  | ⟨1, _⟩ =>
    show win0_10.index t 1 * 1024 + 1 * (i).val = ((tok (bT t) (blk (jT t) i))).val
    rw [hi.2.1]
    simp [tok, bg, blk, bT, gT, jT] <;> omega
  | ⟨2, _⟩ =>
    show win0_10.index t 2 * 128 + 1 * (n).val = (n).val
    rw [hi.2.2]
    simp [tok, bg, blk, bT, gT, jT] <;> omega

theorem final_10 (G : Vec Ideal S8x4096x128 .bf16) (hG : ∀ (t : Fin cfg0.N) (i : Fin 1024) (n : Fin 128), dvAt m c t (ix3 (0 : Fin 1) i n : S1x1024x128.Idx) = G (ix3 (gT t) (tok (bT t) (blk (jT t) i)) n : S8x4096x128.Idx)) :
    (dats m 0 c).arrAt 10 (cfgs 0).N = G := by
  refine (dats m 0 c).arrAt_eq_of_covers 10 G (by decide +kernel) fun t hf y => ?_
  blk_simp
  rw [after0_10]
  have hy : y = (ix3 (0 : Fin 1) (y 1) (y 2) : S1x1024x128.Idx) := by
    funext a
    match a with
    | ⟨0, _⟩ => exact Fin.ext (by have h1 : (y 0).val < 1 := (y 0).isLt; show (y 0).val = 0; omega)
    | ⟨1, _⟩ => rfl
    | ⟨2, _⟩ => rfl
  rw [hy]
  exact (hG t (y 1) (y 2)).trans (congrArg G (emb_10 t (y 1) (y 2)).symm)

theorem idx_11 : ∀ t : Fin cfg0.N, win0_11.index t 0 = t.val / 16 * 8 + t.val / 2 % 8 ∧ win0_11.index t 1 = t.val % 2 ∧ win0_11.index t 2 = 0 ∧ win0_11.index t 3 = 0 :=
  (by decide +kernel : ∀ t : Fin grid0.N, win0_11.index t 0 = t.val / 16 * 8 + t.val / 2 % 8 ∧ win0_11.index t 1 = t.val % 2 ∧ win0_11.index t 2 = 0 ∧ win0_11.index t 3 = 0)

theorem emb_11 (t : Fin cfg0.N) (r : Fin 8) (k : Fin 1024) : ((cfg0.win 11).blk t).view.emb (ix4 (0 : Fin 1) (0 : Fin 1) r k : S1x1x8x1024.Idx) = (ix4 (bg (bT t) (gT t)) (jT t) r k : S16x2x8x1024.Idx) := by
  have hi := idx_11 t
  funext a
  apply Fin.ext
  match a with
  | ⟨0, _⟩ =>
    show win0_11.index t 0 * 1 + 1 * ((0 : Fin 1)).val = ((bg (bT t) (gT t))).val
    rw [hi.1]
    simp [tok, bg, blk, bT, gT, jT] <;> omega
  | ⟨1, _⟩ =>
    show win0_11.index t 1 * 1 + 1 * ((0 : Fin 1)).val = ((jT t)).val
    rw [hi.2.1]
    simp [tok, bg, blk, bT, gT, jT] <;> omega
  | ⟨2, _⟩ =>
    show win0_11.index t 2 * 8 + 1 * (r).val = (r).val
    rw [hi.2.2.1]
    simp [tok, bg, blk, bT, gT, jT] <;> omega
  | ⟨3, _⟩ =>
    show win0_11.index t 3 * 1024 + 1 * (k).val = (k).val
    rw [hi.2.2.2]
    simp [tok, bg, blk, bT, gT, jT] <;> omega

theorem final_11 (G : Vec Ideal S16x2x8x1024 .f32) (hG : ∀ (t : Fin cfg0.N) (r : Fin 8) (k : Fin 1024), dfAt m c t (ix4 (0 : Fin 1) (0 : Fin 1) r k : S1x1x8x1024.Idx) = G (ix4 (bg (bT t) (gT t)) (jT t) r k : S16x2x8x1024.Idx)) :
    (dats m 0 c).arrAt 11 (cfgs 0).N = G := by
  refine (dats m 0 c).arrAt_eq_of_covers 11 G (by decide +kernel) fun t hf y => ?_
  blk_simp
  rw [after0_11]
  have hy : y = (ix4 (0 : Fin 1) (0 : Fin 1) (y 2) (y 3) : S1x1x8x1024.Idx) := by
    funext a
    match a with
    | ⟨0, _⟩ => exact Fin.ext (by have h1 : (y 0).val < 1 := (y 0).isLt; show (y 0).val = 0; omega)
    | ⟨1, _⟩ => exact Fin.ext (by have h1 : (y 1).val < 1 := (y 1).isLt; show (y 1).val = 0; omega)
    | ⟨2, _⟩ => rfl
    | ⟨3, _⟩ => rfl
  rw [hy]
  exact (hG t (y 2) (y 3)).trans (congrArg G (emb_11 t (y 2) (y 3)).symm)

end Cert.KernelIdeal.Fox
-- ==== Proof.Fox.Results.lean ====
/- The four gradients the kernel leaves are the reference's, where every argument's elements are finite. -/
module

public import proofs.«01_k».proof.Defs
public import proofs.«01_k».proof.Proof.Fox.Final
public import proofs.«01_k».proof.Proof.Fox.Points
public import proofs.«01_k».proof.Proof.Fox.RefPad

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic Idealize.SL.Sem
open Cert.ReferenceIdeal.Attn Cert.Attn Cert.ReferenceIdeal.Read

/-- An extended real whose size lies below infinity is a real. -/
theorem real_of_lt (x : EReal) (h : Ideal.cmp .olt (max x (-x)) ⊤ = 1#1) : x = ((x.toReal : ℝ) : EReal) := by
  have hd : decide (max x (-x) < ⊤) = true := by
    by_contra hn
    rw [Bool.not_eq_true] at hn
    have h' : BitVec.ofBool (decide (max x (-x) < ⊤)) = 1#1 := h
    rw [hn] at h'
    exact absurd h' (by decide)
  have hl := max_lt_iff.mp (of_decide_eq_true hd)
  refine (EReal.coe_toReal hl.1.ne fun hb => ?_).symm
  rw [hb] at hl
  simp at hl

theorem inf_bf16 : Ideal.ofBits .bf16 0x7F80#16 = (⊤ : EReal) := by
  simp [Ideal.ofBits, Ideal.ieee]

theorem inf_f32 : Ideal.ofBits .f32 0x7F800000#32 = (⊤ : EReal) := by
  simp [Ideal.ofBits, Ideal.ieee]

/-- The precondition's mask of a bf16 array, at an index. -/
theorem mask_bf16 {d : Shape} (h : (⟨0, ![]⟩ : Shape).BroadcastsInDim d (![] : Fin 0 → Fin d.rank)) (x : FVec Ideal d .bf16)
    (hm : cmpf .olt (Host.absf x) (broadcastInDim d ![] h (constant (F := Ideal) (⟨0, ![]⟩ : Shape) .bf16 0x7F80#16)) = fun _ => 1#1) (i : d.Idx) :
    x i = (((x i : EReal).toReal : ℝ) : EReal) := by
  have a : Ideal.cmp .olt (max (x i) (-(x i))) (Ideal.ofBits .bf16 0x7F80#16) = 1#1 := congrFun hm i
  rw [inf_bf16] at a
  exact real_of_lt (x i) a

/-- The precondition's mask of an f32 array, at an index. -/
theorem mask_f32 {d : Shape} (h : (⟨0, ![]⟩ : Shape).BroadcastsInDim d (![] : Fin 0 → Fin d.rank)) (x : FVec Ideal d .f32)
    (hm : cmpf .olt (Host.absf x) (broadcastInDim d ![] h (constant (F := Ideal) (⟨0, ![]⟩ : Shape) .f32 0x7F800000#32)) = fun _ => 1#1) (i : d.Idx) :
    x i = (((x i : EReal).toReal : ℝ) : EReal) := by
  have a : Ideal.cmp .olt (max (x i) (-(x i))) (Ideal.ofBits .f32 0x7F800000#32) = 1#1 := congrFun hm i
  rw [inf_f32] at a
  exact real_of_lt (x i) a

/-- The step the five arrays hold, and the largest logit of each row. -/
def stepOf (x0 x1 x2 : FVec Ideal S2x2048x1024 .bf16) (x3 : FVec Ideal S2x2048x16 .f32) (x4 : FVec Ideal S2x2048x1024 .bf16) (t : Fin 2 → Fin 16 → Fin 2048 → ℝ) : Step where
  q b i n := (x0 (ix3 b i n) : EReal).toReal
  k b i n := (x1 (ix3 b i n) : EReal).toReal
  v b i n := (x2 (ix3 b i n) : EReal).toReal
  w b i n := (x4 (ix3 b i n) : EReal).toReal
  g b i n := (x3 (ix3 b i n) : EReal).toReal
  t := t

/-- Finite arrays hold a step. -/
theorem step_exists [Cert.Pre_finite.Facts] (x0 x1 x2 : FVec Ideal S2x2048x1024 .bf16) (x3 : FVec Ideal S2x2048x16 .f32) (x4 : FVec Ideal S2x2048x1024 .bf16)
    (h0 : (Cert.Pre_finite.fn (F := Ideal) x0 x1 x2 x3 x4).1 = fun _ => 1#1)
    (h1 : (Cert.Pre_finite.fn (F := Ideal) x0 x1 x2 x3 x4).2.1 = fun _ => 1#1)
    (h2 : (Cert.Pre_finite.fn (F := Ideal) x0 x1 x2 x3 x4).2.2.1 = fun _ => 1#1)
    (h3 : (Cert.Pre_finite.fn (F := Ideal) x0 x1 x2 x3 x4).2.2.2.1 = fun _ => 1#1)
    (h4 : (Cert.Pre_finite.fn (F := Ideal) x0 x1 x2 x3 x4).2.2.2.2 = fun _ => 1#1) :
    ∃ s : Step, Reads x0 x1 x2 x3 x4 s ∧ Top x0 x1 x3 s := by
  have R : ∀ t, Reads x0 x1 x2 x3 x4 (stepOf x0 x1 x2 x3 x4 t) := fun t =>
    ⟨fun b i n => mask_bf16 _ x0 h0 (ix3 b i n), fun b i n => mask_bf16 _ x1 h1 (ix3 b i n), fun b i n => mask_bf16 _ x2 h2 (ix3 b i n),
     fun b i n => mask_f32 _ x3 h3 (ix3 b i n), fun b i n => mask_bf16 _ x4 h4 (ix3 b i n)⟩
  choose t ht using v26_real (R fun _ _ _ => 0)
  exact ⟨stepOf x0 x1 x2 x3 x4 t, R t, ht⟩

variable {m : (ℓ : Loc nD τ sig) → Buf (Elt Ideal) ℓ} {c : Dev nD} {s : Step}

/-- The gradient of the queries. -/
theorem dq_eq (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (T : Top (m ((c.tc : Thread nD τ).loc main_arg0)) (m ((c.tc : Thread nD τ).loc main_arg1)) (m ((c.tc : Thread nD τ).loc main_arg3)) s) :
    ((dats m 0 c).arrAt 8 (cfgs 0).N : Vec Ideal S8x4096x128 .f32) = val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine final_8 m c _ fun t h i n => ?_
  obtain ⟨e, d, rfl⟩ := exists_lane n
  exact (dq_at R T t h e i d).trans (v96_at R T (gT t) (bT t) i e d).symm

/-- The gradient of the keys. -/
theorem dk_eq (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (T : Top (m ((c.tc : Thread nD τ).loc main_arg0)) (m ((c.tc : Thread nD τ).loc main_arg1)) (m ((c.tc : Thread nD τ).loc main_arg3)) s) :
    ((dats m 0 c).arrAt 9 (cfgs 0).N : Vec Ideal S8x4096x128 .bf16) = val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine final_9 m c _ fun t i n => ?_
  obtain ⟨e, d, rfl⟩ := exists_lane n
  exact (dk_at R T t e i d).trans (v105_at R T (gT t) (bT t) (blk (jT t) i) e d).symm

/-- The gradient of the values. -/
theorem dv_eq (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (T : Top (m ((c.tc : Thread nD τ).loc main_arg0)) (m ((c.tc : Thread nD τ).loc main_arg1)) (m ((c.tc : Thread nD τ).loc main_arg3)) s) :
    ((dats m 0 c).arrAt 10 (cfgs 0).N : Vec Ideal S8x4096x128 .bf16) = val_main_v106 (F := Ideal) (m ((c.tc : Thread nD τ).loc main_arg0)) (m ((c.tc : Thread nD τ).loc main_arg1)) (m ((c.tc : Thread nD τ).loc main_arg3)) (m ((c.tc : Thread nD τ).loc main_arg4)) := by
  refine final_10 m c _ fun t i n => ?_
  obtain ⟨e, d, rfl⟩ := exists_lane n
  exact (dv_at R T t e i d).trans (v106_at R T (gT t) (bT t) (blk (jT t) i) e d).symm

/-- The gradient of the gates, by key. -/
theorem df_eq (R : Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s) (T : Top (m ((c.tc : Thread nD τ).loc main_arg0)) (m ((c.tc : Thread nD τ).loc main_arg1)) (m ((c.tc : Thread nD τ).loc main_arg3)) s) :
    ((dats m 0 c).arrAt 11 (cfgs 0).N : Vec Ideal S16x2x8x1024 .f32) = val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine final_11 m c _ fun t n k => ?_
  by_cases h0 : n = row 0
  · subst h0
    exact (df_at R T t 0 k).trans (v104_at R T (bT t) (gT t) (jT t) 0 k).symm
  by_cases h1 : n = row 1
  · subst h1
    exact (df_at R T t 1 k).trans (v104_at R T (bT t) (gT t) (jT t) 1 k).symm
  exact (df_zero R T t n k h0 h1).trans (v104_zero (bT t) (gT t) (jT t) n k h0 h1).symm

end Cert.KernelIdeal.Fox

end
-- ==== Proof.Fox.Equal.lean ====
/- The kernel's run and the reference's leave equal gradients. -/
module

public import proofs.«01_k».proof.Defs
public import proofs.«01_k».proof.Proof.Fox.Frame
public import proofs.«01_k».proof.Proof.Fox.Results
public import proofs.«01_k».proof.Proof.Gen.ReferenceIdeal
public import proofs.«01_k».proof.Proof.Gen.ReferenceIdeal.Run
public import proofs.«01_k».proof.Proof.Gen.ReferenceIdeal.Read

@[expose] public section

set_option maxRecDepth 16384

noncomputable section

namespace Cert.KernelIdeal.Fox

open Cert.KernelIdeal Cert.KernelIdeal.Gen
open Idealize.ShloMosaic Idealize.ShloMosaic.TcCoe Idealize.SL.Sem
open Cert.ReferenceIdeal.Attn Cert.Attn Cert.ReferenceIdeal.Read

/-- The kernel's run: each result at what the grid wrote, the arguments unchanged. -/
theorem run_results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v92_0) = (dats m 0 c).arrAt 8 (cfgs 0).N
      ∧ r.2.mem ((c.tc : Thread nD τ).loc main_v92_1) = (dats m 0 c).arrAt 9 (cfgs 0).N
      ∧ r.2.mem ((c.tc : Thread nD τ).loc main_v92_2) = (dats m 0 c).arrAt 10 (cfgs 0).N
      ∧ r.2.mem ((c.tc : Thread nD τ).loc main_v92_3) = (dats m 0 c).arrAt 11 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun _ h c => ⟨(h.1 c).1 8, (h.1 c).1 9, (h.1 c).1 10, (h.1 c).1 11, h.2.1 c⟩)
    (θ_run_and (run_main m g) (frame_run m g))

theorem v96_congr {x0 y0 : FVec Ideal S2x2048x1024 .bf16} {x1 y1 : FVec Ideal S2x2048x1024 .bf16} {x2 y2 : FVec Ideal S2x2048x1024 .bf16} {x3 y3 : FVec Ideal S2x2048x16 .f32} {x4 y4 : FVec Ideal S2x2048x1024 .bf16} {r : Vec Ideal S8x4096x128 .f32} (h0 : x0 = y0) (h1 : x1 = y1) (h2 : x2 = y2) (h3 : x3 = y3) (h4 : x4 = y4) (hr : r = val_main_v96 (F := Ideal) x0 x1 x2 x3 x4) :
    r = val_main_v96 (F := Ideal) y0 y1 y2 y3 y4 := by
  subst h0; subst h1; subst h2; subst h3; subst h4; exact hr

theorem v105_congr {x0 y0 : FVec Ideal S2x2048x1024 .bf16} {x1 y1 : FVec Ideal S2x2048x1024 .bf16} {x2 y2 : FVec Ideal S2x2048x1024 .bf16} {x3 y3 : FVec Ideal S2x2048x16 .f32} {x4 y4 : FVec Ideal S2x2048x1024 .bf16} {r : Vec Ideal S8x4096x128 .bf16} (h0 : x0 = y0) (h1 : x1 = y1) (h2 : x2 = y2) (h3 : x3 = y3) (h4 : x4 = y4) (hr : r = val_main_v105 (F := Ideal) x0 x1 x2 x3 x4) :
    r = val_main_v105 (F := Ideal) y0 y1 y2 y3 y4 := by
  subst h0; subst h1; subst h2; subst h3; subst h4; exact hr

theorem v106_congr {x0 y0 : FVec Ideal S2x2048x1024 .bf16} {x1 y1 : FVec Ideal S2x2048x1024 .bf16} {x3 y3 : FVec Ideal S2x2048x16 .f32} {x4 y4 : FVec Ideal S2x2048x1024 .bf16} {r : Vec Ideal S8x4096x128 .bf16} (h0 : x0 = y0) (h1 : x1 = y1) (h3 : x3 = y3) (h4 : x4 = y4) (hr : r = val_main_v106 (F := Ideal) x0 x1 x3 x4) :
    r = val_main_v106 (F := Ideal) y0 y1 y3 y4 := by
  subst h0; subst h1; subst h3; subst h4; exact hr

theorem v104_congr {x0 y0 : FVec Ideal S2x2048x1024 .bf16} {x1 y1 : FVec Ideal S2x2048x1024 .bf16} {x2 y2 : FVec Ideal S2x2048x1024 .bf16} {x3 y3 : FVec Ideal S2x2048x16 .f32} {x4 y4 : FVec Ideal S2x2048x1024 .bf16} {r : Vec Ideal S16x2x8x1024 .f32} (h0 : x0 = y0) (h1 : x1 = y1) (h2 : x2 = y2) (h3 : x3 = y3) (h4 : x4 = y4) (hr : r = val_main_v104 (F := Ideal) x0 x1 x2 x3 x4) :
    r = val_main_v104 (F := Ideal) y0 y1 y2 y3 y4 := by
  subst h0; subst h1; subst h2; subst h3; subst h4; exact hr

set_option maxHeartbeats 1000000 in
/-- The claim of equality. -/
theorem algebraic : Cert.algebraic_KernelIdeal_ReferenceIdeal_pre_finite (hKernelIdeal := Cert.KernelIdeal.Gen.facts) (hReferenceIdeal := Cert.ReferenceIdeal.Gen.facts) (hPre_finite := ⟨by decide, by decide⟩) := by
  intro m g m' g' hPre hagree
  refine ⟨fun c => Cert.ReferenceIdeal.Value.res_main_v96 m' c, fun c => Cert.ReferenceIdeal.Value.res_main_v105 m' c, fun c => Cert.ReferenceIdeal.Value.res_main_v106 m' c, fun c => Cert.ReferenceIdeal.Value.res_main_v104 m' c, ?_, Cert.ReferenceIdeal.Value.run m' g'⟩
  refine (θ_run (defs (F := Ideal)) _ _).mono (fun r h c => ?_) (run_results m g)
  have hP := hPre c
  obtain ⟨s, R, T⟩ := @step_exists ⟨by decide, by decide⟩ _ _ _ _ _ hP.1 hP.2.1 hP.2.2.1 hP.2.2.2.1 hP.2.2.2.2
  obtain ⟨a0, a1, a2, a3, a4⟩ := hagree c
  obtain ⟨h0, h1, h2, h3, h4⟩ := h c
  refine ⟨h0.trans ?_, h1.trans ?_, h2.trans ?_, h3.trans ?_, h4⟩
  · exact (dq_eq R T).trans (v96_congr a0 a1 a2 a3 a4 (val_main_v96_eq (F := Ideal) m' c)).symm
  · exact (dk_eq R T).trans (v105_congr a0 a1 a2 a3 a4 (val_main_v105_eq (F := Ideal) m' c)).symm
  · exact (dv_eq R T).trans (v106_congr a0 a1 a3 a4 (val_main_v106_eq (F := Ideal) m' c)).symm
  · exact (df_eq R T).trans (v104_congr a0 a1 a2 a3 a4 (val_main_v104_eq (F := Ideal) m' c)).symm

end Cert.KernelIdeal.Fox

end
-- ==== Proof.Ffn.V2.lean ====
/- The gradient of the feed-forward network's input: two products, added. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import Idealize.ShloMosaic.Lib.Pipeline.ValueKit
public import Idealize.ShloMosaic.Lib.StableHlo.Run
public import Idealize.ShloMosaic.Adequacy
public import Idealize.ShloMosaic.Init

@[expose] public section

set_option maxRecDepth 16384

noncomputable section

namespace Cert.Kernel2Ideal.Ffn

open Cert.Kernel2Ideal Cert.Kernel2Ideal.Gen Cert.Reference2Ideal.Read
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ)

/-- Where each window's block lies at a grid point. -/
theorem places : ∀ t : Fin cfg0.N, win0_0.index t = ![t.val / 4, 0] ∧ win0_1.index t = ![0, t.val % 4] ∧ win0_2.index t = ![t.val / 4, 0]
    ∧ win0_3.index t = ![0, t.val % 4] ∧ win0_4.index t = ![t.val / 4, t.val % 4] :=
  (by decide +kernel : ∀ t : Fin grid0.N, _)

/-- The reference's gradient at an index, the gate's part first. -/
theorem whole_at (da db : FVec Ideal S4096x2816 .bf16) (wg wu : FVec Ideal S1024x2816 .bf16) (j : S4096x1024.Idx) :
    val_main_v9 (F := Ideal) da db wg wu j = (∑ k : Fin 2816, da (ix2 (j 0) k) * wg (ix2 (j 1) k)) + ∑ k : Fin 2816, db (ix2 (j 0) k) * wu (ix2 (j 1) k) := by
  rw [add_comm]
  pointwise [val_main_v9, val_main_v8, val_main_v7, val_main_v6, val_main_v5, val_main_v4, val_main_v3, val_main_v2, val_main_v1, val_main_v0]

/-- A grid point's tile is the reference's sum of products there. -/
theorem tile (c : Dev nD) (t : Fin cfg0.N) (y) :
    k0_pay1 (iblk m c 0 t) (iblk m c 1 t) (iblk m c 2 t) (iblk m c 3 t) y = val_main_v9 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  rw [whole_at]
  pointwise [k0_pay1]
  blk_point [iblk, V, places t]

/-- The result is the reference's gradient. -/
theorem gradient (c : Dev nD) : (dats m 0 c).arrAt 4 (cfgs 0).N = val_main_v9 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  exact tile m c t y

/-- The reference runs, and leaves its arguments as they were. -/
theorem frame_reference : Cert.quiescent_Reference2Ideal (hReference2Ideal := Cert.Reference2Ideal.Gen.facts) := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)

/-- The claim of equality. -/
theorem algebraic : Cert.algebraic_Kernel2Ideal_Reference2Ideal (hKernel2Ideal := Cert.Kernel2Ideal.Gen.facts) (hReference2Ideal := Cert.Reference2Ideal.Gen.facts) := by
  intro m g m' g' _ hagree
  refine ⟨fun c => val_main_v9 (F := Ideal) (m ((c.tc : Thread nD τ).loc main_arg0)) (m ((c.tc : Thread nD τ).loc main_arg1)) (m ((c.tc : Thread nD τ).loc main_arg2)) (m ((c.tc : Thread nD τ).loc main_arg3)), ?_, ?_⟩
  · exact (θ_run (defs (F := Ideal)) _ _).mono (fun _ h c => ⟨((h.1 c).1 4).trans (gradient m c), h.2.1 c⟩) (θ_run_and (run_main m g) (frame m g))
  · refine (θ_run (Cert.Reference2Ideal.defs (F := Ideal)) _ _).mono (fun r h c => ?_) (Cert.Reference2Ideal.Value.run (F := Ideal) m' g')
    obtain ⟨a0, a1, a2, a3⟩ := hagree c
    obtain ⟨h0, hr⟩ := h c
    refine ⟨h0.trans ?_, hr⟩
    · exact (val_main_v9_eq (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3))).trans (by rw [a0, a1, a2, a3])

end Cert.Kernel2Ideal.Ffn

end
-- ==== Proof.Ffn.V3.lean ====
/- The gradient of a weight of the feed-forward network: a product over the tokens, added block by block. -/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import Idealize.ShloMosaic.Lib.Pipeline.ValueKit
public import Idealize.ShloMosaic.Lib.StableHlo.Run
public import Idealize.ShloMosaic.Adequacy
public import Idealize.ShloMosaic.Init

@[expose] public section

set_option maxRecDepth 16384

noncomputable section

namespace Cert.Kernel3Ideal.Ffn

open Cert.Kernel3Ideal Cert.Kernel3Ideal.Gen Cert.Reference3Ideal.Read
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ)

/-- Where each window's block lies at a grid point. -/
theorem places : ∀ t : Fin cfg0.N, win0_0.index t = ![t.val % 4, t.val / 4] ∧ win0_1.index t = ![t.val % 4, 0] ∧ win0_2.index t = ![t.val / 4, 0] :=
  (by decide +kernel : ∀ t : Fin grid0.N, _)

/-- What a block of tokens adds to the gradient. -/
def part (h : FVec Ideal S1024x1408 .bf16) (d : FVec Ideal S1024x1024 .bf16) (j : S1408x1024.Idx) : EReal :=
  ∑ k : Fin 1024, h (ix2 k (j 0)) * d (ix2 k (j 1))

/-- The accumulator starts at zero. -/
theorem start_at (j : S1408x1024.Idx) : k0_pay1 (F := Ideal) j = 0 := by pointwise [k0_pay1]

/-- A block of tokens adds its product to the accumulator. -/
theorem step_at (d : FVec Ideal S1024x1024 .bf16) (acc : FVec Ideal S1408x1024 .f32) (h : FVec Ideal S1024x1408 .bf16) (j : S1408x1024.Idx) :
    k0_pay2 (F := Ideal) d acc h j = acc j + part h d j := by
  unfold part
  pointwise [k0_pay2]

/-- The reference's gradient, at an index. -/
theorem whole_at (h : FVec Ideal S4096x2816 .bf16) (d : FVec Ideal S4096x1024 .bf16) (j : S2816x1024.Idx) :
    val_main_v6 (F := Ideal) h d j = ∑ l : Fin 4096, h (ix2 l (j 0)) * d (ix2 l (j 1)) := by
  pointwise [val_main_v6, val_main_v5, val_main_v4, val_main_v3, val_main_v1]
  exact Finset.sum_congr rfl fun l _ => mul_comm _ _

/-- The last block of tokens writes the accumulator out. -/
theorem last_at (c : Dev nD) (t : Fin cfg0.N) (h : t.val % 4 = 3) (j : S1408x1024.Idx) :
    (outsAt0 m c t.val t.isLt).1 j = (outsAt0 m c t.val t.isLt).2 j := by
  rw [outsAt0_C m c t (by omega) h]
  frame_out
  pointwise [k0_pay3]

/-- The accumulator at a first block of tokens. -/
theorem first_acc (c : Dev nD) (t : Fin cfg0.N) (h : t.val % 4 = 0) (j : S1408x1024.Idx) :
    (outsAt0 m c t.val t.isLt).2 j = 0 + part (iblk m c 0 t) (iblk m c 1 t) j := by
  rw [outsAt0_A m c t h (by omega)]
  frame_out
  rw [step_at, start_at]

/-- The accumulator at a later block of tokens. -/
theorem later_acc (c : Dev nD) (t : Fin cfg0.N) (h : ¬t.val % 4 = 0) (j : S1408x1024.Idx) :
    (outsAt0 m c t.val t.isLt).2 j = (outsAt0 m c (t.val - 1) (Nat.lt_of_le_of_lt (Nat.sub_le _ _) t.isLt)).2 j
      + part (iblk m c 0 t) (iblk m c 1 t) j := by
  by_cases h3 : t.val % 4 = 3
  · rw [outsAt0_C m c t h h3]
    frame_out
    rw [step_at]
    exact congrArg (· + part (iblk m c 0 t) (iblk m c 1 t) j) (congrFun ((Memref.isWhole_whole cc0_scratch0).read_unread _) j)
  · rw [outsAt0_B m c t h h3]
    frame_out
    rw [step_at]
    exact congrArg (· + part (iblk m c 0 t) (iblk m c 1 t) j) (congrFun ((Memref.isWhole_whole cc0_scratch0).read_unread _) j)

/-- The result is the reference's gradient. -/
theorem gradient (c : Dev nD) : (dats m 0 c).arrAt 2 (cfgs 0).N = val_main_v6 (F := Ideal) (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  rw [after0_2]
  refine (last_at m c t h3 _).trans ?_
  rw [Pipeline.eq_sum_fin_of_reset_step_apply_of_flush (fun n h => (outsAt0 m c n h).2) 4 (fun _ => 0)
    (fun p j => part (iblk m c 0 p) (iblk m c 1 p) j)
    (first_acc m c) (later_acc m c) t h3 _, zero_add, whole_at]
  unfold part
  refine Fin.sum_mul_add_congr fun s k hl => ?_
  blk_point [iblk, V, places t, places ⟨_, Pipeline.run_point_lt_of_flush t h3 s⟩]

/-- The reference runs, and leaves its arguments as they were. -/
theorem frame_reference : Cert.quiescent_Reference3Ideal (hReference3Ideal := Cert.Reference3Ideal.Gen.facts) := fun m g _ =>
  (θ_run Cert.Reference3Ideal.defs _ _).mono (fun r h => ⟨fun c => (h c).2, Idealize.ShloMosaic.sem_eq_zero_of_no_sems (by decide) r.2⟩)
    (Cert.Reference3Ideal.Value.run (F := Ideal) m g)

/-- The claim of equality. -/
theorem algebraic : Cert.algebraic_Kernel3Ideal_Reference3Ideal (hKernel3Ideal := Cert.Kernel3Ideal.Gen.facts) (hReference3Ideal := Cert.Reference3Ideal.Gen.facts) := by
  intro m g m' g' _ hagree
  refine ⟨fun c => val_main_v6 (F := Ideal) (m ((c.tc : Thread nD τ).loc main_arg0)) (m ((c.tc : Thread nD τ).loc main_arg1)), ?_, ?_⟩
  · exact (θ_run (defs (F := Ideal)) _ _).mono (fun _ h c => ⟨((h.1 c).1 2).trans (gradient m c), h.2.1 c⟩) (θ_run_and (run_main m g) (frame m g))
  · refine (θ_run (Cert.Reference3Ideal.defs (F := Ideal)) _ _).mono (fun r h c => ?_) (Cert.Reference3Ideal.Value.run (F := Ideal) m' g')
    obtain ⟨a0, a1⟩ := hagree c
    obtain ⟨h0, hr⟩ := h c
    refine ⟨h0.trans ?_, hr⟩
    · exact (val_main_v6_eq (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))).trans (by rw [a0, a1])

end Cert.Kernel3Ideal.Ffn

end
-- ==== Proof.Ffn.V4.lean ====
/- The backward of the gated unit: the two gradients of the products the unit was made from. -/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import Idealize.ShloMosaic.Lib.Pipeline.ValueKit
public import Idealize.ShloMosaic.Lib.StableHlo.Run
public import Idealize.ShloMosaic.Adequacy
public import Idealize.ShloMosaic.Init
public import proofs.«01_k».proof.Proof.Fox.Results

@[expose] public section

set_option maxRecDepth 16384

noncomputable section

namespace Cert.Kernel4Ideal.Ffn

open Cert.Kernel4Ideal Cert.Kernel4Ideal.Gen Cert.Reference4Ideal.Read
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ)

/-- Where each window's block lies at a grid point. -/
theorem places : ∀ t : Fin cfg0.N, win0_0.index t = ![t.val / 2, 0] ∧ win0_1.index t = ![t.val % 2, 0] ∧ win0_2.index t = ![t.val / 2, t.val % 2]
    ∧ win0_3.index t = ![t.val / 2, t.val % 2] ∧ win0_4.index t = ![t.val / 2, t.val % 2] ∧ win0_5.index t = ![t.val / 2, t.val % 2] :=
  (by decide +kernel : ∀ t : Fin grid0.N, _)

/-- The kernel's gradient of the gate product at an index: `g` is the cotangent of the unit there. -/
def gateK (g a b : EReal) : EReal := g * b * (Ideal.logistic a * (1 + a * (1 - Ideal.logistic a)))

/-- The reference's. -/
def gateR (g a b : EReal) : EReal := g * b * Ideal.logistic a + a * (g * b) * (Ideal.logistic a * (1 - Ideal.logistic a))

/-- A block of the cotangent of the unit, at an index. -/
theorem cot_block (dy : FVec Ideal S1024x1024 .bf16) (w : FVec Ideal S1408x1024 .bf16) (y : S1024x1408.Idx) :
    k0_pay1 (F := Ideal) dy w y = ∑ k : Fin 1024, dy (ix2 (y 0) k) * w (ix2 (y 1) k) := by pointwise [k0_pay1]

/-- A block of the gate product's gradient. -/
theorem gate_block (dy : FVec Ideal S1024x1024 .bf16) (w : FVec Ideal S1408x1024 .bf16) (a b : FVec Ideal S1024x1408 .bf16) (y : S1024x1408.Idx) :
    k0_pay4 (F := Ideal) dy w a b y = gateK (k0_pay1 (F := Ideal) dy w y) (a y) (b y) := by
  unfold gateK
  rw [cot_block]
  pointwise [k0_pay4, k0_pay1, k0_pay2, k0_pay3]

/-- A block of the up product's gradient. -/
theorem up_block (dy : FVec Ideal S1024x1024 .bf16) (w : FVec Ideal S1408x1024 .bf16) (a : FVec Ideal S1024x1408 .bf16) (y : S1024x1408.Idx) :
    k0_pay5 (F := Ideal) dy w a y = k0_pay1 (F := Ideal) dy w y * (a y * Ideal.logistic (a y)) := by
  rw [cot_block]
  pointwise [k0_pay5, k0_pay1, k0_pay2, k0_pay3]

/-- The reference's sigmoid. -/
theorem sig_at (u : FVec Ideal S4096x1024 .bf16) (wg : FVec Ideal S1024x2816 .bf16) (y : S4096x2816.Idx) :
    val_main_v5_2 (F := Ideal) u wg y = Ideal.logistic (val_main_v2 (F := Ideal) u wg y) := by
  pointwise [val_main_v5_2, val_main_call0_v4, val_main_call0_v3, val_main_call0_v2, val_main_call0_v1, val_main_call0_v0, val_main_call0_cst, val_main_call0_cst_0]
  rfl

/-- The reference's gradient of the gate product. -/
theorem gate_at (dy u : FVec Ideal S4096x1024 .bf16) (wg wu : FVec Ideal S1024x2816 .bf16) (w : FVec Ideal S2816x1024 .bf16) (y : S4096x2816.Idx) :
    val_main_v14 (F := Ideal) dy u wg wu w y = gateR (val_main_v10 (F := Ideal) dy w y) (val_main_v2 (F := Ideal) u wg y) (val_main_v4 (F := Ideal) u wu y) := by
  unfold gateR
  rw [← sig_at]
  pointwise [val_main_v14, val_main_v13, val_main_call1_v2, val_main_call1_v1, val_main_call1_v0, val_main_v12, val_main_v5_1, val_main_call0_v7, val_main_call0_v6, val_main_call0_cst_1]

/-- The reference's gradient of the up product. -/
theorem up_at (dy u : FVec Ideal S4096x1024 .bf16) (wg : FVec Ideal S1024x2816 .bf16) (w : FVec Ideal S2816x1024 .bf16) (y : S4096x2816.Idx) :
    val_main_v15 (F := Ideal) dy u wg w y = val_main_v10 (F := Ideal) dy w y * (val_main_v2 (F := Ideal) u wg y * Ideal.logistic (val_main_v2 (F := Ideal) u wg y)) := by
  rw [← sig_at, mul_comm]
  pointwise [val_main_v15, val_main_v11, val_main_v5_0]

/-- A block of the cotangent of the unit is the reference's there. -/
theorem cot_tile (c : Dev nD) (t : Fin cfg0.N) (y) :
    k0_pay1 (F := Ideal) (iblk m c 0 t) (iblk m c 1 t) y = val_main_v10 (F := Ideal) (m ((c : Thread nD τ).loc main_arg0)) (m ((c : Thread nD τ).loc main_arg4)) (((cfg0.win 4).blk t).view.emb y) := by
  pointwise [k0_pay1, val_main_v10, val_main_v9, val_main_v7]
  blk_point [iblk, V, places t]

/-- The gate product made on the host is the reference's. -/
theorem V_gate (c : Dev nD) : V m c main_v3 = val_main_v2 (F := Ideal) (m ((c : Thread nD τ).loc main_arg1)) (m ((c : Thread nD τ).loc main_arg2)) := by
  simp only [V, hostOps0, List.flatten_cons, List.flatten_nil, List.append_nil, List.cons_append, List.nil_append]
  entry_read
  rfl

/-- The up product made on the host is the reference's. -/
theorem V_up (c : Dev nD) : V m c main_v6 = val_main_v4 (F := Ideal) (m ((c : Thread nD τ).loc main_arg1)) (m ((c : Thread nD τ).loc main_arg3)) := by
  simp only [V, hostOps0, List.flatten_cons, List.flatten_nil, List.append_nil, List.cons_append, List.nil_append]
  entry_read
  rfl

/-- The inputs' blocks lie where the results' do. -/
theorem read_place (t : Fin cfg0.N) (y : S1024x1408.Idx) : ((cfg0.win 2).blk t).view.emb y = ((cfg0.win 4).blk t).view.emb y ∧ ((cfg0.win 3).blk t).view.emb y = ((cfg0.win 4).blk t).view.emb y := by
  constructor <;> blk_ext [places t]

/-- The gate product the kernel reads is the reference's. -/
theorem gate_read (c : Dev nD) (t : Fin cfg0.N) (y) :
    (iblk m c 2 t : FVec Ideal S1024x1408 .bf16) y = val_main_v2 (F := Ideal) (m ((c : Thread nD τ).loc main_arg1)) (m ((c : Thread nD τ).loc main_arg2)) (((cfg0.win 4).blk t).view.emb y) := by
  refine (congrFun (V_gate m c) (((cfg0.win 2).blk t).view.emb y)).trans ?_
  rw [(read_place t y).1]

/-- The up product the kernel reads is the reference's. -/
theorem up_read (c : Dev nD) (t : Fin cfg0.N) (y) :
    (iblk m c 3 t : FVec Ideal S1024x1408 .bf16) y = val_main_v4 (F := Ideal) (m ((c : Thread nD τ).loc main_arg1)) (m ((c : Thread nD τ).loc main_arg3)) (((cfg0.win 4).blk t).view.emb y) := by
  refine (congrFun (V_up m c) (((cfg0.win 3).blk t).view.emb y)).trans ?_
  rw [(read_place t y).2]

/-- The two results' blocks lie at the same place. -/
theorem same_place (t : Fin cfg0.N) (y : S1024x1408.Idx) : ((cfg0.win 5).blk t).view.emb y = ((cfg0.win 4).blk t).view.emb y := by
  blk_ext [places t]

/-- The up product's gradient is the reference's. -/
theorem up (c : Dev nD) : (dats m 0 c).arrAt 5 (cfgs 0).N = val_main_v15 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 5 _ (by decide +kernel) fun t hf y => ?_
  blk_simp
  rw [after0_5]
  frame_out
  refine (up_block _ _ _ y).trans (Eq.trans ?_ (up_at _ _ _ _ _).symm)
  rw [cot_tile m c t y, gate_read m c t y, same_place t y]

/-- The gate product's gradient is the kernel's formula at the reference's products. -/
theorem gate (c : Dev nD) : (dats m 0 c).arrAt 4 (cfgs 0).N = fun j => gateK (val_main_v10 (F := Ideal) (m ((c : Thread nD τ).loc main_arg0)) (m ((c : Thread nD τ).loc main_arg4)) j) (val_main_v2 (F := Ideal) (m ((c : Thread nD τ).loc main_arg1)) (m ((c : Thread nD τ).loc main_arg2)) j) (val_main_v4 (F := Ideal) (m ((c : Thread nD τ).loc main_arg1)) (m ((c : Thread nD τ).loc main_arg3)) j) := by
  refine (dats m 0 c).arrAt_eq_of_covers 4 _ (by decide +kernel) fun t hf y => ?_
  blk_simp
  rw [after0_4]
  frame_out
  refine (gate_block _ _ _ _ y).trans ?_
  rw [cot_tile m c t y, gate_read m c t y, up_read m c t y]

/-- The logistic function of a real is real. -/
theorem logistic_real (a : ℝ) : ∃ s : ℝ, Ideal.logistic (a : EReal) = s := ⟨_, Ideal.logistic_coe a⟩

/-- Of real values the two formulas agree. -/
theorem gate_formula (g a b : ℝ) : gateK g a b = gateR g a b := by
  obtain ⟨s, hs⟩ := logistic_real a
  unfold gateK gateR
  rw [hs, ← EReal.coe_one]
  simp only [← EReal.coe_mul, ← EReal.coe_sub, ← EReal.coe_add]
  rw [EReal.coe_eq_coe_iff]
  ring

/-- A sum of products of reals is real. -/
theorem sum_real {n : ℕ} (f g : Fin n → EReal) (hf : ∀ k, f k = (((f k).toReal : ℝ) : EReal)) (hg : ∀ k, g k = (((g k).toReal : ℝ) : EReal)) :
    ∃ r : ℝ, ∑ k, f k * g k = r := by
  refine ⟨∑ k, (f k).toReal * (g k).toReal, ?_⟩
  rw [← Cert.KernelIdeal.Fox.coe_sum]
  refine Finset.sum_congr rfl fun k _ => ?_
  rw [EReal.coe_mul, ← hf, ← hg]

/-- The reference's cotangent of the unit, at an index. -/
theorem cot_at (dy : FVec Ideal S4096x1024 .bf16) (w : FVec Ideal S2816x1024 .bf16) (y : S4096x2816.Idx) :
    val_main_v10 (F := Ideal) dy w y = ∑ k : Fin 1024, dy (ix2 (y 0) k) * w (ix2 (y 1) k) := by
  pointwise [val_main_v10, val_main_v9, val_main_v7]

/-- The reference's gate product, at an index. -/
theorem gate_prod_at (u : FVec Ideal S4096x1024 .bf16) (wg : FVec Ideal S1024x2816 .bf16) (y : S4096x2816.Idx) :
    val_main_v2 (F := Ideal) u wg y = ∑ k : Fin 1024, u (ix2 (y 0) k) * wg (ix2 k (y 1)) := by
  pointwise [val_main_v2, val_main_v1, val_main_v0]

/-- The reference's up product, at an index. -/
theorem up_prod_at (u : FVec Ideal S4096x1024 .bf16) (wu : FVec Ideal S1024x2816 .bf16) (y : S4096x2816.Idx) :
    val_main_v4 (F := Ideal) u wu y = ∑ k : Fin 1024, u (ix2 (y 0) k) * wu (ix2 k (y 1)) := by
  pointwise [val_main_v4, val_main_v3, val_main_v0]

/-- Of finite inputs the kernel's formula is the reference's gradient. -/
theorem gate_equal [Cert.Pre_finite4.Facts] (dy u : FVec Ideal S4096x1024 .bf16) (wg wu : FVec Ideal S1024x2816 .bf16) (w : FVec Ideal S2816x1024 .bf16)
    (h0 : (Cert.Pre_finite4.fn (F := Ideal) dy u wg wu w).1 = fun _ => 1#1) (h1 : (Cert.Pre_finite4.fn (F := Ideal) dy u wg wu w).2.1 = fun _ => 1#1)
    (h2 : (Cert.Pre_finite4.fn (F := Ideal) dy u wg wu w).2.2.1 = fun _ => 1#1) (h3 : (Cert.Pre_finite4.fn (F := Ideal) dy u wg wu w).2.2.2.1 = fun _ => 1#1)
    (h4 : (Cert.Pre_finite4.fn (F := Ideal) dy u wg wu w).2.2.2.2 = fun _ => 1#1) (y : S4096x2816.Idx) :
    gateK (val_main_v10 (F := Ideal) dy w y) (val_main_v2 (F := Ideal) u wg y) (val_main_v4 (F := Ideal) u wu y) = val_main_v14 (F := Ideal) dy u wg wu w y := by
  have r0 := Cert.KernelIdeal.Fox.mask_bf16 Cert.Pre_finite4.Facts.bcast_S_S4096x1024 dy h0
  have r1 := Cert.KernelIdeal.Fox.mask_bf16 Cert.Pre_finite4.Facts.bcast_S_S4096x1024 u h1
  have r2 := Cert.KernelIdeal.Fox.mask_bf16 Cert.Pre_finite4.Facts.bcast_S_S1024x2816 wg h2
  have r3 := Cert.KernelIdeal.Fox.mask_bf16 Cert.Pre_finite4.Facts.bcast_S_S1024x2816 wu h3
  have r4 := Cert.KernelIdeal.Fox.mask_bf16 Cert.Pre_finite4.Facts.bcast_S_S2816x1024 w h4
  obtain ⟨g, hg⟩ := sum_real (fun k : Fin 1024 => dy (ix2 (y 0) k)) (fun k => w (ix2 (y 1) k)) (fun k => r0 _) (fun k => r4 _)
  obtain ⟨a, ha⟩ := sum_real (fun k : Fin 1024 => u (ix2 (y 0) k)) (fun k => wg (ix2 k (y 1))) (fun k => r1 _) (fun k => r2 _)
  obtain ⟨b, hb⟩ := sum_real (fun k : Fin 1024 => u (ix2 (y 0) k)) (fun k => wu (ix2 k (y 1))) (fun k => r1 _) (fun k => r3 _)
  rw [gate_at, (cot_at dy w y).trans hg, (gate_prod_at u wg y).trans ha, (up_prod_at u wu y).trans hb]
  exact gate_formula g a b

/-- The reference runs, and leaves its arguments as they were. -/
theorem frame_reference : Cert.quiescent_Reference4Ideal (hReference4Ideal := Cert.Reference4Ideal.Gen.facts) := fun m g _ =>
  (θ_run Cert.Reference4Ideal.defs _ _).mono (fun r h => ⟨fun c => (h c).2.2, Idealize.ShloMosaic.sem_eq_zero_of_no_sems (by decide) r.2⟩)
    (Cert.Reference4Ideal.Value.run (F := Ideal) m g)

/-- The shape facts the precondition's function states. -/
theorem facts_finite4 : Cert.Pre_finite4.Facts := ⟨by decide, by decide, by decide⟩

/-- The claim of equality. -/
theorem algebraic : Cert.algebraic_Kernel4Ideal_Reference4Ideal_pre_finite4 (hKernel4Ideal := Cert.Kernel4Ideal.Gen.facts) (hReference4Ideal := Cert.Reference4Ideal.Gen.facts) (hPre_finite4 := facts_finite4) := by
  intro m g m' g' hPre hagree
  refine ⟨fun c => val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)), fun c => val_main_v15 (F := Ideal) (m ((c : Thread nD τ).loc main_arg0)) (m ((c : Thread nD τ).loc main_arg1)) (m ((c : Thread nD τ).loc main_arg2)) (m ((c : Thread nD τ).loc main_arg4)), ?_, ?_⟩
  · refine (θ_run (defs (F := Ideal)) _ _).mono (fun _ h c => ⟨(((h.1 c).1 4).trans (gate m c)).trans ?_, ((h.1 c).1 5).trans (up m c), h.2.1 c⟩) (θ_run_and (run_main m g) (frame m g))
    have hP := hPre c
    exact funext fun y => @gate_equal facts_finite4 _ _ _ _ _ hP.1 hP.2.1 hP.2.2.1 hP.2.2.2.1 hP.2.2.2.2 y
  · refine (θ_run (Cert.Reference4Ideal.defs (F := Ideal)) _ _).mono (fun r h c => ?_) (Cert.Reference4Ideal.Value.run (F := Ideal) m' g')
    obtain ⟨a0, a1, a2, a3, a4⟩ := hagree c
    obtain ⟨h0, h1, hr⟩ := h c
    refine ⟨h0.trans ?_, h1.trans ?_, hr⟩
    · exact (val_main_v14_eq (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))).trans (by rw [a0, a1, a2, a3, a4])
    · exact (val_main_v15_eq (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg4))).trans (by rw [a0, a1, a2, a4])

end Cert.Kernel4Ideal.Ffn

end
-- ==== Proof.Ffn.V5.lean ====
/- The feed-forward network's first half: the gate and up products, and the gated unit of the two. -/
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import Idealize.ShloMosaic.Lib.Pipeline.ValueKit
public import Idealize.ShloMosaic.Lib.StableHlo.Run
public import Idealize.ShloMosaic.Adequacy
public import Idealize.ShloMosaic.Init

@[expose] public section

set_option maxRecDepth 16384

noncomputable section

namespace Cert.Kernel5Ideal.Ffn

open Cert.Kernel5Ideal Cert.Kernel5Ideal.Gen Cert.Reference5Ideal.Read
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ)

/-- Where each window's block lies at a grid point. -/
theorem places : ∀ t : Fin cfg0.N, win0_0.index t = ![t.val / 2, 0] ∧ win0_1.index t = ![t.val % 2, 0] ∧ win0_2.index t = ![t.val % 2, 0]
    ∧ win0_3.index t = ![t.val / 2, t.val % 2] ∧ win0_4.index t = ![t.val / 2, t.val % 2] ∧ win0_5.index t = ![t.val / 2, t.val % 2] :=
  (by decide +kernel : ∀ t : Fin grid0.N, _)

/-- A block of the gate product, at an index. -/
theorem gate_block (u : FVec Ideal S1024x1024 .bf16) (wg : FVec Ideal S1408x1024 .bf16) (y : S1024x1408.Idx) :
    k0_pay3 (F := Ideal) u wg y = ∑ k : Fin 1024, u (ix2 (y 0) k) * wg (ix2 (y 1) k) := by pointwise [k0_pay3, k0_pay1]

/-- A block of the up product, at an index. -/
theorem up_block (u : FVec Ideal S1024x1024 .bf16) (wu : FVec Ideal S1408x1024 .bf16) (y : S1024x1408.Idx) :
    k0_pay4 (F := Ideal) u wu y = ∑ k : Fin 1024, u (ix2 (y 0) k) * wu (ix2 (y 1) k) := by pointwise [k0_pay4, k0_pay2]

/-- A block of the gated unit is `a σ(a) b` of the two products' blocks. -/
theorem unit_block (u : FVec Ideal S1024x1024 .bf16) (wg wu : FVec Ideal S1408x1024 .bf16) (y : S1024x1408.Idx) :
    k0_pay5 (F := Ideal) u wg wu y = k0_pay3 (F := Ideal) u wg y * Ideal.logistic (k0_pay3 (F := Ideal) u wg y) * k0_pay4 (F := Ideal) u wu y := by
  rw [gate_block, up_block]
  pointwise [k0_pay5, k0_pay1, k0_pay2]

/-- The reference's gated unit is `a σ(a) b` of its two products. -/
theorem unit_at (u : FVec Ideal S4096x1024 .bf16) (wg wu : FVec Ideal S1024x2816 .bf16) (y : S4096x2816.Idx) :
    val_main_v9 (F := Ideal) u wg wu y = val_main_v5 (F := Ideal) u wg y * Ideal.logistic (val_main_v5 (F := Ideal) u wg y) * val_main_v6 (F := Ideal) u wu y := by
  pointwise [val_main_v9, val_main_v8, val_main_v7, val_main_v6, val_main_v5, val_main_call0_v5, val_main_call0_v4, val_main_call0_v3, val_main_call0_v2, val_main_call0_v1, val_main_call0_v0, val_main_call0_cst, val_main_call0_cst_0]
  rfl

/-- A block of the gate product is the reference's there. -/
theorem gate_tile (c : Dev nD) (t : Fin cfg0.N) (y) :
    k0_pay3 (F := Ideal) (iblk m c 0 t) (iblk m c 1 t) y = val_main_v5 (F := Ideal) (m ((c : Thread nD τ).loc main_arg0)) (m ((c : Thread nD τ).loc main_arg1)) (((cfg0.win 3).blk t).view.emb y) := by
  pointwise [k0_pay3, k0_pay1, val_main_v5, val_main_v2, val_main_v1, val_main_v0]
  blk_point [iblk, V, places t]

/-- A block of the up product is the reference's there. -/
theorem up_tile (c : Dev nD) (t : Fin cfg0.N) (y) :
    k0_pay4 (F := Ideal) (iblk m c 0 t) (iblk m c 2 t) y = val_main_v6 (F := Ideal) (m ((c : Thread nD τ).loc main_arg0)) (m ((c : Thread nD τ).loc main_arg2)) (((cfg0.win 4).blk t).view.emb y) := by
  pointwise [k0_pay4, k0_pay2, val_main_v6, val_main_v4, val_main_v3, val_main_v0]
  blk_point [iblk, V, places t]

/-- The three results' blocks lie at the same place. -/
theorem same_place (t : Fin cfg0.N) (y : S1024x1408.Idx) : ((cfg0.win 5).blk t).view.emb y = ((cfg0.win 3).blk t).view.emb y ∧ ((cfg0.win 5).blk t).view.emb y = ((cfg0.win 4).blk t).view.emb y := by
  constructor <;> blk_ext [places t]

/-- The gate product is the reference's. -/
theorem gate (c : Dev nD) : (dats m 0 c).arrAt 3 (cfgs 0).N = val_main_v5 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  frame_out
  exact gate_tile m c t y

/-- The up product is the reference's. -/
theorem up (c : Dev nD) : (dats m 0 c).arrAt 4 (cfgs 0).N = val_main_v6 (F := Ideal) (m ((c : Thread nD τ).loc main_arg0)) (m ((c : Thread nD τ).loc main_arg2)) := by
  refine (dats m 0 c).arrAt_eq_of_covers 4 _ (by decide +kernel) fun t hf y => ?_
  blk_simp
  rw [after0_4]
  frame_out
  exact up_tile m c t y

/-- The gated unit is the reference's. -/
theorem unit (c : Dev nD) : (dats m 0 c).arrAt 5 (cfgs 0).N = val_main_v9 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine (unit_block _ _ _ y).trans (Eq.trans ?_ (unit_at _ _ _ _).symm)
  rw [gate_tile m c t y, up_tile m c t y, ← (same_place t y).1, ← (same_place t y).2]

/-- The reference runs, and leaves its arguments as they were. -/
theorem frame_reference : Cert.quiescent_Reference5Ideal (hReference5Ideal := Cert.Reference5Ideal.Gen.facts) := fun m g _ =>
  (θ_run Cert.Reference5Ideal.defs _ _).mono (fun r h => ⟨fun c => (h c).2.2.2, Idealize.ShloMosaic.sem_eq_zero_of_no_sems (by decide) r.2⟩)
    (Cert.Reference5Ideal.Value.run (F := Ideal) m g)

/-- The claim of equality. -/
theorem algebraic : Cert.algebraic_Kernel5Ideal_Reference5Ideal (hKernel5Ideal := Cert.Kernel5Ideal.Gen.facts) (hReference5Ideal := Cert.Reference5Ideal.Gen.facts) := by
  intro m g m' g' _ hagree
  refine ⟨fun c => val_main_v5 (F := Ideal) (m ((c.tc : Thread nD τ).loc main_arg0)) (m ((c.tc : Thread nD τ).loc main_arg1)), fun c => val_main_v6 (F := Ideal) (m ((c.tc : Thread nD τ).loc main_arg0)) (m ((c.tc : Thread nD τ).loc main_arg2)), fun c => val_main_v9 (F := Ideal) (m ((c.tc : Thread nD τ).loc main_arg0)) (m ((c.tc : Thread nD τ).loc main_arg1)) (m ((c.tc : Thread nD τ).loc main_arg2)), ?_, ?_⟩
  · exact (θ_run (defs (F := Ideal)) _ _).mono (fun _ h c => ⟨((h.1 c).1 3).trans (gate m c), ((h.1 c).1 4).trans (up m c), ((h.1 c).1 5).trans (unit m c), h.2.1 c⟩) (θ_run_and (run_main m g) (frame m g))
  · refine (θ_run (Cert.Reference5Ideal.defs (F := Ideal)) _ _).mono (fun r h c => ?_) (Cert.Reference5Ideal.Value.run (F := Ideal) m' g')
    obtain ⟨a0, a1, a2⟩ := hagree c
    obtain ⟨h0, h1, h2, hr⟩ := h c
    refine ⟨h0.trans ?_, h1.trans ?_, h2.trans ?_, hr⟩
    · exact (val_main_v5_eq (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))).trans (by rw [a0, a1])
    · exact (val_main_v6_eq (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg2))).trans (by rw [a0, a2])
    · exact (val_main_v9_eq (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))).trans (by rw [a0, a1, a2])

end Cert.Kernel5Ideal.Ffn

end
-- ==== Proof.Ffn.V6.lean ====
/- The forward product of the feed-forward network's hidden values with its second matrix. -/
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import Idealize.ShloMosaic.Lib.Pipeline.ValueKit
public import Idealize.ShloMosaic.Lib.StableHlo.Run
public import Idealize.ShloMosaic.Adequacy
public import Idealize.ShloMosaic.Init

@[expose] public section

set_option maxRecDepth 16384

noncomputable section

namespace Cert.Kernel6Ideal.Ffn

open Cert.Kernel6Ideal Cert.Kernel6Ideal.Gen Cert.Reference6Ideal.Read
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ)

/-- Where each window's block lies at a grid point. -/
theorem places : ∀ t : Fin cfg0.N, win0_0.index t = ![t.val / 4, 0] ∧ win0_1.index t = ![0, t.val % 4] ∧ win0_2.index t = ![t.val / 4, t.val % 4] :=
  (by decide +kernel : ∀ t : Fin grid0.N, _)

/-- A grid point's tile is the reference's product there. -/
theorem tile (c : Dev nD) (t : Fin cfg0.N) (y) :
    k0_pay1 (iblk m c 0 t) (iblk m c 1 t) y = val_main_v2 (F := Ideal) (m ((c : Thread nD τ).loc main_arg0)) (m ((c : Thread nD τ).loc main_arg1)) (((cfg0.win 2).blk t).view.emb y) := by
  pointwise [k0_pay1, val_main_v2, val_main_v1, val_main_v0]
  blk_point [iblk, V, places t]

/-- The result is the reference's product. -/
theorem product (c : Dev nD) : (dats m 0 c).arrAt 2 (cfgs 0).N = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  exact tile m c t y

/-- The reference runs, and leaves its arguments as they were. -/
theorem frame_reference : Cert.quiescent_Reference6Ideal (hReference6Ideal := Cert.Reference6Ideal.Gen.facts) := fun m g _ =>
  (θ_run Cert.Reference6Ideal.defs _ _).mono (fun r h => ⟨fun c => (h c).2, Idealize.ShloMosaic.sem_eq_zero_of_no_sems (by decide) r.2⟩)
    (Cert.Reference6Ideal.Value.run (F := Ideal) m g)

/-- The claim of equality. -/
theorem algebraic : Cert.algebraic_Kernel6Ideal_Reference6Ideal (hKernel6Ideal := Cert.Kernel6Ideal.Gen.facts) (hReference6Ideal := Cert.Reference6Ideal.Gen.facts) := by
  intro m g m' g' _ hagree
  refine ⟨fun c => val_main_v2 (F := Ideal) (m ((c.tc : Thread nD τ).loc main_arg0)) (m ((c.tc : Thread nD τ).loc main_arg1)), ?_, ?_⟩
  · exact (θ_run (defs (F := Ideal)) _ _).mono (fun _ h c => ⟨((h.1 c).1 2).trans (product m c), h.2.1 c⟩) (θ_run_and (run_main m g) (frame m g))
  · refine (θ_run (Cert.Reference6Ideal.defs (F := Ideal)) _ _).mono (fun r h c => ?_) (Cert.Reference6Ideal.Value.run (F := Ideal) m' g')
    obtain ⟨a0, a1⟩ := hagree c
    obtain ⟨h0, hr⟩ := h c
    refine ⟨h0.trans ?_, hr⟩
    · exact (val_main_v2_eq (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1))).trans (by rw [a0, a1])

end Cert.Kernel6Ideal.Ffn

end
-- ==== Proof.Mix.V7.lean ====
/- An attention's output product: the slabs of heads side by side times the output matrix. -/
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import Idealize.ShloMosaic.Lib.Pipeline.ValueKit
public import Idealize.ShloMosaic.Lib.StableHlo.Run
public import Idealize.ShloMosaic.Adequacy
public import Idealize.ShloMosaic.Init

@[expose] public section

set_option maxRecDepth 16384

noncomputable section

namespace Cert.Kernel7Ideal.Mix

open Cert.Kernel7Ideal Cert.Kernel7Ideal.Gen Cert.Reference7Ideal.Read
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ)

/-- Where each window's block lies at a grid point. -/
theorem places : ∀ t : Fin cfg0.N, win0_0.index t = ![0, t.val, 0] ∧ win0_1.index t = ![0, 0] ∧ win0_2.index t = ![t.val, 0] :=
  (by decide +kernel : ∀ t : Fin grid0.N, _)

/-- A grid point's block is the reference's there. -/
theorem tile (c : Dev nD) (t : Fin cfg0.N) (y) :
    out0_2 (iblk m c 0 t) (iblk m c 1 t) y = val_main_v4 (F := Ideal) (m ((c : Thread nD τ).loc main_arg0)) (m ((c : Thread nD τ).loc main_arg1)) (((cfg0.win 2).blk t).view.emb y) := by
  frame_out
  pointwise [k0_pay1, val_main_v4, val_main_v3, val_main_v2, val_main_v1, val_main_v0]
  blk_point [iblk, V, places t]

/-- The result is the reference's. -/
theorem product (c : Dev nD) : (dats m 0 c).arrAt 2 (cfgs 0).N = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact tile m c t y

/-- The reference runs, and leaves its arguments as they were. -/
theorem frame_reference : Cert.quiescent_Reference7Ideal (hReference7Ideal := Cert.Reference7Ideal.Gen.facts) := fun m g _ =>
  (θ_run Cert.Reference7Ideal.defs _ _).mono (fun r h => ⟨fun c => (h c).2, Idealize.ShloMosaic.sem_eq_zero_of_no_sems (by decide) r.2⟩)
    (Cert.Reference7Ideal.Value.run (F := Ideal) m g)

/-- The claim of equality. -/
theorem algebraic : Cert.algebraic_Kernel7Ideal_Reference7Ideal (hKernel7Ideal := Cert.Kernel7Ideal.Gen.facts) (hReference7Ideal := Cert.Reference7Ideal.Gen.facts) := by
  intro m g m' g' _ hagree
  refine ⟨fun c => val_main_v4 (F := Ideal) (m ((c.tc : Thread nD τ).loc main_arg0)) (m ((c.tc : Thread nD τ).loc main_arg1)), ?_, ?_⟩
  · exact (θ_run (defs (F := Ideal)) _ _).mono (fun _ h c => ⟨((h.1 c).1 2).trans (product m c), h.2.1 c⟩) (θ_run_and (run_main m g) (frame m g))
  · refine (θ_run (Cert.Reference7Ideal.defs (F := Ideal)) _ _).mono (fun r h c => ?_) (Cert.Reference7Ideal.Value.run (F := Ideal) m' g')
    obtain ⟨a0, a1⟩ := hagree c
    obtain ⟨h0, hr⟩ := h c
    refine ⟨h0.trans ?_, hr⟩
    · exact (val_main_v4_eq (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1))).trans (by rw [a0, a1])

end Cert.Kernel7Ideal.Mix

end
-- ==== Proof.Mix.V8.lean ====
/- The gradient of an attention's output: the product with the transposed output matrix, stored a slab of heads at a time. -/
module

public import proofs.«01_k».proof.Defs
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import Idealize.ShloMosaic.Lib.Pipeline.ValueKit
public import Idealize.ShloMosaic.Lib.StableHlo.Run
public import Idealize.ShloMosaic.Adequacy
public import Idealize.ShloMosaic.Init

@[expose] public section

set_option maxRecDepth 16384

noncomputable section

namespace Cert.Kernel8Ideal.Mix

open Cert.Kernel8Ideal Cert.Kernel8Ideal.Gen Cert.Reference8Ideal.Read
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ)

/-- Where each window's block lies at a grid point. -/
theorem places : ∀ t : Fin cfg0.N, win0_0.index t = ![t.val, 0] ∧ win0_1.index t = ![0, 0] ∧ win0_2.index t = ![0, t.val, 0] :=
  (by decide +kernel : ∀ t : Fin grid0.N, _)

/-- A grid point's block is the reference's slabs there. -/
theorem tile (c : Dev nD) (t : Fin cfg0.N) (y) :
    out0_2 (iblk m c 0 t) (iblk m c 1 t) y = val_main_v7 (F := Ideal) (m ((c : Thread nD τ).loc main_arg0)) (m ((c : Thread nD τ).loc main_arg1)) (((cfg0.win 2).blk t).view.emb y) := by
  canon_tiles x h
  all_goals
    pointwise [k0_pay1, k0_pay2, k0_pay3, k0_pay4, k0_pay5, k0_pay6, k0_pay7, k0_pay8, k0_pay9, k0_pay10, k0_pay11, val_main_v7, val_main_v6, val_main_v5, val_main_v4, val_main_v3, val_main_v1]
    blk_point [iblk, V, places t]

/-- The result is the reference's. -/
theorem product (c : Dev nD) : (dats m 0 c).arrAt 2 (cfgs 0).N = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact tile m c t y

/-- The reference runs, and leaves its arguments as they were. -/
theorem frame_reference : Cert.quiescent_Reference8Ideal (hReference8Ideal := Cert.Reference8Ideal.Gen.facts) := fun m g _ =>
  (θ_run Cert.Reference8Ideal.defs _ _).mono (fun r h => ⟨fun c => (h c).2, Idealize.ShloMosaic.sem_eq_zero_of_no_sems (by decide) r.2⟩)
    (Cert.Reference8Ideal.Value.run (F := Ideal) m g)

/-- The claim of equality. -/
theorem algebraic : Cert.algebraic_Kernel8Ideal_Reference8Ideal (hKernel8Ideal := Cert.Kernel8Ideal.Gen.facts) (hReference8Ideal := Cert.Reference8Ideal.Gen.facts) := by
  intro m g m' g' _ hagree
  refine ⟨fun c => val_main_v7 (F := Ideal) (m ((c.tc : Thread nD τ).loc main_arg0)) (m ((c.tc : Thread nD τ).loc main_arg1)), ?_, ?_⟩
  · exact (θ_run (defs (F := Ideal)) _ _).mono (fun _ h c => ⟨((h.1 c).1 2).trans (product m c), h.2.1 c⟩) (θ_run_and (run_main m g) (frame m g))
  · refine (θ_run (Cert.Reference8Ideal.defs (F := Ideal)) _ _).mono (fun r h c => ?_) (Cert.Reference8Ideal.Value.run (F := Ideal) m' g')
    obtain ⟨a0, a1⟩ := hagree c
    obtain ⟨h0, hr⟩ := h c
    refine ⟨h0.trans ?_, hr⟩
    · exact (val_main_v7_eq (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1))).trans (by rw [a0, a1])

end Cert.Kernel8Ideal.Mix

end
-- ==== Proof.Mix.V9.lean ====
/- The gradient of an attention's weight: the slabs of heads against the other array, a product over the tokens, added block by block. -/
module

public import proofs.«01_k».proof.Defs
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import Idealize.ShloMosaic.Lib.Pipeline.ValueKit
public import Idealize.ShloMosaic.Lib.StableHlo.Run
public import Idealize.ShloMosaic.Adequacy
public import Idealize.ShloMosaic.Init
public import Idealize.ShloMosaic.Lib.Pipeline.ReadBack

@[expose] public section

set_option maxRecDepth 16384

noncomputable section

namespace Cert.Kernel9Ideal.Mix

open Cert.Kernel9Ideal Cert.Kernel9Ideal.Gen Cert.Reference9Ideal.Read
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ)

/-- Where each window's block lies at a grid point. -/
theorem places : ∀ t : Fin cfg0.N, win0_0.index t = ![0, t.val % 4, 0] ∧ win0_1.index t = ![t.val % 4, 0] ∧ win0_2.index t = ![0, 0] :=
  (by decide +kernel : ∀ t : Fin grid0.N, _)

/-- What a block of tokens adds to the gradient: the slabs of heads against the other array. -/
def part (h : FVec Ideal S8x1024x128 .bf16) (d : FVec Ideal S1024x1024 .bf16) (j : S1024x1024.Idx) : EReal :=
  ∑ k : Fin 1024, h (ix3 ⟨(j 0).val / 128, Nat.div_lt_of_lt_mul (j 0).isLt⟩ k ⟨(j 0).val % 128, Nat.mod_lt _ (by decide)⟩) * d (ix2 k (j 1))

/-- The accumulator starts at zero. -/
theorem start_at (j : S1024x1024.Idx) : k0_pay4 (F := Ideal) j = 0 := by pointwise [k0_pay4]

/-- The accumulator is written out as it is. -/
theorem out_at (X : FVec Ideal S1024x1024 .f32) (j : S1024x1024.Idx) : k0_pay3 (F := Ideal) X j = X j := by pointwise [k0_pay3]

/-- What a block of tokens stores into the accumulator, a slab of heads at a time, last first. -/
abbrev stored (d : FVec Ideal S1024x1024 .bf16) (X : FVec Ideal S1024x1024 .f32) (h : FVec Ideal S8x1024x128 .bf16) : List (View.Piece (Elt Ideal) S1024x1024 .f32) :=
  [⟨Rect.unit (s := S1024x1024) ![896, 0] S128x1024.size inb_S1024x1024_S128x1024_896_0, k0_pay2 (F := Ideal) d (View.ld X (Rect.unit (s := S1024x1024) ![896, 0] S128x1024.size inb_S1024x1024_S128x1024_896_0)) (View.ld h (Rect.unit (s := S8x1024x128) ![7, 0, 0] S1x1024x128.size inb_S8x1024x128_S1x1024x128_7_0_0))⟩,
    ⟨Rect.unit (s := S1024x1024) ![768, 0] S128x1024.size inb_S1024x1024_S128x1024_768_0, k0_pay1 (F := Ideal) d (View.ld X (Rect.unit (s := S1024x1024) ![768, 0] S128x1024.size inb_S1024x1024_S128x1024_768_0)) (View.ld h (Rect.unit (s := S8x1024x128) ![6, 0, 0] S1x1024x128.size inb_S8x1024x128_S1x1024x128_6_0_0))⟩,
    ⟨Rect.unit (s := S1024x1024) ![640, 0] S128x1024.size inb_S1024x1024_S128x1024_640_0, k0_pay11 (F := Ideal) d (View.ld X (Rect.unit (s := S1024x1024) ![640, 0] S128x1024.size inb_S1024x1024_S128x1024_640_0)) (View.ld h (Rect.unit (s := S8x1024x128) ![5, 0, 0] S1x1024x128.size inb_S8x1024x128_S1x1024x128_5_0_0))⟩,
    ⟨Rect.unit (s := S1024x1024) ![512, 0] S128x1024.size inb_S1024x1024_S128x1024_512_0, k0_pay10 (F := Ideal) d (View.ld X (Rect.unit (s := S1024x1024) ![512, 0] S128x1024.size inb_S1024x1024_S128x1024_512_0)) (View.ld h (Rect.unit (s := S8x1024x128) ![4, 0, 0] S1x1024x128.size inb_S8x1024x128_S1x1024x128_4_0_0))⟩,
    ⟨Rect.unit (s := S1024x1024) ![384, 0] S128x1024.size inb_S1024x1024_S128x1024_384_0, k0_pay9 (F := Ideal) d (View.ld X (Rect.unit (s := S1024x1024) ![384, 0] S128x1024.size inb_S1024x1024_S128x1024_384_0)) (View.ld h (Rect.unit (s := S8x1024x128) ![3, 0, 0] S1x1024x128.size inb_S8x1024x128_S1x1024x128_3_0_0))⟩,
    ⟨Rect.unit (s := S1024x1024) ![256, 0] S128x1024.size inb_S1024x1024_S128x1024_256_0, k0_pay8 (F := Ideal) (k0_pay7 (F := Ideal) d (View.ld X (Rect.unit (s := S1024x1024) ![256, 0] S128x1024.size inb_S1024x1024_S128x1024_256_0)) (View.ld h (Rect.unit (s := S8x1024x128) ![2, 0, 0] S1x1024x128.size inb_S8x1024x128_S1x1024x128_2_0_0)))⟩,
    ⟨Rect.unit (s := S1024x1024) ![128, 0] S128x1024.size inb_S1024x1024_S128x1024_128_0, k0_pay6 (F := Ideal) d (View.ld X (Rect.unit (s := S1024x1024) ![128, 0] S128x1024.size inb_S1024x1024_S128x1024_128_0)) (View.ld h (Rect.unit (s := S8x1024x128) ![1, 0, 0] S1x1024x128.size inb_S8x1024x128_S1x1024x128_1_0_0))⟩,
    ⟨Rect.unit (s := S1024x1024) ![0, 0] S128x1024.size inb_S1024x1024_S128x1024_0_0, k0_pay5 (F := Ideal) d (View.ld X (Rect.unit (s := S1024x1024) ![0, 0] S128x1024.size inb_S1024x1024_S128x1024_0_0)) (View.ld h (Rect.unit (s := S8x1024x128) ![0, 0, 0] S1x1024x128.size inb_S8x1024x128_S1x1024x128_0_0_0))⟩]

/-- Each of the stores adds its slab's product. -/
theorem stored_at (d : FVec Ideal S1024x1024 .bf16) (X : FVec Ideal S1024x1024 .f32) (h : FVec Ideal S8x1024x128 .bf16) :
    View.PiecesOf (fun j => X j + part h d j) (stored d X h) := by
  refine ⟨?_, ?_, ?_, ?_, ?_, ?_, ?_, ?_, trivial⟩
  all_goals
    intro x
    change S128x1024.Idx at x
    unfold part
    pointwise [k0_pay1, k0_pay2, k0_pay3, k0_pay4, k0_pay5, k0_pay6, k0_pay7, k0_pay8, k0_pay9, k0_pay10, k0_pay11]
    blk_point []

/-- They fill the accumulator. -/
theorem stored_cover (d : FVec Ideal S1024x1024 .bf16) (X : FVec Ideal S1024x1024 .f32) (h : FVec Ideal S8x1024x128 .bf16) (y : S1024x1024.Idx) :
    ∃ p ∈ stored d X h, y ∈ p.1.set := View.cover_of_tiled_head _ _ _ (by rfl) y

/-- A block of tokens adds its product to the accumulator. -/
theorem step_at (d : FVec Ideal S1024x1024 .bf16) (X : FVec Ideal S1024x1024 .f32) (h : FVec Ideal S8x1024x128 .bf16) (j : S1024x1024.Idx) :
    View.canon (stored d X h) j = X j + part h d j :=
  View.canon_apply_of_pieces (fun j => X j + part h d j) _ (stored_at d X h).mem j (stored_cover d X h j)

/-- The same over a first store of the whole accumulator. -/
theorem step_over_at (q : View.Piece (Elt Ideal) S1024x1024 .f32) (d : FVec Ideal S1024x1024 .bf16) (X : FVec Ideal S1024x1024 .f32) (h : FVec Ideal S8x1024x128 .bf16) (j : S1024x1024.Idx) :
    View.canon (stored d X h ++ [q]) j = X j + part h d j :=
  View.canon_append_of_piecesOf (fun j => X j + part h d j) [q] _ (stored_at d X h) j (stored_cover d X h j)

/-- The accumulator read back whole. -/
theorem read_whole (L : List (View.Piece (Elt Ideal) S1024x1024 .f32)) :
    (View.whole cc0_scratch0).readCov L (Rect.unit (s := S1024x1024) ![0, 0] S1024x1024.size inb_S1024x1024_S1024x1024_0_0).toLoadRect = View.canon L := by
  rw [View.readCov_eq_canon']
  exact View.ld_unit_zero (by funext a; fin_cases a <;> rfl) _ _

/-- The reference's gradient, at an index. -/
theorem whole_at (h : FVec Ideal S8x4096x128 .bf16) (d : FVec Ideal S4096x1024 .bf16) (j : S1024x1024.Idx) :
    val_main_v8 (F := Ideal) h d j = ∑ l : Fin 4096, h (ix3 ⟨(j 0).val / 128, Nat.div_lt_of_lt_mul (j 0).isLt⟩ l ⟨(j 0).val % 128, Nat.mod_lt _ (by decide)⟩) * d (ix2 l (j 1)) := by
  pointwise [val_main_v8, val_main_v7, val_main_v6, val_main_v3, val_main_v2, val_main_v1, val_main_v0]
  exact Finset.sum_congr rfl fun l _ => mul_comm _ _

/-- The accumulator at a first block of tokens. -/
theorem first_acc (c : Dev nD) (t : Fin cfg0.N) (h : t.val % 4 = 0) (j : S1024x1024.Idx) :
    (outsAt0 m c t.val t.isLt).2 j = 0 + part (iblk m c 0 t) (iblk m c 1 t) j := by
  rw [outsAt0_A m c t h (by omega)]
  frame_open
  simp (disch := decide) only [↓ View.readCov_skip, ↓ View.readCov_cons_toLoadRect, ↓ View.readCov_fill]
  frame_out
  rw [← start_at j]
  exact step_over_at _ (iblk m c 1 t) k0_pay4 (iblk m c 0 t) j

/-- The accumulator at a later block of tokens. -/
theorem later_acc (c : Dev nD) (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j
      + part (iblk m c 0 t) (iblk m c 1 t) j := by
  by_cases h3 : t.val % 4 = 3
  · rw [outsAt0_C m c t h h3]
    frame_out
    simp only [read_unread_whole]
    exact step_at (iblk m c 1 t) _ (iblk m c 0 t) j
  · rw [outsAt0_B m c t h h3]
    frame_out
    simp only [read_unread_whole]
    exact step_at (iblk m c 1 t) _ (iblk m c 0 t) j

/-- The last block of tokens writes the accumulator out. -/
theorem last_at (c : Dev nD) (t : Fin cfg0.N) (h : t.val % 4 = 3) (j : S1024x1024.Idx) :
    (outsAt0 m c t.val t.isLt).1 j = (outsAt0 m c t.val t.isLt).2 j := by
  rw [later_acc m c t (by omega) j, outsAt0_C m c t (by omega) h]
  frame_out
  simp only [read_unread_whole]
  refine (out_at _ j).trans ?_
  refine (congrFun (read_whole _) j).trans ?_
  exact step_at (iblk m c 1 t) (outsAt0 m c (t.val - 1) (Nat.lt_of_le_of_lt (Nat.sub_le _ _) t.isLt)).2 (iblk m c 0 t) j

/-- The result is the reference's gradient. -/
theorem gradient (c : Dev nD) : (dats m 0 c).arrAt 2 (cfgs 0).N = val_main_v8 (F := Ideal) (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  rw [after0_2]
  refine (last_at m c t h3 _).trans ?_
  rw [Pipeline.eq_sum_fin_of_reset_step_apply_of_flush (fun n h => (outsAt0 m c n h).2) 4 (fun _ => 0)
    (fun p j => part (iblk m c 0 p) (iblk m c 1 p) j)
    (first_acc m c) (later_acc m c) t h3 _, zero_add, whole_at]
  unfold part
  refine Fin.sum_mul_add_congr fun s k hl => ?_
  blk_point [iblk, V, places t, places ⟨_, Pipeline.run_point_lt_of_flush t h3 s⟩]

/-- The reference runs, and leaves its arguments as they were. -/
theorem frame_reference : Cert.quiescent_Reference9Ideal (hReference9Ideal := Cert.Reference9Ideal.Gen.facts) := fun m g _ =>
  (θ_run Cert.Reference9Ideal.defs _ _).mono (fun r h => ⟨fun c => (h c).2, Idealize.ShloMosaic.sem_eq_zero_of_no_sems (by decide) r.2⟩)
    (Cert.Reference9Ideal.Value.run (F := Ideal) m g)

/-- The claim of equality. -/
theorem algebraic : Cert.algebraic_Kernel9Ideal_Reference9Ideal (hKernel9Ideal := Cert.Kernel9Ideal.Gen.facts) (hReference9Ideal := Cert.Reference9Ideal.Gen.facts) := by
  intro m g m' g' _ hagree
  refine ⟨fun c => val_main_v8 (F := Ideal) (m ((c.tc : Thread nD τ).loc main_arg0)) (m ((c.tc : Thread nD τ).loc main_arg1)), ?_, ?_⟩
  · exact (θ_run (defs (F := Ideal)) _ _).mono (fun _ h c => ⟨((h.1 c).1 2).trans (gradient m c), h.2.1 c⟩) (θ_run_and (run_main m g) (frame m g))
  · refine (θ_run (Cert.Reference9Ideal.defs (F := Ideal)) _ _).mono (fun r h c => ?_) (Cert.Reference9Ideal.Value.run (F := Ideal) m' g')
    obtain ⟨a0, a1⟩ := hagree c
    obtain ⟨h0, hr⟩ := h c
    refine ⟨h0.trans ?_, hr⟩
    · exact (val_main_v8_eq (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))).trans (by rw [a0, a1])

end Cert.Kernel9Ideal.Mix

end
-- ==== Proof.Mix.V10.lean ====
/- The queries, keys and values of the forgetting attention: the product of the tokens with their matrix, stored a slab of heads at a time. -/
module

public import proofs.«01_k».proof.Defs
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import Idealize.ShloMosaic.Lib.Pipeline.ValueKit
public import Idealize.ShloMosaic.Lib.StableHlo.Run
public import Idealize.ShloMosaic.Adequacy
public import Idealize.ShloMosaic.Init

@[expose] public section

set_option maxRecDepth 16384

noncomputable section

namespace Cert.Kernel10Ideal.Mix

open Cert.Kernel10Ideal Cert.Kernel10Ideal.Gen Cert.Reference10Ideal.Read
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ)

/-- Where each window's block lies at a grid point. -/
theorem places : ∀ t : Fin cfg0.N, win0_0.index t = ![t.val / 3, 0] ∧ win0_1.index t = ![t.val % 3, 0] ∧ win0_2.index t = ![t.val % 3, t.val / 3, 0] :=
  (by decide +kernel : ∀ t : Fin grid0.N, _)

/-- A grid point's block is the reference's slabs there. -/
theorem tile (c : Dev nD) (t : Fin cfg0.N) (y) :
    out0_2 (iblk m c 0 t) (iblk m c 1 t) y = val_main_v5 (F := Ideal) (m ((c : Thread nD τ).loc main_arg0)) (m ((c : Thread nD τ).loc main_arg1)) (((cfg0.win 2).blk t).view.emb y) := by
  canon_tiles x h
  all_goals
    pointwise [k0_pay1, k0_pay2, k0_pay3, k0_pay4, k0_pay5, k0_pay6, k0_pay7, k0_pay8, k0_pay9, k0_pay10, k0_pay11, val_main_v5, val_main_v4, val_main_v3, val_main_v2, val_main_v1, val_main_v0]
    blk_point [iblk, V, places t]

/-- The result is the reference's. -/
theorem product (c : Dev nD) : (dats m 0 c).arrAt 2 (cfgs 0).N = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact tile m c t y

/-- The reference runs, and leaves its arguments as they were. -/
theorem frame_reference : Cert.quiescent_Reference10Ideal (hReference10Ideal := Cert.Reference10Ideal.Gen.facts) := fun m g _ =>
  (θ_run Cert.Reference10Ideal.defs _ _).mono (fun r h => ⟨fun c => (h c).2, Idealize.ShloMosaic.sem_eq_zero_of_no_sems (by decide) r.2⟩)
    (Cert.Reference10Ideal.Value.run (F := Ideal) m g)

/-- The claim of equality. -/
theorem algebraic : Cert.algebraic_Kernel10Ideal_Reference10Ideal (hKernel10Ideal := Cert.Kernel10Ideal.Gen.facts) (hReference10Ideal := Cert.Reference10Ideal.Gen.facts) := by
  intro m g m' g' _ hagree
  refine ⟨fun c => val_main_v5 (F := Ideal) (m ((c.tc : Thread nD τ).loc main_arg0)) (m ((c.tc : Thread nD τ).loc main_arg1)), ?_, ?_⟩
  · exact (θ_run (defs (F := Ideal)) _ _).mono (fun _ h c => ⟨((h.1 c).1 2).trans (product m c), h.2.1 c⟩) (θ_run_and (run_main m g) (frame m g))
  · refine (θ_run (Cert.Reference10Ideal.defs (F := Ideal)) _ _).mono (fun r h c => ?_) (Cert.Reference10Ideal.Value.run (F := Ideal) m' g')
    obtain ⟨a0, a1⟩ := hagree c
    obtain ⟨h0, hr⟩ := h c
    refine ⟨h0.trans ?_, hr⟩
    · exact (val_main_v5_eq (F := Ideal) (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1))).trans (by rw [a0, a1])

end Cert.Kernel10Ideal.Mix

end
-- ==== Proof.Mix.V11.lean ====
/- The gradient of the forgetting attention's input: the cotangents of the queries, keys, values and gates times the transposed matrix, part by part. -/
module

public import proofs.«01_k».proof.Defs
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import Idealize.ShloMosaic.Lib.Pipeline.ValueKit
public import Idealize.ShloMosaic.Lib.StableHlo.Run
public import Idealize.ShloMosaic.Adequacy
public import Idealize.ShloMosaic.Init

@[expose] public section

set_option maxRecDepth 16384

noncomputable section

namespace Cert.Kernel11Ideal.Mix

open Cert.Kernel11Ideal Cert.Kernel11Ideal.Gen Cert.Reference11Ideal.Read
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ)

/-- Where each window's block lies at a grid point. -/
theorem places : ∀ t : Fin cfg0.N, win0_0.index t = ![0, t.val / 2, 0] ∧ win0_1.index t = ![0, t.val % 2] ∧ win0_2.index t = ![0, t.val / 2, 0] ∧ win0_3.index t = ![0, t.val % 2] ∧ win0_4.index t = ![0, t.val / 2, 0] ∧ win0_5.index t = ![0, t.val % 2] ∧ win0_6.index t = ![t.val / 2, 0] ∧ win0_7.index t = ![0, t.val % 2] ∧ win0_8.index t = ![t.val / 2, t.val % 2] :=
  (by decide +kernel : ∀ t : Fin grid0.N, _)

/-- A sum over the width of the four cotangents, part by part. -/
theorem split (f : Fin 3200 → EReal) : ∑ k, f k = (((∑ k : Fin 1024, f ⟨k.val, by omega⟩) + ∑ k : Fin 1024, f ⟨1024 + k.val, by omega⟩)
    + ∑ k : Fin 1024, f ⟨2048 + k.val, by omega⟩) + ∑ k : Fin 128, f ⟨3072 + k.val, by omega⟩ := by
  refine (Fin.sum_univ_add (a := 3072) (b := 128) f).trans ?_
  refine congrArg₂ (· + ·) ?_ rfl
  refine (Fin.sum_univ_add (a := 2048) (b := 1024) _).trans ?_
  refine congrArg₂ (· + ·) ?_ rfl
  exact Fin.sum_univ_add (a := 1024) (b := 1024) _

/-- The reference's gradient at an index, part by part. -/
theorem whole_at (dq : FVec Ideal S8x4096x128 .f32) (dk dv : FVec Ideal S8x4096x128 .bf16) (dz : FVec Ideal S4096x128 .f32) (w : FVec Ideal S1024x3200 .bf16) (j : S4096x1024.Idx) :
    val_main_v12 (F := Ideal) dq dk dv dz w j
      = (((∑ k : Fin 1024, dq (ix3 ⟨k.val / 128, by omega⟩ (j 0) ⟨k.val % 128, by omega⟩) * w (ix2 (j 1) ⟨k.val, by omega⟩)) + ∑ k : Fin 1024, dk (ix3 ⟨k.val / 128, by omega⟩ (j 0) ⟨k.val % 128, by omega⟩) * w (ix2 (j 1) ⟨1024 + k.val, by omega⟩))
        + ∑ k : Fin 1024, dv (ix3 ⟨k.val / 128, by omega⟩ (j 0) ⟨k.val % 128, by omega⟩) * w (ix2 (j 1) ⟨2048 + k.val, by omega⟩))
        + ∑ k : Fin 128, dz (ix2 (j 0) k) * w (ix2 (j 1) ⟨3072 + k.val, by omega⟩) := by
  pointwise [val_main_v12, val_main_v10, val_main_v8, val_main_v7, val_main_v6, val_main_v5, val_main_v4, val_main_v3, val_main_v2, val_main_v1, val_main_v0]
  refine (split _).trans ?_
  refine congrArg₂ (· + ·) (congrArg₂ (· + ·) (congrArg₂ (· + ·) ?_ ?_) ?_) ?_
  all_goals
    refine Finset.sum_congr rfl fun k _ => ?_
    dsimp only
    blk_point []
    all_goals first | (exfalso; omega) | skip

/-- A grid point's block is the reference's there. -/
theorem tile (c : Dev nD) (t : Fin cfg0.N) (y) :
    out0_8 (iblk m c 0 t) (iblk m c 1 t) (iblk m c 2 t) (iblk m c 3 t) (iblk m c 4 t) (iblk m c 5 t) (iblk m c 6 t) (iblk m c 7 t) y = val_main_v12 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 8).blk t).view.emb y) := by
  rw [whole_at]
  frame_out
  pointwise [k0_pay1, k0_pay2, k0_pay3, k0_pay4, k0_pay5, k0_pay6]
  blk_point [iblk, V, places t]

/-- The result is the reference's. -/
theorem product (c : Dev nD) : (dats m 0 c).arrAt 8 (cfgs 0).N = val_main_v12 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  exact tile m c t y

/-- The reference runs, and leaves its arguments as they were. -/
theorem frame_reference : Cert.quiescent_Reference11Ideal (hReference11Ideal := Cert.Reference11Ideal.Gen.facts) := fun m g _ =>
  (θ_run Cert.Reference11Ideal.defs _ _).mono (fun r h => ⟨fun c => (h c).2, Idealize.ShloMosaic.sem_eq_zero_of_no_sems (by decide) r.2⟩)
    (Cert.Reference11Ideal.Value.run (F := Ideal) m g)

/-- The claim of equality. -/
theorem algebraic : Cert.algebraic_Kernel11Ideal_Reference11Ideal (hKernel11Ideal := Cert.Kernel11Ideal.Gen.facts) (hReference11Ideal := Cert.Reference11Ideal.Gen.facts) := by
  intro m g m' g' _ hagree
  refine ⟨fun c => val_main_v12 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), ?_, ?_⟩
  · exact (θ_run (defs (F := Ideal)) _ _).mono (fun _ h c => ⟨((h.1 c).1 8).trans (product m c), h.2.1 c⟩) (θ_run_and (run_main m g) (frame m g))
  · refine (θ_run (Cert.Reference11Ideal.defs (F := Ideal)) _ _).mono (fun r h c => ?_) (Cert.Reference11Ideal.Value.run (F := Ideal) m' g')
    obtain ⟨a0, a1, a2, a3, a4⟩ := hagree c
    obtain ⟨h0, hr⟩ := h c
    refine ⟨h0.trans ?_, hr⟩
    · exact (val_main_v12_eq (F := Ideal) (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4))).trans (by rw [a0, a1, a2, a3, a4])

end Cert.Kernel11Ideal.Mix

end
-- ==== Proof.Mix.V12.lean ====
/- The gradient of the forgetting attention's query weight: the slabs of heads against the tokens, a product over the tokens, added block by block. -/
module

public import proofs.«01_k».proof.Defs
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import Idealize.ShloMosaic.Lib.Pipeline.ValueKit
public import Idealize.ShloMosaic.Lib.StableHlo.Run
public import Idealize.ShloMosaic.Adequacy
public import Idealize.ShloMosaic.Init
public import Idealize.ShloMosaic.Lib.Pipeline.ReadBack

@[expose] public section

set_option maxRecDepth 16384

noncomputable section

namespace Cert.Kernel12Ideal.Mix

open Cert.Kernel12Ideal Cert.Kernel12Ideal.Gen Cert.Reference12Ideal.Read
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ)

/-- Where each window's block lies at a grid point. -/
theorem places : ∀ t : Fin cfg0.N, win0_0.index t = ![0, t.val % 4, 0] ∧ win0_1.index t = ![t.val % 4, 0] ∧ win0_2.index t = ![0, 0] :=
  (by decide +kernel : ∀ t : Fin grid0.N, _)

/-- What a block of tokens adds to the gradient: the slabs of heads against the other array. -/
def part (h : FVec Ideal S8x1024x128 .f32) (d : FVec Ideal S1024x1024 .bf16) (j : S1024x1024.Idx) : EReal :=
  ∑ k : Fin 1024, h (ix3 ⟨(j 0).val / 128, Nat.div_lt_of_lt_mul (j 0).isLt⟩ k ⟨(j 0).val % 128, Nat.mod_lt _ (by decide)⟩) * d (ix2 k (j 1))

/-- The accumulator starts at zero. -/
theorem start_at (j : S1024x1024.Idx) : k0_pay4 (F := Ideal) j = 0 := by pointwise [k0_pay4]

/-- The accumulator is written out as it is. -/
theorem out_at (X : FVec Ideal S1024x1024 .f32) (j : S1024x1024.Idx) : k0_pay3 (F := Ideal) X j = X j := by pointwise [k0_pay3]

/-- What a block of tokens stores into the accumulator, a slab of heads at a time, last first. -/
abbrev stored (d : FVec Ideal S1024x1024 .bf16) (X : FVec Ideal S1024x1024 .f32) (h : FVec Ideal S8x1024x128 .f32) : List (View.Piece (Elt Ideal) S1024x1024 .f32) :=
  [⟨Rect.unit (s := S1024x1024) ![896, 0] S128x1024.size inb_S1024x1024_S128x1024_896_0, k0_pay2 (F := Ideal) d (View.ld X (Rect.unit (s := S1024x1024) ![896, 0] S128x1024.size inb_S1024x1024_S128x1024_896_0)) (View.ld h (Rect.unit (s := S8x1024x128) ![7, 0, 0] S1x1024x128.size inb_S8x1024x128_S1x1024x128_7_0_0))⟩,
    ⟨Rect.unit (s := S1024x1024) ![768, 0] S128x1024.size inb_S1024x1024_S128x1024_768_0, k0_pay1 (F := Ideal) d (View.ld X (Rect.unit (s := S1024x1024) ![768, 0] S128x1024.size inb_S1024x1024_S128x1024_768_0)) (View.ld h (Rect.unit (s := S8x1024x128) ![6, 0, 0] S1x1024x128.size inb_S8x1024x128_S1x1024x128_6_0_0))⟩,
    ⟨Rect.unit (s := S1024x1024) ![640, 0] S128x1024.size inb_S1024x1024_S128x1024_640_0, k0_pay11 (F := Ideal) d (View.ld X (Rect.unit (s := S1024x1024) ![640, 0] S128x1024.size inb_S1024x1024_S128x1024_640_0)) (View.ld h (Rect.unit (s := S8x1024x128) ![5, 0, 0] S1x1024x128.size inb_S8x1024x128_S1x1024x128_5_0_0))⟩,
    ⟨Rect.unit (s := S1024x1024) ![512, 0] S128x1024.size inb_S1024x1024_S128x1024_512_0, k0_pay10 (F := Ideal) d (View.ld X (Rect.unit (s := S1024x1024) ![512, 0] S128x1024.size inb_S1024x1024_S128x1024_512_0)) (View.ld h (Rect.unit (s := S8x1024x128) ![4, 0, 0] S1x1024x128.size inb_S8x1024x128_S1x1024x128_4_0_0))⟩,
    ⟨Rect.unit (s := S1024x1024) ![384, 0] S128x1024.size inb_S1024x1024_S128x1024_384_0, k0_pay9 (F := Ideal) d (View.ld X (Rect.unit (s := S1024x1024) ![384, 0] S128x1024.size inb_S1024x1024_S128x1024_384_0)) (View.ld h (Rect.unit (s := S8x1024x128) ![3, 0, 0] S1x1024x128.size inb_S8x1024x128_S1x1024x128_3_0_0))⟩,
    ⟨Rect.unit (s := S1024x1024) ![256, 0] S128x1024.size inb_S1024x1024_S128x1024_256_0, k0_pay8 (F := Ideal) (k0_pay7 (F := Ideal) d (View.ld X (Rect.unit (s := S1024x1024) ![256, 0] S128x1024.size inb_S1024x1024_S128x1024_256_0)) (View.ld h (Rect.unit (s := S8x1024x128) ![2, 0, 0] S1x1024x128.size inb_S8x1024x128_S1x1024x128_2_0_0)))⟩,
    ⟨Rect.unit (s := S1024x1024) ![128, 0] S128x1024.size inb_S1024x1024_S128x1024_128_0, k0_pay6 (F := Ideal) d (View.ld X (Rect.unit (s := S1024x1024) ![128, 0] S128x1024.size inb_S1024x1024_S128x1024_128_0)) (View.ld h (Rect.unit (s := S8x1024x128) ![1, 0, 0] S1x1024x128.size inb_S8x1024x128_S1x1024x128_1_0_0))⟩,
    ⟨Rect.unit (s := S1024x1024) ![0, 0] S128x1024.size inb_S1024x1024_S128x1024_0_0, k0_pay5 (F := Ideal) d (View.ld X (Rect.unit (s := S1024x1024) ![0, 0] S128x1024.size inb_S1024x1024_S128x1024_0_0)) (View.ld h (Rect.unit (s := S8x1024x128) ![0, 0, 0] S1x1024x128.size inb_S8x1024x128_S1x1024x128_0_0_0))⟩]

/-- Each of the stores adds its slab's product. -/
theorem stored_at (d : FVec Ideal S1024x1024 .bf16) (X : FVec Ideal S1024x1024 .f32) (h : FVec Ideal S8x1024x128 .f32) :
    View.PiecesOf (fun j => X j + part h d j) (stored d X h) := by
  refine ⟨?_, ?_, ?_, ?_, ?_, ?_, ?_, ?_, trivial⟩
  all_goals
    intro x
    change S128x1024.Idx at x
    unfold part
    pointwise [k0_pay1, k0_pay2, k0_pay3, k0_pay4, k0_pay5, k0_pay6, k0_pay7, k0_pay8, k0_pay9, k0_pay10, k0_pay11]
    blk_point []

/-- They fill the accumulator. -/
theorem stored_cover (d : FVec Ideal S1024x1024 .bf16) (X : FVec Ideal S1024x1024 .f32) (h : FVec Ideal S8x1024x128 .f32) (y : S1024x1024.Idx) :
    ∃ p ∈ stored d X h, y ∈ p.1.set := View.cover_of_tiled_head _ _ _ (by rfl) y

/-- A block of tokens adds its product to the accumulator. -/
theorem step_at (d : FVec Ideal S1024x1024 .bf16) (X : FVec Ideal S1024x1024 .f32) (h : FVec Ideal S8x1024x128 .f32) (j : S1024x1024.Idx) :
    View.canon (stored d X h) j = X j + part h d j :=
  View.canon_apply_of_pieces (fun j => X j + part h d j) _ (stored_at d X h).mem j (stored_cover d X h j)

/-- The same over a first store of the whole accumulator. -/
theorem step_over_at (q : View.Piece (Elt Ideal) S1024x1024 .f32) (d : FVec Ideal S1024x1024 .bf16) (X : FVec Ideal S1024x1024 .f32) (h : FVec Ideal S8x1024x128 .f32) (j : S1024x1024.Idx) :
    View.canon (stored d X h ++ [q]) j = X j + part h d j :=
  View.canon_append_of_piecesOf (fun j => X j + part h d j) [q] _ (stored_at d X h) j (stored_cover d X h j)

/-- The accumulator read back whole. -/
theorem read_whole (L : List (View.Piece (Elt Ideal) S1024x1024 .f32)) :
    (View.whole cc0_scratch0).readCov L (Rect.unit (s := S1024x1024) ![0, 0] S1024x1024.size inb_S1024x1024_S1024x1024_0_0).toLoadRect = View.canon L := by
  rw [View.readCov_eq_canon']
  exact View.ld_unit_zero (by funext a; fin_cases a <;> rfl) _ _

/-- The reference's gradient, at an index. -/
theorem whole_at (h : FVec Ideal S8x4096x128 .f32) (d : FVec Ideal S4096x1024 .bf16) (j : S1024x1024.Idx) :
    val_main_v7 (F := Ideal) h d j = ∑ l : Fin 4096, h (ix3 ⟨(j 0).val / 128, Nat.div_lt_of_lt_mul (j 0).isLt⟩ l ⟨(j 0).val % 128, Nat.mod_lt _ (by decide)⟩) * d (ix2 l (j 1)) := by
  pointwise [val_main_v7, val_main_v6, val_main_v5, val_main_v2, val_main_v1, val_main_v0]
  exact Finset.sum_congr rfl fun l _ => mul_comm _ _

/-- The accumulator at a first block of tokens. -/
theorem first_acc (c : Dev nD) (t : Fin cfg0.N) (h : t.val % 4 = 0) (j : S1024x1024.Idx) :
    (outsAt0 m c t.val t.isLt).2 j = 0 + part (iblk m c 0 t) (iblk m c 1 t) j := by
  rw [outsAt0_A m c t h (by omega)]
  frame_open
  simp (disch := decide) only [↓ View.readCov_skip, ↓ View.readCov_cons_toLoadRect, ↓ View.readCov_fill]
  frame_out
  rw [← start_at j]
  exact step_over_at _ (iblk m c 1 t) k0_pay4 (iblk m c 0 t) j

/-- The accumulator at a later block of tokens. -/
theorem later_acc (c : Dev nD) (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j
      + part (iblk m c 0 t) (iblk m c 1 t) j := by
  by_cases h3 : t.val % 4 = 3
  · rw [outsAt0_C m c t h h3]
    frame_out
    simp only [read_unread_whole]
    exact step_at (iblk m c 1 t) _ (iblk m c 0 t) j
  · rw [outsAt0_B m c t h h3]
    frame_out
    simp only [read_unread_whole]
    exact step_at (iblk m c 1 t) _ (iblk m c 0 t) j

/-- The last block of tokens writes the accumulator out. -/
theorem last_at (c : Dev nD) (t : Fin cfg0.N) (h : t.val % 4 = 3) (j : S1024x1024.Idx) :
    (outsAt0 m c t.val t.isLt).1 j = (outsAt0 m c t.val t.isLt).2 j := by
  rw [later_acc m c t (by omega) j, outsAt0_C m c t (by omega) h]
  frame_out
  simp only [read_unread_whole]
  refine (out_at _ j).trans ?_
  refine (congrFun (read_whole _) j).trans ?_
  exact step_at (iblk m c 1 t) (outsAt0 m c (t.val - 1) (Nat.lt_of_le_of_lt (Nat.sub_le _ _) t.isLt)).2 (iblk m c 0 t) j

/-- The result is the reference's gradient. -/
theorem gradient (c : Dev nD) : (dats m 0 c).arrAt 2 (cfgs 0).N = val_main_v7 (F := Ideal) (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  rw [after0_2]
  refine (last_at m c t h3 _).trans ?_
  rw [Pipeline.eq_sum_fin_of_reset_step_apply_of_flush (fun n h => (outsAt0 m c n h).2) 4 (fun _ => 0)
    (fun p j => part (iblk m c 0 p) (iblk m c 1 p) j)
    (first_acc m c) (later_acc m c) t h3 _, zero_add, whole_at]
  unfold part
  refine Fin.sum_mul_add_congr fun s k hl => ?_
  blk_point [iblk, V, places t, places ⟨_, Pipeline.run_point_lt_of_flush t h3 s⟩]

/-- The reference runs, and leaves its arguments as they were. -/
theorem frame_reference : Cert.quiescent_Reference12Ideal (hReference12Ideal := Cert.Reference12Ideal.Gen.facts) := fun m g _ =>
  (θ_run Cert.Reference12Ideal.defs _ _).mono (fun r h => ⟨fun c => (h c).2, Idealize.ShloMosaic.sem_eq_zero_of_no_sems (by decide) r.2⟩)
    (Cert.Reference12Ideal.Value.run (F := Ideal) m g)

/-- The claim of equality. -/
theorem algebraic : Cert.algebraic_Kernel12Ideal_Reference12Ideal (hKernel12Ideal := Cert.Kernel12Ideal.Gen.facts) (hReference12Ideal := Cert.Reference12Ideal.Gen.facts) := by
  intro m g m' g' _ hagree
  refine ⟨fun c => val_main_v7 (F := Ideal) (m ((c.tc : Thread nD τ).loc main_arg0)) (m ((c.tc : Thread nD τ).loc main_arg1)), ?_, ?_⟩
  · exact (θ_run (defs (F := Ideal)) _ _).mono (fun _ h c => ⟨((h.1 c).1 2).trans (gradient m c), h.2.1 c⟩) (θ_run_and (run_main m g) (frame m g))
  · refine (θ_run (Cert.Reference12Ideal.defs (F := Ideal)) _ _).mono (fun r h c => ?_) (Cert.Reference12Ideal.Value.run (F := Ideal) m' g')
    obtain ⟨a0, a1⟩ := hagree c
    obtain ⟨h0, hr⟩ := h c
    refine ⟨h0.trans ?_, hr⟩
    · exact (val_main_v7_eq (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1))).trans (by rw [a0, a1])

end Cert.Kernel12Ideal.Mix

end
-- ==== Proof.Mix.V13.lean ====
/- The latent attention's keys: the product of the compressed tokens with their matrix, stored a slab of heads at a time. -/
module

public import proofs.«01_k».proof.Defs
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import Idealize.ShloMosaic.Lib.Pipeline.ValueKit
public import Idealize.ShloMosaic.Lib.StableHlo.Run
public import Idealize.ShloMosaic.Adequacy
public import Idealize.ShloMosaic.Init

@[expose] public section

set_option maxRecDepth 16384

noncomputable section

namespace Cert.Kernel13Ideal.Mix

open Cert.Kernel13Ideal Cert.Kernel13Ideal.Gen Cert.Reference13Ideal.Read
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ)

/-- Where each window's block lies at a grid point. -/
theorem places : ∀ t : Fin cfg0.N, win0_0.index t = ![t.val, 0] ∧ win0_1.index t = ![0, 0] ∧ win0_2.index t = ![0, t.val, 0] :=
  (by decide +kernel : ∀ t : Fin grid0.N, _)

/-- A grid point's block is the reference's slabs there. -/
theorem tile (c : Dev nD) (t : Fin cfg0.N) (y) :
    out0_2 (iblk m c 0 t) (iblk m c 1 t) y = val_main_v5 (F := Ideal) (m ((c : Thread nD τ).loc main_arg0)) (m ((c : Thread nD τ).loc main_arg1)) (((cfg0.win 2).blk t).view.emb y) := by
  canon_tiles x h
  all_goals
    pointwise [k0_pay1, k0_pay2, k0_pay3, k0_pay4, k0_pay5, k0_pay6, k0_pay7, k0_pay8, k0_pay9, k0_pay10, k0_pay11, val_main_v5, val_main_v4, val_main_v3, val_main_v2, val_main_v1, val_main_v0]
    blk_point [iblk, V, places t]

/-- The result is the reference's. -/
theorem product (c : Dev nD) : (dats m 0 c).arrAt 2 (cfgs 0).N = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact tile m c t y

/-- The reference runs, and leaves its arguments as they were. -/
theorem frame_reference : Cert.quiescent_Reference13Ideal (hReference13Ideal := Cert.Reference13Ideal.Gen.facts) := fun m g _ =>
  (θ_run Cert.Reference13Ideal.defs _ _).mono (fun r h => ⟨fun c => (h c).2, Idealize.ShloMosaic.sem_eq_zero_of_no_sems (by decide) r.2⟩)
    (Cert.Reference13Ideal.Value.run (F := Ideal) m g)

/-- The claim of equality. -/
theorem algebraic : Cert.algebraic_Kernel13Ideal_Reference13Ideal (hKernel13Ideal := Cert.Kernel13Ideal.Gen.facts) (hReference13Ideal := Cert.Reference13Ideal.Gen.facts) := by
  intro m g m' g' _ hagree
  refine ⟨fun c => val_main_v5 (F := Ideal) (m ((c.tc : Thread nD τ).loc main_arg0)) (m ((c.tc : Thread nD τ).loc main_arg1)), ?_, ?_⟩
  · exact (θ_run (defs (F := Ideal)) _ _).mono (fun _ h c => ⟨((h.1 c).1 2).trans (product m c), h.2.1 c⟩) (θ_run_and (run_main m g) (frame m g))
  · refine (θ_run (Cert.Reference13Ideal.defs (F := Ideal)) _ _).mono (fun r h c => ?_) (Cert.Reference13Ideal.Value.run (F := Ideal) m' g')
    obtain ⟨a0, a1⟩ := hagree c
    obtain ⟨h0, hr⟩ := h c
    refine ⟨h0.trans ?_, hr⟩
    · exact (val_main_v5_eq (F := Ideal) (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1))).trans (by rw [a0, a1])

end Cert.Kernel13Ideal.Mix

end
-- ==== Proof.Mix.V14.lean ====
/- The latent attention's first projection: the product of the normed tokens with its matrix. -/
module

public import proofs.«01_k».proof.Defs
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import Idealize.ShloMosaic.Lib.Pipeline.ValueKit
public import Idealize.ShloMosaic.Lib.StableHlo.Run
public import Idealize.ShloMosaic.Adequacy
public import Idealize.ShloMosaic.Init

@[expose] public section

set_option maxRecDepth 16384

noncomputable section

namespace Cert.Kernel14Ideal.Mix

open Cert.Kernel14Ideal Cert.Kernel14Ideal.Gen Cert.Reference14Ideal.Read
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ)

/-- Where each window's block lies at a grid point. -/
theorem places : ∀ t : Fin cfg0.N, win0_0.index t = ![t.val, 0] ∧ win0_1.index t = ![0, 0] ∧ win0_2.index t = ![t.val, 0] :=
  (by decide +kernel : ∀ t : Fin grid0.N, _)

/-- A grid point's tile is the reference's product there. -/
theorem tile (c : Dev nD) (t : Fin cfg0.N) (y) :
    k0_pay1 (iblk m c 0 t) (iblk m c 1 t) y = val_main_v2 (F := Ideal) (m ((c : Thread nD τ).loc main_arg0)) (m ((c : Thread nD τ).loc main_arg1)) (((cfg0.win 2).blk t).view.emb y) := by
  pointwise [k0_pay1, val_main_v2, val_main_v1, val_main_v0]
  blk_point [iblk, V, places t]

/-- The result is the reference's product. -/
theorem product (c : Dev nD) : (dats m 0 c).arrAt 2 (cfgs 0).N = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  exact tile m c t y

/-- The reference runs, and leaves its arguments as they were. -/
theorem frame_reference : Cert.quiescent_Reference14Ideal (hReference14Ideal := Cert.Reference14Ideal.Gen.facts) := fun m g _ =>
  (θ_run Cert.Reference14Ideal.defs _ _).mono (fun r h => ⟨fun c => (h c).2, Idealize.ShloMosaic.sem_eq_zero_of_no_sems (by decide) r.2⟩)
    (Cert.Reference14Ideal.Value.run (F := Ideal) m g)

/-- The claim of equality. -/
theorem algebraic : Cert.algebraic_Kernel14Ideal_Reference14Ideal (hKernel14Ideal := Cert.Kernel14Ideal.Gen.facts) (hReference14Ideal := Cert.Reference14Ideal.Gen.facts) := by
  intro m g m' g' _ hagree
  refine ⟨fun c => val_main_v2 (F := Ideal) (m ((c.tc : Thread nD τ).loc main_arg0)) (m ((c.tc : Thread nD τ).loc main_arg1)), ?_, ?_⟩
  · exact (θ_run (defs (F := Ideal)) _ _).mono (fun _ h c => ⟨((h.1 c).1 2).trans (product m c), h.2.1 c⟩) (θ_run_and (run_main m g) (frame m g))
  · refine (θ_run (Cert.Reference14Ideal.defs (F := Ideal)) _ _).mono (fun r h c => ?_) (Cert.Reference14Ideal.Value.run (F := Ideal) m' g')
    obtain ⟨a0, a1⟩ := hagree c
    obtain ⟨h0, hr⟩ := h c
    refine ⟨h0.trans ?_, hr⟩
    · exact (val_main_v2_eq (F := Ideal) (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1))).trans (by rw [a0, a1])

end Cert.Kernel14Ideal.Mix

end
-- ==== Proof.Mix.V15.lean ====
/- The gradient of the latent attention's input: the product of the first projection's cotangent with the transposed matrix. -/
module

public import proofs.«01_k».proof.Defs
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import Idealize.ShloMosaic.Lib.Pipeline.ValueKit
public import Idealize.ShloMosaic.Lib.StableHlo.Run
public import Idealize.ShloMosaic.Adequacy
public import Idealize.ShloMosaic.Init

@[expose] public section

set_option maxRecDepth 16384

noncomputable section

namespace Cert.Kernel15Ideal.Mix

open Cert.Kernel15Ideal Cert.Kernel15Ideal.Gen Cert.Reference15Ideal.Read
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ)

/-- Where each window's block lies at a grid point. -/
theorem places : ∀ t : Fin cfg0.N, win0_0.index t = ![t.val, 0] ∧ win0_1.index t = ![0, 0] ∧ win0_2.index t = ![t.val, 0] :=
  (by decide +kernel : ∀ t : Fin grid0.N, _)

/-- A grid point's tile is the reference's product there. -/
theorem tile (c : Dev nD) (t : Fin cfg0.N) (y) :
    k0_pay1 (iblk m c 0 t) (iblk m c 1 t) y = val_main_v4 (F := Ideal) (m ((c : Thread nD τ).loc main_arg0)) (m ((c : Thread nD τ).loc main_arg1)) (((cfg0.win 2).blk t).view.emb y) := by
  pointwise [k0_pay1, val_main_v4, val_main_v3, val_main_v1]
  blk_point [iblk, V, places t]

/-- The result is the reference's product. -/
theorem product (c : Dev nD) : (dats m 0 c).arrAt 2 (cfgs 0).N = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  exact tile m c t y

/-- The reference runs, and leaves its arguments as they were. -/
theorem frame_reference : Cert.quiescent_Reference15Ideal (hReference15Ideal := Cert.Reference15Ideal.Gen.facts) := fun m g _ =>
  (θ_run Cert.Reference15Ideal.defs _ _).mono (fun r h => ⟨fun c => (h c).2, Idealize.ShloMosaic.sem_eq_zero_of_no_sems (by decide) r.2⟩)
    (Cert.Reference15Ideal.Value.run (F := Ideal) m g)

/-- The claim of equality. -/
theorem algebraic : Cert.algebraic_Kernel15Ideal_Reference15Ideal (hKernel15Ideal := Cert.Kernel15Ideal.Gen.facts) (hReference15Ideal := Cert.Reference15Ideal.Gen.facts) := by
  intro m g m' g' _ hagree
  refine ⟨fun c => val_main_v4 (F := Ideal) (m ((c.tc : Thread nD τ).loc main_arg0)) (m ((c.tc : Thread nD τ).loc main_arg1)), ?_, ?_⟩
  · exact (θ_run (defs (F := Ideal)) _ _).mono (fun _ h c => ⟨((h.1 c).1 2).trans (product m c), h.2.1 c⟩) (θ_run_and (run_main m g) (frame m g))
  · refine (θ_run (Cert.Reference15Ideal.defs (F := Ideal)) _ _).mono (fun r h c => ?_) (Cert.Reference15Ideal.Value.run (F := Ideal) m' g')
    obtain ⟨a0, a1⟩ := hagree c
    obtain ⟨h0, hr⟩ := h c
    refine ⟨h0.trans ?_, hr⟩
    · exact (val_main_v4_eq (F := Ideal) (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1))).trans (by rw [a0, a1])

end Cert.Kernel15Ideal.Mix

end
-- ==== Proof.Mix.V16.lean ====
/- The gradient of the matrix of the latent attention's first projection: a product over the tokens, added block by block. -/
module

public import proofs.«01_k».proof.Defs
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import Idealize.ShloMosaic.Lib.Pipeline.ValueKit
public import Idealize.ShloMosaic.Lib.StableHlo.Run
public import Idealize.ShloMosaic.Adequacy
public import Idealize.ShloMosaic.Init

@[expose] public section

set_option maxRecDepth 16384

noncomputable section

namespace Cert.Kernel16Ideal.Mix

open Cert.Kernel16Ideal Cert.Kernel16Ideal.Gen Cert.Reference16Ideal.Read
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ)

/-- Where each window's block lies at a grid point. -/
theorem places : ∀ t : Fin cfg0.N, win0_0.index t = ![t.val % 4, 0] ∧ win0_1.index t = ![t.val % 4, 0] ∧ win0_2.index t = ![0, 0] :=
  (by decide +kernel : ∀ t : Fin grid0.N, _)

/-- What a block of tokens adds to the gradient. -/
def part (h : FVec Ideal S1024x1024 .bf16) (d : FVec Ideal S1024x640 .bf16) (j : S1024x640.Idx) : EReal :=
  ∑ k : Fin 1024, h (ix2 k (j 0)) * d (ix2 k (j 1))

/-- The accumulator starts at zero. -/
theorem start_at (j : S1024x640.Idx) : k0_pay1 (F := Ideal) j = 0 := by pointwise [k0_pay1]

/-- A block of tokens adds its product to the accumulator. -/
theorem step_at (d : FVec Ideal S1024x640 .bf16) (acc : FVec Ideal S1024x640 .f32) (h : FVec Ideal S1024x1024 .bf16) (j : S1024x640.Idx) :
    k0_pay2 (F := Ideal) d acc h j = acc j + part h d j := by
  unfold part
  pointwise [k0_pay2]

/-- The reference's gradient, at an index. -/
theorem whole_at (h : FVec Ideal S4096x1024 .bf16) (d : FVec Ideal S4096x640 .bf16) (j : S1024x640.Idx) :
    val_main_v6 (F := Ideal) h d j = ∑ l : Fin 4096, h (ix2 l (j 0)) * d (ix2 l (j 1)) := by
  pointwise [val_main_v6, val_main_v5, val_main_v4, val_main_v3, val_main_v1]
  exact Finset.sum_congr rfl fun l _ => mul_comm _ _

/-- The last block of tokens writes the accumulator out. -/
theorem last_at (c : Dev nD) (t : Fin cfg0.N) (h : t.val % 4 = 3) (j : S1024x640.Idx) :
    (outsAt0 m c t.val t.isLt).1 j = (outsAt0 m c t.val t.isLt).2 j := by
  rw [outsAt0_C m c t (by omega) h]
  frame_out
  pointwise [k0_pay3]

/-- The accumulator at a first block of tokens. -/
theorem first_acc (c : Dev nD) (t : Fin cfg0.N) (h : t.val % 4 = 0) (j : S1024x640.Idx) :
    (outsAt0 m c t.val t.isLt).2 j = 0 + part (iblk m c 0 t) (iblk m c 1 t) j := by
  rw [outsAt0_A m c t h (by omega)]
  frame_out
  rw [step_at, start_at]

/-- The accumulator at a later block of tokens. -/
theorem later_acc (c : Dev nD) (t : Fin cfg0.N) (h : ¬t.val % 4 = 0) (j : S1024x640.Idx) :
    (outsAt0 m c t.val t.isLt).2 j = (outsAt0 m c (t.val - 1) (Nat.lt_of_le_of_lt (Nat.sub_le _ _) t.isLt)).2 j
      + part (iblk m c 0 t) (iblk m c 1 t) j := by
  by_cases h3 : t.val % 4 = 3
  · rw [outsAt0_C m c t h h3]
    frame_out
    rw [step_at]
    exact congrArg (· + part (iblk m c 0 t) (iblk m c 1 t) j) (congrFun ((Memref.isWhole_whole cc0_scratch0).read_unread _) j)
  · rw [outsAt0_B m c t h h3]
    frame_out
    rw [step_at]
    exact congrArg (· + part (iblk m c 0 t) (iblk m c 1 t) j) (congrFun ((Memref.isWhole_whole cc0_scratch0).read_unread _) j)

/-- The result is the reference's gradient. -/
theorem gradient (c : Dev nD) : (dats m 0 c).arrAt 2 (cfgs 0).N = val_main_v6 (F := Ideal) (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  rw [after0_2]
  refine (last_at m c t h3 _).trans ?_
  rw [Pipeline.eq_sum_fin_of_reset_step_apply_of_flush (fun n h => (outsAt0 m c n h).2) 4 (fun _ => 0)
    (fun p j => part (iblk m c 0 p) (iblk m c 1 p) j)
    (first_acc m c) (later_acc m c) t h3 _, zero_add, whole_at]
  unfold part
  refine Fin.sum_mul_add_congr fun s k hl => ?_
  blk_point [iblk, V, places t, places ⟨_, Pipeline.run_point_lt_of_flush t h3 s⟩]

/-- The reference runs, and leaves its arguments as they were. -/
theorem frame_reference : Cert.quiescent_Reference16Ideal (hReference16Ideal := Cert.Reference16Ideal.Gen.facts) := fun m g _ =>
  (θ_run Cert.Reference16Ideal.defs _ _).mono (fun r h => ⟨fun c => (h c).2, Idealize.ShloMosaic.sem_eq_zero_of_no_sems (by decide) r.2⟩)
    (Cert.Reference16Ideal.Value.run (F := Ideal) m g)

/-- The claim of equality. -/
theorem algebraic : Cert.algebraic_Kernel16Ideal_Reference16Ideal (hKernel16Ideal := Cert.Kernel16Ideal.Gen.facts) (hReference16Ideal := Cert.Reference16Ideal.Gen.facts) := by
  intro m g m' g' _ hagree
  refine ⟨fun c => val_main_v6 (F := Ideal) (m ((c.tc : Thread nD τ).loc main_arg0)) (m ((c.tc : Thread nD τ).loc main_arg1)), ?_, ?_⟩
  · exact (θ_run (defs (F := Ideal)) _ _).mono (fun _ h c => ⟨((h.1 c).1 2).trans (gradient m c), h.2.1 c⟩) (θ_run_and (run_main m g) (frame m g))
  · refine (θ_run (Cert.Reference16Ideal.defs (F := Ideal)) _ _).mono (fun r h c => ?_) (Cert.Reference16Ideal.Value.run (F := Ideal) m' g')
    obtain ⟨a0, a1⟩ := hagree c
    obtain ⟨h0, hr⟩ := h c
    refine ⟨h0.trans ?_, hr⟩
    · exact (val_main_v6_eq (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1))).trans (by rw [a0, a1])

end Cert.Kernel16Ideal.Mix

end
-- ==== Proof.lean ====
module

public import proofs.«01_k».proof.Defs
public import proofs.«01_k».proof.Proof.Fox.Frames
public import proofs.«01_k».proof.Proof.Fox.Equal
public import proofs.«01_k».proof.Proof.Ffn.V2
public import proofs.«01_k».proof.Proof.Ffn.V3
public import proofs.«01_k».proof.Proof.Ffn.V4
public import proofs.«01_k».proof.Proof.Ffn.V5
public import proofs.«01_k».proof.Proof.Ffn.V6
public import proofs.«01_k».proof.Proof.Mix.V7
public import proofs.«01_k».proof.Proof.Mix.V8
public import proofs.«01_k».proof.Proof.Mix.V9
public import proofs.«01_k».proof.Proof.Mix.V10
public import proofs.«01_k».proof.Proof.Mix.V11
public import proofs.«01_k».proof.Proof.Mix.V12
public import proofs.«01_k».proof.Proof.Mix.V13
public import proofs.«01_k».proof.Proof.Mix.V14
public import proofs.«01_k».proof.Proof.Mix.V15
public import proofs.«01_k».proof.Proof.Mix.V16
public import proofs.«01_k».proof.Proof.Gen.Kernel
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The shape facts the precondition's function states. -/
theorem facts_finite : Cert.Pre_finite.Facts := ⟨by decide, by decide⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  facts_finite, Cert.Kernel4Ideal.Ffn.facts_finite4,
  frame_kernel, fun m g _ => Cert.KernelIdeal.Fox.frame_run m g, fun m g _ => Cert.KernelIdeal.Fox.frame_run m g,
  fun m g _ => frame_reference m g, fun m g _ => frame_reference m g,
  fun m g _ => Cert.Kernel2.Gen.frame m g, fun m g _ => Cert.Kernel2Ideal.Gen.frame m g, Cert.Kernel2Ideal.Ffn.frame_reference,
  fun m g _ => Cert.Kernel3.Gen.frame m g, fun m g _ => Cert.Kernel3Ideal.Gen.frame m g, Cert.Kernel3Ideal.Ffn.frame_reference,
  fun m g _ => Cert.Kernel4.Gen.frame m g, fun m g _ => Cert.Kernel4Ideal.Gen.frame m g, fun m g _ => Cert.Kernel4Ideal.Gen.frame m g, Cert.Kernel4Ideal.Ffn.frame_reference, fun m g _ => Cert.Kernel4Ideal.Ffn.frame_reference m g trivial,
  fun m g _ => Cert.Kernel5.Gen.frame m g, fun m g _ => Cert.Kernel5Ideal.Gen.frame m g, Cert.Kernel5Ideal.Ffn.frame_reference,
  fun m g _ => Cert.Kernel6.Gen.frame m g, fun m g _ => Cert.Kernel6Ideal.Gen.frame m g, Cert.Kernel6Ideal.Ffn.frame_reference,
  fun m g _ => Cert.Kernel7.Gen.frame m g, fun m g _ => Cert.Kernel7Ideal.Gen.frame m g, Cert.Kernel7Ideal.Mix.frame_reference,
  fun m g _ => Cert.Kernel8.Gen.frame m g, fun m g _ => Cert.Kernel8Ideal.Gen.frame m g, Cert.Kernel8Ideal.Mix.frame_reference,
  fun m g _ => Cert.Kernel9.Gen.frame m g, fun m g _ => Cert.Kernel9Ideal.Gen.frame m g, Cert.Kernel9Ideal.Mix.frame_reference,
  fun m g _ => Cert.Kernel10.Gen.frame m g, fun m g _ => Cert.Kernel10Ideal.Gen.frame m g, Cert.Kernel10Ideal.Mix.frame_reference,
  fun m g _ => Cert.Kernel11.Gen.frame m g, fun m g _ => Cert.Kernel11Ideal.Gen.frame m g, Cert.Kernel11Ideal.Mix.frame_reference,
  fun m g _ => Cert.Kernel12.Gen.frame m g, fun m g _ => Cert.Kernel12Ideal.Gen.frame m g, Cert.Kernel12Ideal.Mix.frame_reference,
  fun m g _ => Cert.Kernel13.Gen.frame m g, fun m g _ => Cert.Kernel13Ideal.Gen.frame m g, Cert.Kernel13Ideal.Mix.frame_reference,
  fun m g _ => Cert.Kernel14.Gen.frame m g, fun m g _ => Cert.Kernel14Ideal.Gen.frame m g, Cert.Kernel14Ideal.Mix.frame_reference,
  fun m g _ => Cert.Kernel15.Gen.frame m g, fun m g _ => Cert.Kernel15Ideal.Gen.frame m g, Cert.Kernel15Ideal.Mix.frame_reference,
  fun m g _ => Cert.Kernel16.Gen.frame m g, fun m g _ => Cert.Kernel16Ideal.Gen.frame m g, Cert.Kernel16Ideal.Mix.frame_reference,
  trivial, Cert.KernelIdeal.Fox.algebraic,
  trivial, Cert.Kernel2Ideal.Ffn.algebraic,
  trivial, Cert.Kernel3Ideal.Ffn.algebraic,
  trivial, Cert.Kernel4Ideal.Ffn.algebraic,
  trivial, Cert.Kernel5Ideal.Ffn.algebraic,
  trivial, Cert.Kernel6Ideal.Ffn.algebraic,
  trivial, Cert.Kernel7Ideal.Mix.algebraic,
  trivial, Cert.Kernel8Ideal.Mix.algebraic,
  trivial, Cert.Kernel9Ideal.Mix.algebraic,
  trivial, Cert.Kernel10Ideal.Mix.algebraic,
  trivial, Cert.Kernel11Ideal.Mix.algebraic,
  trivial, Cert.Kernel12Ideal.Mix.algebraic,
  trivial, Cert.Kernel13Ideal.Mix.algebraic,
  trivial, Cert.Kernel14Ideal.Mix.algebraic,
  trivial, Cert.Kernel15Ideal.Mix.algebraic,
  trivial, Cert.Kernel16Ideal.Mix.algebraic⟩

end Cert.Proof

end
